-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v55) = v2 c
          ∧ r.2.mem ((c.tc : Thread Cert.Reference7Ideal.nD Cert.Reference7Ideal.τ).loc Cert.Reference7Ideal.main_v56) = v3 c
          ∧ r.2.mem ((c.tc : Thread Cert.Reference7Ideal.nD Cert.Reference7Ideal.τ).loc Cert.Reference7Ideal.main_v59) = v4 c
          ∧ r.2.mem ((c.tc : Thread Cert.Reference7Ideal.nD Cert.Reference7Ideal.τ).loc Cert.Reference7Ideal.main_v60) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x2304x512 : Shape := ⟨3, ![2, 2304, 512]⟩
abbrev S8x15x31 : Shape := ⟨3, ![8, 15, 31]⟩
abbrev S2x2048x512 : Shape := ⟨3, ![2, 2048, 512]⟩
abbrev S_ : Shape := ⟨0, ![]⟩

class Facts : Prop where
  bitsLt_bf16_f32 : FTy.bits .bf16 < FTy.bits .f32
  bcast_S_S2x2304x512 : S_.BroadcastsInDim S2x2304x512 (![] : Fin 0 → Fin S2x2304x512.rank)
  bcast_S_S8x15x31 : S_.BroadcastsInDim S8x15x31 (![] : Fin 0 → Fin S8x15x31.rank)

variable [Facts]

def fn {F : FTy → Type} [FloatOps F] (main_arg0 : FVec F S2x2304x512 .bf16) (main_arg1 : FVec F S2x2304x512 .bf16) (main_arg2 : FVec F S2x2304x512 .bf16) (main_arg3 : FVec F S8x15x31 .f32) (main_arg4 : FVec F S2x2048x512 .f32) : IVec S2x2304x512 1 × IVec S2x2304x512 1 × IVec S8x15x31 1 :=
  let main_v0 : FVec F S2x2304x512 .f32 := (extf .f32 · bitsLt_bf16_f32) main_arg0
  let main_v1 : FVec F S2x2304x512 .f32 := Host.absf main_v0
  let main_cst : FVec F S_ .f32 := constant S_ .f32 0x7F800000#32
  let main_v2 : FVec F S2x2304x512 .f32 := broadcastInDim S2x2304x512 ![] bcast_S_S2x2304x512 main_cst
  let main_v3 : IVec S2x2304x512 1 := cmpf .olt main_v1 main_v2
  let main_v4 : FVec F S2x2304x512 .f32 := (extf .f32 · bitsLt_bf16_f32) main_arg1
  let main_v5 : FVec F S2x2304x512 .f32 := Host.absf main_v4
  let main_cst_0 : FVec F S_ .f32 := constant S_ .f32 0x7F800000#32
  let main_v6 : FVec F S2x2304x512 .f32 := broadcastInDim S2x2304x512 ![] bcast_S_S2x2304x512 main_cst_0
  let main_v7 : IVec S2x2304x512 1 := cmpf .olt main_v5 main_v6
  let main_v8 : FVec F S8x15x31 .f32 := Host.absf main_arg3
  let main_cst_1 : FVec F S_ .f32 := constant S_ .f32 0x7F800000#32
  let main_v9 : FVec F S8x15x31 .f32 := broadcastInDim S8x15x31 ![] bcast_S_S8x15x31 main_cst_1
  let main_v10 : IVec S8x15x31 1 := cmpf .olt main_v8 main_v9
  (main_v3, main_v7, main_v10)
-- ==== Kernel.lean ====
abbrev S2x2304x512 : Shape := ⟨3, ![2, 2304, 512]⟩
abbrev S8x15x31 : Shape := ⟨3, ![8, 15, 31]⟩
abbrev S2x2048x512 : Shape := ⟨3, ![2, 2048, 512]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S8x15x64x64 : Shape := ⟨4, ![8, 15, 64, 64]⟩
abbrev S8x8x64x64 : Shape := ⟨4, ![8, 8, 64, 64]⟩
abbrev S1x8x8x64x64 : Shape := ⟨5, ![1, 8, 8, 64, 64]⟩
abbrev S8x8x8x64x64 : Shape := ⟨5, ![8, 8, 8, 64, 64]⟩
abbrev S8x8x64x8x64 : Shape := ⟨5, ![8, 8, 64, 8, 64]⟩
abbrev S8x2x256x512 : Shape := ⟨4, ![8, 2, 256, 512]⟩
abbrev S1x256x256 : Shape := ⟨3, ![1, 256, 256]⟩
abbrev S1x2304x256 : Shape := ⟨3, ![1, 2304, 256]⟩
abbrev S1x1x256x512 : Shape := ⟨4, ![1, 1, 256, 512]⟩
abbrev S8x1x256x512 : Shape := ⟨4, ![8, 1, 256, 512]⟩
abbrev S8x256x512 : Shape := ⟨3, ![8, 256, 512]⟩
abbrev S2304x256 : Shape := ⟨2, ![2304, 256]⟩
abbrev S256x256 : Shape := ⟨2, ![256, 256]⟩
abbrev S1x64x256 : Shape := ⟨3, ![1, 64, 256]⟩
abbrev S64x256 : Shape := ⟨2, ![64, 256]⟩
abbrev S1x512x256 : Shape := ⟨3, ![1, 512, 256]⟩
abbrev S512x256 : Shape := ⟨2, ![512, 256]⟩
abbrev S256x512 : Shape := ⟨2, ![256, 512]⟩
abbrev S1x256 : Shape := ⟨2, ![1, 256]⟩
abbrev S256 : Shape := ⟨1, ![256]⟩
abbrev S256x1 : Shape := ⟨2, ![256, 1]⟩

abbrev nBuf : Space → Nat
  | .hbm => 73
  | .vmem => 24
  | .smem => 0
  | _ => 0

abbrev bufTy : (tb : Table) → Fin (tcTables nBuf tb) → BufTy
  | .hbm, ⟨0, _⟩ => ⟨S2x2304x512, .bf16⟩
  | .hbm, ⟨1, _⟩ => ⟨S2x2304x512, .bf16⟩
  | .hbm, ⟨2, _⟩ => ⟨S2x2304x512, .bf16⟩
  | .hbm, ⟨3, _⟩ => ⟨S8x15x31, .f32⟩
  | .hbm, ⟨4, _⟩ => ⟨S2x2048x512, .f32⟩
  | .hbm, ⟨5, _⟩ => ⟨S64, .i32⟩
  | .hbm, ⟨6, _⟩ => ⟨S64x1, .i32⟩
  | .hbm, ⟨7, _⟩ => ⟨S64, .i32⟩
  | .hbm, ⟨8, _⟩ => ⟨S1x64, .i32⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S_, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S64x64x1, .i32⟩
  | .hbm, ⟨44, _⟩ => ⟨S8x15x64x64, .f32⟩
  | .hbm, ⟨45, _⟩ => ⟨S_, .f32⟩
  | .hbm, ⟨46, _⟩ => ⟨S_, .f32⟩
  | .hbm, ⟨47, _⟩ => ⟨S8x15x64x64, .i1⟩
  | .hbm, ⟨48, _⟩ => ⟨S8x15x64x64, .f32⟩
  | .hbm, ⟨49, _⟩ => ⟨S8x15x64x64, .f32⟩
  | .hbm, ⟨50, _⟩ => ⟨S8x8x64x64, .f32⟩
  | .hbm, ⟨51, _⟩ => ⟨S8x8x64x64, .f32⟩
  | .hbm, ⟨52, _⟩ => ⟨S8x8x64x64, .f32⟩
  | .hbm, ⟨53, _⟩ => ⟨S8x8x64x64, .f32⟩
  | .hbm, ⟨54, _⟩ => ⟨S8x8x64x64, .f32⟩
  | .hbm, ⟨55, _⟩ => ⟨S8x8x64x64, .f32⟩
  | .hbm, ⟨56, _⟩ => ⟨S8x8x64x64, .f32⟩
  | .hbm, ⟨57, _⟩ => ⟨S8x8x64x64, .f32⟩
  | .hbm, ⟨58, _⟩ => ⟨S1x8x8x64x64, .f32⟩
  | .hbm, ⟨59, _⟩ => ⟨S1x8x8x64x64, .f32⟩
  | .hbm, ⟨60, _⟩ => ⟨S1x8x8x64x64, .f32⟩
  | .hbm, ⟨61, _⟩ => ⟨S1x8x8x64x64, .f32⟩
  | .hbm, ⟨62, _⟩ => ⟨S1x8x8x64x64, .f32⟩
  | .hbm, ⟨63, _⟩ => ⟨S1x8x8x64x64, .f32⟩
  | .hbm, ⟨64, _⟩ => ⟨S1x8x8x64x64, .f32⟩
  | .hbm, ⟨65, _⟩ => ⟨S1x8x8x64x64, .f32⟩
  | .hbm, ⟨66, _⟩ => ⟨S8x8x8x64x64, .f32⟩
  | .hbm, ⟨67, _⟩ => ⟨S8x8x64x8x64, .f32⟩
  | .hbm, ⟨68, _⟩ => ⟨S8x2x256x512, .f32⟩
  | .hbm, ⟨69, _⟩ => ⟨S2x2048x512, .f32⟩
  | .hbm, ⟨70, _⟩ => ⟨S2x2304x512, .f32⟩
  | .hbm, ⟨71, _⟩ => ⟨S2x2304x512, .f32⟩
  | .hbm, ⟨72, _⟩ => ⟨S8x2x256x512, .f32⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S1x1x256x512, .f32⟩
  | .local _ .vmem, ⟨7, _⟩ => ⟨S1x1x256x512, .f32⟩
  | .local _ .vmem, ⟨8, _⟩ => ⟨S1x1x256x512, .f32⟩
  | .local _ .vmem, ⟨9, _⟩ => ⟨S1x1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x2304x256, .f32⟩
  | .local _ .vmem, ⟨19, _⟩ => ⟨S1x2304x256, .f32⟩
  | .local _ .vmem, ⟨20, _⟩ => ⟨S1x2304x256, .f32⟩
  | .local _ .vmem, ⟨21, _⟩ => ⟨S1x2304x256, .f32⟩
  | .local _ .vmem, ⟨22, _⟩ => ⟨S8x1x256x512, .f32⟩
  | .local _ .vmem, ⟨23, _⟩ => ⟨S8x1x256x512, .f32⟩
  | _, _ => ⟨S2x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_v30 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51_0 : Ref sig .tc := ⟨.hbm, 69, rfl⟩
abbrev main_v51_1 : Ref sig .tc := ⟨.hbm, 70, rfl⟩
abbrev main_v51_2 : Ref sig .tc := ⟨.hbm, 71, rfl⟩
abbrev main_v51_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let c256_i32 : BitVec 32 := 256#32
  let c24_i32 : BitVec 32 := 24#32
  let c0_i32_14 : BitVec 32 := 0#32
  let c4_i32 : BitVec 32 := 4#32
  let arg2 : BitVec 32 := BitVec.ofNat 32 (i 2).val
  let v12 : BitVec 32 := Scalar.muli c4_i32 arg2
  let c0_i32_9 : BitVec 32 := 0#32
  let v13 : BitVec 32 := Scalar.addi v12 c0_i32_9
  let c4_i32_13 : BitVec 32 := 4#32
  let v20 : BitVec 32 := Scalar.subi v13 c4_i32_13
  let v21 : BitVec 32 := Scalar.maxsi c0_i32_14 v20
  let v22 : BitVec 32 := Scalar.minsi c24_i32 v21
  let c64_i32 : BitVec 32 := 64#32
  let v23 : BitVec 32 := Scalar.muli v22 c64_i32
  let v24 : BitVec 32 := Scalar.addi c256_i32 v23
  v24
def k0_mult2 (i : grid0.Coords) : BitVec 32 :=
  let c256_i32_19 : BitVec 32 := 256#32
  let c24_i32_17 : BitVec 32 := 24#32
  let c0_i32_16 : BitVec 32 := 0#32
  let c4_i32_10 : BitVec 32 := 4#32
  let arg2 : BitVec 32 := BitVec.ofNat 32 (i 2).val
  let v14 : BitVec 32 := Scalar.muli c4_i32_10 arg2
  let c1_i32 : BitVec 32 := 1#32
  let v15 : BitVec 32 := Scalar.addi v14 c1_i32
  let c4_i32_15 : BitVec 32 := 4#32
  let v26 : BitVec 32 := Scalar.subi v15 c4_i32_15
  let v27 : BitVec 32 := Scalar.maxsi c0_i32_16 v26
  let v28 : BitVec 32 := Scalar.minsi c24_i32_17 v27
  let c64_i32_18 : BitVec 32 := 64#32
  let v29 : BitVec 32 := Scalar.muli v28 c64_i32_18
  let v30 : BitVec 32 := Scalar.addi c256_i32_19 v29
  v30
def k0_mult3 (i : grid0.Coords) : BitVec 32 :=
  let c256_i32_24 : BitVec 32 := 256#32
  let c24_i32_22 : BitVec 32 := 24#32
  let c0_i32_21 : BitVec 32 := 0#32
  let c4_i32_11 : BitVec 32 := 4#32
  let arg2 : BitVec 32 := BitVec.ofNat 32 (i 2).val
  let v16 : BitVec 32 := Scalar.muli c4_i32_11 arg2
  let c2_i32 : BitVec 32 := 2#32
  let v17 : BitVec 32 := Scalar.addi v16 c2_i32
  let c4_i32_20 : BitVec 32 := 4#32
  let v32 : BitVec 32 := Scalar.subi v17 c4_i32_20
  let v33 : BitVec 32 := Scalar.maxsi c0_i32_21 v32
  let v34 : BitVec 32 := Scalar.minsi c24_i32_22 v33
  let c64_i32_23 : BitVec 32 := 64#32
  let v35 : BitVec 32 := Scalar.muli v34 c64_i32_23
  let v36 : BitVec 32 := Scalar.addi c256_i32_24 v35
  v36
def k0_mult4 (i : grid0.Coords) : BitVec 32 :=
  let c256_i32_29 : BitVec 32 := 256#32
  let c24_i32_27 : BitVec 32 := 24#32
  let c0_i32_26 : BitVec 32 := 0#32
  let c4_i32_12 : BitVec 32 := 4#32
  let arg2 : BitVec 32 := BitVec.ofNat 32 (i 2).val
  let v18 : BitVec 32 := Scalar.muli c4_i32_12 arg2
  let c3_i32 : BitVec 32 := 3#32
  let v19 : BitVec 32 := Scalar.addi v18 c3_i32
  let c4_i32_25 : BitVec 32 := 4#32
  let v38 : BitVec 32 := Scalar.subi v19 c4_i32_25
  let v39 : BitVec 32 := Scalar.maxsi c0_i32_26 v38
  let v40 : BitVec 32 := Scalar.minsi c24_i32_27 v39
  let c64_i32_28 : BitVec 32 := 64#32
  let v41 : BitVec 32 := Scalar.muli v40 c64_i32_28
  let v42 : BitVec 32 := Scalar.addi c256_i32_29 v41
  v42
def k0_off1 (i : grid0.Coords) (c0_i32_9 : BitVec 32) : Fin 3 → Nat :=
  let c0_33 : Index := 0#32
  let c256_i32 : BitVec 32 := 256#32
  let c24_i32 : BitVec 32 := 24#32
  let c0_i32_14 : BitVec 32 := 0#32
  let c4_i32 : BitVec 32 := 4#32
  let arg2 : BitVec 32 := BitVec.ofNat 32 (i 2).val
  let v12 : BitVec 32 := Scalar.muli c4_i32 arg2
  let v13 : BitVec 32 := Scalar.addi v12 c0_i32_9
  let c4_i32_13 : BitVec 32 := 4#32
  let v20 : BitVec 32 := Scalar.subi v13 c4_i32_13
  let v21 : BitVec 32 := Scalar.maxsi c0_i32_14 v20
  let v22 : BitVec 32 := Scalar.minsi c24_i32 v21
  let c64_i32 : BitVec 32 := 64#32
  let v23 : BitVec 32 := Scalar.muli v22 c64_i32
  let v24 : BitVec 32 := Scalar.addi c256_i32 v23
  let v25 : BitVec 32 := v24
  let v46 : Index := Scalar.indexCast v25
  let c0_34 : Index := 0#32
  ![0, v46.toNat, 0]
def k0_off2 (i : grid0.Coords) (c0_i32_9 : BitVec 32) : Fin 4 → Nat :=
  let c24_i32_283 : BitVec 32 := 24#32
  let c0_i32_282 : BitVec 32 := 0#32
  let c4_i32 : BitVec 32 := 4#32
  let arg2 : BitVec 32 := BitVec.ofNat 32 (i 2).val
  let v12 : BitVec 32 := Scalar.muli c4_i32 arg2
  let v13 : BitVec 32 := Scalar.addi v12 c0_i32_9
  let c4_i32_281 : BitVec 32 := 4#32
  let v708 : BitVec 32 := Scalar.subi v13 c4_i32_281
  let v709 : BitVec 32 := Scalar.maxsi c0_i32_282 v708
  let v710 : BitVec 32 := Scalar.minsi c24_i32_283 v709
  let v711 : BitVec 32 := Scalar.subi v710 v13
  let c8_i32 : BitVec 32 := 8#32
  let v712 : BitVec 32 := Scalar.addi v711 c8_i32
  let c1_i32_284 : BitVec 32 := 1#32
  let v713 : BitVec 32 := Scalar.subi v712 c1_i32_284
  let v714 : Index := Scalar.indexCast v713
  let c0_285 : Index := 0#32
  let c0_286 : Index := 0#32
  let c0_287 : Index := 0#32
  ![v714.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg1.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c0_i32 : BitVec 32 := 0#32
  let v1 : BitVec 32 := Scalar.addi v0 c0_i32
  let c4_i32_0 : BitVec 32 := 4#32
  let v2 : BitVec 32 := Scalar.subi v1 c4_i32_0
  let c0_i32_1 : BitVec 32 := 0#32
  let c24_i32 : BitVec 32 := 24#32
  let v3 : BitVec 32 := Scalar.maxsi c0_i32_1 v2
  let v4 : BitVec 32 := Scalar.minsi c24_i32 v3
  let v5 : BitVec 32 := Scalar.subi v4 v1
  let c8_i32 : BitVec 32 := 8#32
  let v6 : BitVec 32 := Scalar.addi v5 c8_i32
  let c1_i32 : BitVec 32 := 1#32
  let v7 : BitVec 32 := Scalar.subi v6 c1_i32
  let c0_i32_2 : BitVec 32 := 0#32
  let c0_i32_3 : BitVec 32 := 0#32
  let c0_i32_4 : BitVec 32 := 0#32
  ![v7.toNat, arg0.toNat, c0_i32_2.toNat, c0_i32_3.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi v0 c1_i32
  let c4_i32_0 : BitVec 32 := 4#32
  let v2 : BitVec 32 := Scalar.subi v1 c4_i32_0
  let c0_i32 : BitVec 32 := 0#32
  let c24_i32 : BitVec 32 := 24#32
  let v3 : BitVec 32 := Scalar.maxsi c0_i32 v2
  let v4 : BitVec 32 := Scalar.minsi c24_i32 v3
  let v5 : BitVec 32 := Scalar.subi v4 v1
  let c8_i32 : BitVec 32 := 8#32
  let v6 : BitVec 32 := Scalar.addi v5 c8_i32
  let c1_i32_1 : BitVec 32 := 1#32
  let v7 : BitVec 32 := Scalar.subi v6 c1_i32_1
  let c0_i32_2 : BitVec 32 := 0#32
  let c0_i32_3 : BitVec 32 := 0#32
  let c0_i32_4 : BitVec 32 := 0#32
  ![v7.toNat, arg0.toNat, c0_i32_2.toNat, c0_i32_3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c2_i32 : BitVec 32 := 2#32
  let v1 : BitVec 32 := Scalar.addi v0 c2_i32
  let c4_i32_0 : BitVec 32 := 4#32
  let v2 : BitVec 32 := Scalar.subi v1 c4_i32_0
  let c0_i32 : BitVec 32 := 0#32
  let c24_i32 : BitVec 32 := 24#32
  let v3 : BitVec 32 := Scalar.maxsi c0_i32 v2
  let v4 : BitVec 32 := Scalar.minsi c24_i32 v3
  let v5 : BitVec 32 := Scalar.subi v4 v1
  let c8_i32 : BitVec 32 := 8#32
  let v6 : BitVec 32 := Scalar.addi v5 c8_i32
  let c1_i32 : BitVec 32 := 1#32
  let v7 : BitVec 32 := Scalar.subi v6 c1_i32
  let c0_i32_1 : BitVec 32 := 0#32
  let c0_i32_2 : BitVec 32 := 0#32
  let c0_i32_3 : BitVec 32 := 0#32
  ![v7.toNat, arg0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c3_i32 : BitVec 32 := 3#32
  let v1 : BitVec 32 := Scalar.addi v0 c3_i32
  let c4_i32_0 : BitVec 32 := 4#32
  let v2 : BitVec 32 := Scalar.subi v1 c4_i32_0
  let c0_i32 : BitVec 32 := 0#32
  let c24_i32 : BitVec 32 := 24#32
  let v3 : BitVec 32 := Scalar.maxsi c0_i32 v2
  let v4 : BitVec 32 := Scalar.minsi c24_i32 v3
  let v5 : BitVec 32 := Scalar.subi v4 v1
  let c8_i32 : BitVec 32 := 8#32
  let v6 : BitVec 32 := Scalar.addi v5 c8_i32
  let c1_i32 : BitVec 32 := 1#32
  let v7 : BitVec 32 := Scalar.subi v6 c1_i32
  let c0_i32_1 : BitVec 32 := 0#32
  let c0_i32_2 : BitVec 32 := 0#32
  let c0_i32_3 : BitVec 32 := 0#32
  ![v7.toNat, arg0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2304x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2304x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S8x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== ReferenceIdeal.lean ====
abbrev S2x2304x512 : Shape := ⟨3, ![2, 2304, 512]⟩
abbrev S8x15x31 : Shape := ⟨3, ![8, 15, 31]⟩
abbrev S2x2048x512 : Shape := ⟨3, ![2, 2048, 512]⟩
abbrev S2x2048x8x64 : Shape := ⟨4, ![2, 2048, 8, 64]⟩
abbrev S2x2304x8x64 : Shape := ⟨4, ![2, 2304, 8, 64]⟩
abbrev S32 : Shape := ⟨1, ![32]⟩
abbrev S64 : Shape := ⟨1, ![64]⟩
abbrev S32x1 : Shape := ⟨2, ![32, 1]⟩
abbrev S1x32 : Shape := ⟨2, ![1, 32]⟩
abbrev S64x1 : Shape := ⟨2, ![64, 1]⟩
abbrev S1x64 : Shape := ⟨2, ![1, 64]⟩
abbrev S_ : Shape := ⟨0, ![]⟩
abbrev S32x32 : Shape := ⟨2, ![32, 32]⟩
abbrev S64x64 : Shape := ⟨2, ![64, 64]⟩
abbrev S64x64x1 : Shape := ⟨3, ![64, 64, 1]⟩
abbrev S8x15x64x64 : Shape := ⟨4, ![8, 15, 64, 64]⟩
abbrev S32x32x1 : Shape := ⟨3, ![32, 32, 1]⟩
abbrev S8x32x32x64x64 : Shape := ⟨5, ![8, 32, 32, 64, 64]⟩
abbrev S32x32x1x1 : Shape := ⟨4, ![32, 32, 1, 1]⟩
abbrev S1x1x64x64 : Shape := ⟨4, ![1, 1, 64, 64]⟩
abbrev S32x32x64x64 : Shape := ⟨4, ![32, 32, 64, 64]⟩
abbrev S8x32x64x32x64 : Shape := ⟨5, ![8, 32, 64, 32, 64]⟩
abbrev S8x2048x2048 : Shape := ⟨3, ![8, 2048, 2048]⟩
abbrev S2x8x2048x2048 : Shape := ⟨4, ![2, 8, 2048, 2048]⟩
abbrev S1x8x2048x2048 : Shape := ⟨4, ![1, 8, 2048, 2048]⟩
abbrev S2x256x8x64 : Shape := ⟨4, ![2, 256, 8, 64]⟩
abbrev S2x8x2048x256 : Shape := ⟨4, ![2, 8, 2048, 256]⟩
abbrev S2x8x2048x2304 : Shape := ⟨4, ![2, 8, 2048, 2304]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x64x256 : Shape := ⟨4, ![2, 8, 64, 256]⟩
abbrev S2x8x256x64 : Shape := ⟨4, ![2, 8, 256, 64]⟩
abbrev S2x8x2048x64 : Shape := ⟨4, ![2, 8, 2048, 64]⟩

abbrev nBuf : Space → Nat
  | .hbm => 216
  | .vmem => 0
  | .smem => 0
  | _ => 0

abbrev hbmTy0_0 (i : Nat) : BufTy := match i % 128 with
  | 0 => ⟨S2x2304x512, .bf16⟩
  | 1 => ⟨S2x2304x512, .bf16⟩
  | 2 => ⟨S2x2304x512, .bf16⟩
  | 3 => ⟨S8x15x31, .f32⟩
  | 4 => ⟨S2x2048x512, .f32⟩
  | 5 => ⟨S2x2048x512, .bf16⟩
  | 6 => ⟨S2x2048x512, .f32⟩
  | 7 => ⟨S2x2304x512, .f32⟩
  | 8 => ⟨S2x2304x512, .f32⟩
  | 9 => ⟨S2x2048x8x64, .f32⟩
  | 10 => ⟨S2x2304x8x64, .f32⟩
  | 11 => ⟨S2x2304x8x64, .f32⟩
  | 12 => ⟨S32, .i32⟩
  | 13 => ⟨S64, .i32⟩
  | 14 => ⟨S32x1, .i32⟩
  | 15 => ⟨S1x32, .i32⟩
  | 16 => ⟨S64x1, .i32⟩
  | 17 => ⟨S1x64, .i32⟩
  | 18 => ⟨S_, .i32⟩
  | 19 => ⟨S32x1, .i32⟩
  | 20 => ⟨S32x1, .i32⟩
  | 21 => ⟨S_, .i32⟩
  | 22 => ⟨S32x1, .i32⟩
  | 23 => ⟨S32x1, .i32⟩
  | 24 => ⟨S_, .i32⟩
  | 25 => ⟨S32x1, .i32⟩
  | 26 => ⟨S32x1, .i32⟩
  | 27 => ⟨S_, .i32⟩
  | 28 => ⟨S64x1, .i32⟩
  | 29 => ⟨S64x1, .i32⟩
  | 30 => ⟨S_, .i32⟩
  | 31 => ⟨S64x1, .i32⟩
  | 32 => ⟨S64x1, .i32⟩
  | 33 => ⟨S_, .i32⟩
  | 34 => ⟨S64x1, .i32⟩
  | 35 => ⟨S64x1, .i32⟩
  | 36 => ⟨S32x32, .i32⟩
  | 37 => ⟨S32x32, .i32⟩
  | 38 => ⟨S32x32, .i1⟩
  | 39 => ⟨S_, .i32⟩
  | 40 => ⟨S32x1, .i32⟩
  | 41 => ⟨S32x1, .i32⟩
  | 42 => ⟨S32x32, .i32⟩
  | 43 => ⟨S32x32, .i32⟩
  | 44 => ⟨S32x32, .i1⟩
  | 45 => ⟨S32x32, .i1⟩
  | 46 => ⟨S64x64, .i32⟩
  | 47 => ⟨S64x64, .i32⟩
  | 48 => ⟨S64x64, .i1⟩
  | 49 => ⟨S_, .i32⟩
  | 50 => ⟨S64x1, .i32⟩
  | 51 => ⟨S64x1, .i32⟩
  | 52 => ⟨S64x64, .i32⟩
  | 53 => ⟨S64x64, .i32⟩
  | 54 => ⟨S64x64, .i1⟩
  | 55 => ⟨S64x64, .i1⟩
  | 56 => ⟨S32x32, .i32⟩
  | 57 => ⟨S32x32, .i32⟩
  | 58 => ⟨S32x32, .i32⟩
  | 59 => ⟨S_, .i32⟩
  | 60 => ⟨S32x32, .i32⟩
  | 61 => ⟨S32x32, .i32⟩
  | 62 => ⟨S_, .i32⟩
  | 63 => ⟨S32x32, .i32⟩
  | 64 => ⟨S32x32, .i32⟩
  | 65 => ⟨S_, .i32⟩
  | 66 => ⟨S32x32, .i32⟩
  | 67 => ⟨S32x32, .i32⟩
  | 68 => ⟨S64x64, .i32⟩
  | 69 => ⟨S64x64, .i32⟩
  | 70 => ⟨S64x64, .i32⟩
  | 71 => ⟨S_, .i32⟩
  | 72 => ⟨S64x64, .i32⟩
  | 73 => ⟨S64x64, .i32⟩
  | 74 => ⟨S_, .i32⟩
  | 75 => ⟨S64x64, .i32⟩
  | 76 => ⟨S64x64, .i32⟩
  | 77 => ⟨S_, .i32⟩
  | 78 => ⟨S64x64, .i32⟩
  | 79 => ⟨S64x64, .i32⟩
  | 80 => ⟨S64x64x1, .i32⟩
  | 81 => ⟨S8x15x64x64, .f32⟩
  | 82 => ⟨S32x32x1, .i32⟩
  | 83 => ⟨S8x32x32x64x64, .f32⟩
  | 84 => ⟨S32x32x1x1, .i1⟩
  | 85 => ⟨S1x1x64x64, .i1⟩
  | 86 => ⟨S32x32x64x64, .i1⟩
  | 87 => ⟨S32x32x64x64, .i1⟩
  | 88 => ⟨S32x32x64x64, .i1⟩
  | 89 => ⟨S_, .f32⟩
  | 90 => ⟨S_, .f32⟩
  | 91 => ⟨S8x32x32x64x64, .i1⟩
  | 92 => ⟨S8x32x32x64x64, .f32⟩
  | 93 => ⟨S8x32x32x64x64, .f32⟩
  | 94 => ⟨S8x32x64x32x64, .f32⟩
  | 95 => ⟨S8x2048x2048, .f32⟩
  | 96 => ⟨S2x2048x8x64, .f32⟩
  | 97 => ⟨S2x8x2048x2048, .f32⟩
  | 98 => ⟨S2x8x2048x2048, .bf16⟩
  | 99 => ⟨S2x8x2048x2048, .f32⟩
  | 100 => ⟨S1x8x2048x2048, .f32⟩
  | 101 => ⟨S2x8x2048x2048, .f32⟩
  | 102 => ⟨S2x8x2048x2048, .f32⟩
  | 103 => ⟨S2x256x8x64, .f32⟩
  | 104 => ⟨S2x8x2048x256, .f32⟩
  | 105 => ⟨S2x8x2048x256, .bf16⟩
  | 106 => ⟨S2x8x2048x256, .f32⟩
  | 107 => ⟨S2x8x2048x2304, .f32⟩
  | 108 => ⟨S_, .f32⟩
  | 109 => ⟨S2x8x2048, .f32⟩
  | 110 => ⟨S2x8x2048x1, .f32⟩
  | 111 => ⟨S2x8x2048x2304, .f32⟩
  | 112 => ⟨S2x8x2048x2304, .i1⟩
  | 113 => ⟨S2x8x2048x2304, .f32⟩
  | 114 => ⟨S_, .f32⟩
  | 115 => ⟨S2x8x2048, .f32⟩
  | 116 => ⟨S_, .f32⟩
  | 117 => ⟨S2x8x2048, .f32⟩
  | 118 => ⟨S2x8x2048, .f32⟩
  | 119 => ⟨S_, .f32⟩
  | 120 => ⟨S2x8x2048, .f32⟩
  | 121 => ⟨S2x8x2048, .i1⟩
  | 122 => ⟨S_, .f32⟩
  | 123 => ⟨S2x8x2048, .f32⟩
  | 124 => ⟨S2x8x2048, .i1⟩
  | 125 => ⟨S_, .f32⟩
  | 126 => ⟨S2x8x2048, .f32⟩
  | 127 => ⟨S_, .f32⟩
  | _ => ⟨S2x2304x512, .bf16⟩

abbrev hbmTy0_1 (i : Nat) : BufTy := match i % 128 with
  | 0 => ⟨S2x8x2048, .f32⟩
  | 1 => ⟨S_, .f32⟩
  | 2 => ⟨S2x8x2048, .f32⟩
  | 3 => ⟨S2x8x2048, .f32⟩
  | 4 => ⟨S2x8x2048, .f32⟩
  | 5 => ⟨S2x8x2048x1, .f32⟩
  | 6 => ⟨S2x8x2048x2304, .f32⟩
  | 7 => ⟨S2x8x2048x2304, .f32⟩
  | 8 => ⟨S2x8x2048x2304, .f32⟩
  | 9 => ⟨S_, .f32⟩
  | 10 => ⟨S2x8x2048, .f32⟩
  | 11 => ⟨S2x8x2048x1, .f32⟩
  | 12 => ⟨S2x8x2048x2304, .f32⟩
  | 13 => ⟨S2x8x2048x2304, .f32⟩
  | 14 => ⟨S2x8x2048x1, .f32⟩
  | 15 => ⟨S_, .f32⟩
  | 16 => ⟨S2x8x2048x1, .f32⟩
  | 17 => ⟨S2x8x2048x1, .f32⟩
  | 18 => ⟨S2x8x2048x2304, .bf16⟩
  | 19 => ⟨S2x8x2048x2304, .f32⟩
  | 20 => ⟨S2x8x2048x2048, .f32⟩
  | 21 => ⟨S2x2048x8x64, .f32⟩
  | 22 => ⟨S2x8x64x2048, .f32⟩
  | 23 => ⟨S2x2048x8x64, .f32⟩
  | 24 => ⟨S2x8x2048x256, .f32⟩
  | 25 => ⟨S2x256x8x64, .f32⟩
  | 26 => ⟨S2x8x64x2048, .f32⟩
  | 27 => ⟨S2x2048x8x64, .f32⟩
  | 28 => ⟨S2x2048x8x64, .f32⟩
  | 29 => ⟨S2x2048x512, .f32⟩
  | 30 => ⟨S2x2048x8x64, .f32⟩
  | 31 => ⟨S2x8x64x2048, .f32⟩
  | 32 => ⟨S2x8x2048x256, .f32⟩
  | 33 => ⟨S2x8x64x256, .f32⟩
  | 34 => ⟨S2x256x8x64, .f32⟩
  | 35 => ⟨S_, .f32⟩
  | 36 => ⟨S2x2304x8x64, .f32⟩
  | 37 => ⟨S_, .f32⟩
  | 38 => ⟨S2x8x2048x2304, .f32⟩
  | 39 => ⟨S2x8x64x2048, .f32⟩
  | 40 => ⟨S2x8x2048x2048, .f32⟩
  | 41 => ⟨S2x8x64x2048, .f32⟩
  | 42 => ⟨S2x2048x8x64, .f32⟩
  | 43 => ⟨S_, .f32⟩
  | 44 => ⟨S2x2304x8x64, .f32⟩
  | 45 => ⟨S2x2304x8x64, .f32⟩
  | 46 => ⟨S_, .f32⟩
  | 47 => ⟨S2x8x2048x2304, .f32⟩
  | 48 => ⟨S2x8x2048x2304, .f32⟩
  | 49 => ⟨S2x8x2048x2304, .bf16⟩
  | 50 => ⟨S2x8x2048x2304, .f32⟩
  | 51 => ⟨S2x8x2048x2304, .f32⟩
  | 52 => ⟨S2x8x2048x2304, .f32⟩
  | 53 => ⟨S2x8x2048x2304, .f32⟩
  | 54 => ⟨S_, .f32⟩
  | 55 => ⟨S2x8x2048, .f32⟩
  | 56 => ⟨S2x8x2048x1, .f32⟩
  | 57 => ⟨S2x8x2048x1, .f32⟩
  | 58 => ⟨S2x8x2048x2304, .f32⟩
  | 59 => ⟨S2x8x2048x2304, .f32⟩
  | 60 => ⟨S_, .f32⟩
  | 61 => ⟨S2x8x2048, .f32⟩
  | 62 => ⟨S2x8x2048x2304, .f32⟩
  | 63 => ⟨S2x8x2048x2304, .f32⟩
  | 64 => ⟨S2x8x2048x2304, .f32⟩
  | 65 => ⟨S2x8x2048x2048, .f32⟩
  | 66 => ⟨S2x8x2048x256, .f32⟩
  | 67 => ⟨S2x8x2048x256, .bf16⟩
  | 68 => ⟨S2x8x2048x256, .f32⟩
  | 69 => ⟨S2x8x256x64, .f32⟩
  | 70 => ⟨S2x256x8x64, .f32⟩
  | 71 => ⟨S2x8x2048x64, .f32⟩
  | 72 => ⟨S2x2048x8x64, .f32⟩
  | 73 => ⟨S_, .f32⟩
  | 74 => ⟨S2x2304x8x64, .f32⟩
  | 75 => ⟨S2x8x2048x2048, .bf16⟩
  | 76 => ⟨S2x8x2048x2048, .f32⟩
  | 77 => ⟨S2x8x2048x64, .f32⟩
  | 78 => ⟨S2x2048x8x64, .f32⟩
  | 79 => ⟨S2x8x2048x64, .f32⟩
  | 80 => ⟨S2x2048x8x64, .f32⟩
  | 81 => ⟨S2x2048x8x64, .f32⟩
  | 82 => ⟨S_, .f32⟩
  | 83 => ⟨S2x2304x8x64, .f32⟩
  | 84 => ⟨S2x2304x8x64, .f32⟩
  | 85 => ⟨S2x2304x512, .f32⟩
  | 86 => ⟨S2x2304x512, .f32⟩
  | 87 => ⟨S2x2048x512, .f32⟩
  | _ => ⟨S2x2304x512, .bf16⟩

abbrev hbmTy (i : Nat) : BufTy := match i / 128 with
  | 0 => hbmTy0_0 i
  | 1 => hbmTy0_1 i
  | _ => ⟨S2x2304x512, .bf16⟩

abbrev bufTy : (tb : Table) → Fin (tcTables nBuf tb) → BufTy
  | .hbm, ⟨i, _⟩ => hbmTy i
  | _, _ => ⟨S2x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_c_12 : Ref sig .tc := ⟨.hbm, 77, rfl⟩
abbrev main_v59 : Ref sig .tc := ⟨.hbm, 78, rfl⟩
abbrev main_v60 : Ref sig .tc := ⟨.hbm, 79, rfl⟩
abbrev main_call0_v0 : Ref sig .tc := ⟨.hbm, 80, rfl⟩
abbrev main_v61 : Ref sig .tc := ⟨.hbm, 81, rfl⟩
abbrev main_call1_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_cst_17 : Ref sig .tc := ⟨.hbm, 122, rfl⟩
abbrev main_v93 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_23 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_cst_26 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_28 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_29 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_30 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩

abbrev nD : Nat := 1
abbrev τ : Topo := Topo.v7x

variable {F : FTy → Type} [FloatOps F]
-- ==== Kernel2.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S2x4096x2816 : Shape := ⟨3, ![2, 4096, 2816]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2x2816 : Shape := ⟨3, ![4096, 2, 2816]⟩
abbrev S5632x1024 : Shape := ⟨2, ![5632, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S_, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S4096x5632, .f32⟩
  | .hbm, ⟨8, _⟩ => ⟨S4096x2x2816, .f32⟩
  | .hbm, ⟨9, _⟩ => ⟨S2x4096x2816, .f32⟩
  | .hbm, ⟨10, _⟩ => ⟨S2x4096x2816, .f32⟩
  | .hbm, ⟨11, _⟩ => ⟨S4096x2x2816, .f32⟩
  | .hbm, ⟨12, _⟩ => ⟨S4096x5632, .f32⟩
  | .hbm, ⟨13, _⟩ => ⟨S5632x1024, .f32⟩
  | .hbm, ⟨14, _⟩ => ⟨S1024x5632, .f32⟩
  | .hbm, ⟨15, _⟩ => ⟨S1024x4x1408, .f32⟩
  | .hbm, ⟨16, _⟩ => ⟨S4x1024x1408, .f32⟩
  | .hbm, ⟨17, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel3.lean ====
abbrev S4608x3712 : Shape := ⟨2, ![4608, 3712]⟩
abbrev S4608x1024 : Shape := ⟨2, ![4608, 1024]⟩
abbrev S3712x1024 : Shape := ⟨2, ![3712, 1024]⟩
abbrev S512x3712 : Shape := ⟨2, ![512, 3712]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4608x3712, .bf16⟩
  | .hbm, ⟨1, _⟩ => ⟨S4608x1024, .bf16⟩
  | .hbm, ⟨2, _⟩ => ⟨S3712x1024, .bf16⟩
  | .local _ .vmem, ⟨0, _⟩ => ⟨S512x3712, .bf16⟩
  | .local _ .vmem, ⟨1, _⟩ => ⟨S512x3712, .bf16⟩
  | .local _ .vmem, ⟨2, _⟩ => ⟨S512x1024, .bf16⟩
  | .local _ .vmem, ⟨3, _⟩ => ⟨S512x1024, .bf16⟩
  | .local _ .vmem, ⟨4, _⟩ => ⟨S3712x1024, .bf16⟩
  | .local _ .vmem, ⟨5, _⟩ => ⟨S3712x1024, .f32⟩
  | _, _ => ⟨S4608x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S3712x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S4608x3712 : Shape := ⟨2, ![4608, 3712]⟩
abbrev S4608x1024 : Shape := ⟨2, ![4608, 1024]⟩
abbrev S_ : Shape := ⟨0, ![]⟩
abbrev S3712x1024 : Shape := ⟨2, ![3712, 1024]⟩
abbrev S1024x3712 : Shape := ⟨2, ![1024, 3712]⟩

abbrev nBuf : Space → Nat
  | .hbm => 12
  | .vmem => 0
  | .smem => 0
  | _ => 0

abbrev bufTy : (tb : Table) → Fin (tcTables nBuf tb) → BufTy
  | .hbm, ⟨0, _⟩ => ⟨S4608x3712, .bf16⟩
  | .hbm, ⟨1, _⟩ => ⟨S4608x1024, .bf16⟩
  | .hbm, ⟨2, _⟩ => ⟨S4608x1024, .f32⟩
  | .hbm, ⟨3, _⟩ => ⟨S_, .f32⟩
  | .hbm, ⟨4, _⟩ => ⟨S3712x1024, .f32⟩
  | .hbm, ⟨5, _⟩ => ⟨S1024x3712, .f32⟩
  | .hbm, ⟨6, _⟩ => ⟨S4608x3712, .f32⟩
  | .hbm, ⟨7, _⟩ => ⟨S4608x3712, .f32⟩
  | .hbm, ⟨8, _⟩ => ⟨S3712x1024, .f32⟩
  | .hbm, ⟨9, _⟩ => ⟨S1024x3712, .f32⟩
  | .hbm, ⟨10, _⟩ => ⟨S3712x1024, .f32⟩
  | .hbm, ⟨11, _⟩ => ⟨S3712x1024, .bf16⟩
  | _, _ => ⟨S4608x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S4608x1024 : Shape := ⟨2, ![4608, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4608x1024, .bf16⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4608x1024 : Shape := ⟨2, ![4608, 1024]⟩
abbrev S_ : Shape := ⟨0, ![]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4608x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x256x1024 : Shape := ⟨3, ![2, 256, 1024]⟩
abbrev S2x1x1024 : Shape := ⟨3, ![2, 1, 1024]⟩
abbrev S1024 : Shape := ⟨1, ![1024]⟩
abbrev S1x1024 : Shape := ⟨2, ![1, 1024]⟩
abbrev S3712x1024 : Shape := ⟨2, ![3712, 1024]⟩
abbrev S1x1x1024 : Shape := ⟨3, ![1, 1, 1024]⟩
abbrev S2x2304x3712 : Shape := ⟨3, ![2, 2304, 3712]⟩
abbrev S2x2304x1024 : Shape := ⟨3, ![2, 2304, 1024]⟩
abbrev S1x256x1024 : Shape := ⟨3, ![1, 256, 1024]⟩
abbrev S1x256x3712 : Shape := ⟨3, ![1, 256, 3712]⟩
abbrev S256x1024 : Shape := ⟨2, ![256, 1024]⟩
abbrev S256 : Shape := ⟨1, ![256]⟩
abbrev S256x1 : Shape := ⟨2, ![256, 1]⟩
abbrev S256x3712 : Shape := ⟨2, ![256, 3712]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S3712x1024, .bf16⟩
  | .hbm, ⟨8, _⟩ => ⟨S1x1x1024, .f32⟩
  | .hbm, ⟨9, _⟩ => ⟨S1x1x1024, .f32⟩
  | .hbm, ⟨10, _⟩ => ⟨S2x2304x3712, .f32⟩
  | .hbm, ⟨11, _⟩ => ⟨S2x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S3712x1024, .bf16⟩
  | .local _ .vmem, ⟨12, _⟩ => ⟨S1x256x3712, .f32⟩
  | .local _ .vmem, ⟨13, _⟩ => ⟨S1x256x3712, .f32⟩
  | .local _ .vmem, ⟨14, _⟩ => ⟨S1x256x1024, .bf16⟩
  | .local _ .vmem, ⟨15, _⟩ => ⟨S1x256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3712x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x3712 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S2x2048x1024 : Shape := ⟨3, ![2, 2048, 1024]⟩
abbrev S2x256x1024 : Shape := ⟨3, ![2, 256, 1024]⟩
abbrev S2x1x1024 : Shape := ⟨3, ![2, 1, 1024]⟩
abbrev S1024 : Shape := ⟨1, ![1024]⟩
abbrev S1x1024 : Shape := ⟨2, ![1, 1024]⟩
abbrev S3712x1024 : Shape := ⟨2, ![3712, 1024]⟩
abbrev S1024x3712 : Shape := ⟨2, ![1024, 3712]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x256 : Shape := ⟨2, ![2, 256]⟩
abbrev S2x256x1 : Shape := ⟨3, ![2, 256, 1]⟩
abbrev S2x256x3712 : Shape := ⟨3, ![2, 256, 3712]⟩
abbrev S2x2048x3712 : Shape := ⟨3, ![2, 2048, 3712]⟩
abbrev S2x2304x3712 : Shape := ⟨3, ![2, 2304, 3712]⟩
abbrev S2x2304x1024 : Shape := ⟨3, ![2, 2304, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S3712x1024, .bf16⟩
  | .hbm, ⟨8, _⟩ => ⟨S3712x1024, .f32⟩
  | .hbm, ⟨9, _⟩ => ⟨S1024x3712, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S1024, .f32⟩
  | .hbm, ⟨35, _⟩ => ⟨S2x256x1024, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x1024, .f32⟩
  | .hbm, ⟨47, _⟩ => ⟨S2x256x1024, .f32⟩
  | .hbm, ⟨48, _⟩ => ⟨S1x1x1024, .f32⟩
  | .hbm, ⟨49, _⟩ => ⟨S2x256x1024, .f32⟩
  | .hbm, ⟨50, _⟩ => ⟨S2x256x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1x1024, .f32⟩
  | .hbm, ⟨55, _⟩ => ⟨S2x256x1024, .f32⟩
  | .hbm, ⟨56, _⟩ => ⟨S2x256x1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S2x256x3712, .f32⟩
  | .hbm, ⟨61, _⟩ => ⟨S2x2048x3712, .f32⟩
  | .hbm, ⟨62, _⟩ => ⟨S2x2304x3712, .f32⟩
  | .hbm, ⟨63, _⟩ => ⟨S2x2304x1024, .f32⟩
  | .hbm, ⟨64, _⟩ => ⟨S2x2304x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel7.lean ====
abbrev S4096x1024 : Shape := ⟨2, ![4096, 1024]⟩
abbrev S2x1x1024 : Shape := ⟨3, ![2, 1, 1024]⟩
abbrev S1x1024 : Shape := ⟨2, ![1, 1024]⟩
abbrev S4x1024x1408 : Shape := ⟨3, ![4, 1024, 1408]⟩
abbrev S2816x1024 : Shape := ⟨2, ![2816, 1024]⟩
abbrev S4096x2816 : Shape := ⟨2, ![4096, 2816]⟩
abbrev S8x128 : Shape := ⟨2, ![8, 128]⟩
abbrev S512x1024 : Shape := ⟨2, ![512, 1024]⟩
abbrev S1x1x1024 : Shape := ⟨3, ![1, 1, 1024]⟩
abbrev S1x1024x1408 : Shape := ⟨3, ![1, 1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1024 : Shape := ⟨1, ![1024]⟩
abbrev S1 : Shape := ⟨1, ![1]⟩
abbrev S1x1 : Shape := ⟨2, ![1, 1]⟩

abbrev nBuf : Space → Nat
  | .hbm => 14
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S4x1024x1408, .bf16⟩
  | .hbm, ⟨6, _⟩ => ⟨S2816x1024, .bf16⟩
  | .hbm, ⟨7, _⟩ => ⟨S4096x1024, .f32⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S4096x1024, .f32⟩
  | .hbm, ⟨12, _⟩ => ⟨S2x1x1024, .f32⟩
  | .hbm, ⟨13, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1024, .f32⟩
  | .local _ .vmem, ⟨24, _⟩ => ⟨S512x1024, .f32⟩
  | .local _ .vmem, ⟨25, _⟩ => ⟨S1x1x1024, .f32⟩
  | .local _ .vmem, ⟨26, _⟩ => ⟨S1x1x1024, .f32⟩
  | .local _ .vmem, ⟨27, _⟩ => ⟨S8x128, .f32⟩
  | .local _ .vmem, ⟨28, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c1_i32 : BitVec 32 := 1#32
  let v37 : BitVec 1 := Scalar.cmpi .eq arg1 c1_i32
  let v38 : BitVec 32 := Scalar.extui v37
  let c0_i32_26 : BitVec 32 := 0#32
  let v39 : BitVec 1 := Scalar.cmpi .ne v38 c0_i32_26
  v39

def k0_cond4 (i : grid0.Coords) : BitVec 1 :=
  let arg0 : BitVec 32 := BitVec.ofNat 32 (i 0).val
  let c4_i32 : BitVec 32 := 4#32
  let c0_i32_47 : BitVec 32 := 0#32
  let v67 : BitVec 1 := Scalar.cmpi .eq c4_i32 c0_i32_47
  let c1_i32_48 : BitVec 32 := 1#32
  let v68 : BitVec 32 := Scalar.select v67 c1_i32_48 c4_i32
  let v69 : BitVec 32 := Scalar.remsi arg0 v68
  let c0_i32_50 : BitVec 32 := 0#32
  let v71 : BitVec 1 := Scalar.cmpi .slt v69 c0_i32_50
  let c0_i32_51 : BitVec 32 := 0#32
  let v72 : BitVec 1 := Scalar.cmpi .slt v68 c0_i32_51
  let v73 : BitVec 1 := Scalar.xori v71 v72
  let c0_i32_49 : BitVec 32 := 0#32
  let v70 : BitVec 1 := Scalar.cmpi .ne v69 c0_i32_49
  let v74 : BitVec 1 := Scalar.andi v73 v70
  let v75 : BitVec 32 := Scalar.addi v69 v68
  let v76 : BitVec 32 := Scalar.select v74 v75 v69
  let c0_i32_52 : BitVec 32 := 0#32
  let v77 : BitVec 1 := Scalar.cmpi .eq v76 c0_i32_52
  let v78 : BitVec 32 := Scalar.extui v77
  let c0_i32_53 : BitVec 32 := 0#32
  let v79 : BitVec 1 := Scalar.cmpi .ne v78 c0_i32_53
  v79

def k0_cond5 (i : grid0.Coords) : BitVec 1 :=
  let arg0 : BitVec 32 := BitVec.ofNat 32 (i 0).val
  let c4_i32_54 : BitVec 32 := 4#32
  let c0_i32_55 : BitVec 32 := 0#32
  let v80 : BitVec 1 := Scalar.cmpi .eq c4_i32_54 c0_i32_55
  let c1_i32_56 : BitVec 32 := 1#32
  let v81 : BitVec 32 := Scalar.select v80 c1_i32_56 c4_i32_54
  let v82 : BitVec 32 := Scalar.remsi arg0 v81
  let c0_i32_58 : BitVec 32 := 0#32
  let v84 : BitVec 1 := Scalar.cmpi .slt v82 c0_i32_58
  let c0_i32_59 : BitVec 32 := 0#32
  let v85 : BitVec 1 := Scalar.cmpi .slt v81 c0_i32_59
  let v86 : BitVec 1 := Scalar.xori v84 v85
  let c0_i32_57 : BitVec 32 := 0#32
  let v83 : BitVec 1 := Scalar.cmpi .ne v82 c0_i32_57
  let v87 : BitVec 1 := Scalar.andi v86 v83
  let v88 : BitVec 32 := Scalar.addi v82 v81
  let v89 : BitVec 32 := Scalar.select v87 v88 v82
  let c0_i32_60 : BitVec 32 := 0#32
  let v90 : BitVec 1 := Scalar.cmpi .ne v89 c0_i32_60
  let v91 : BitVec 32 := Scalar.extui v90
  let c0_i32_61 : BitVec 32 := 0#32
  let v92 : BitVec 1 := Scalar.cmpi .ne v91 c0_i32_61
  v92

def k0_cond2 (i : grid0.Coords) : BitVec 1 :=
  let arg0 : BitVec 32 := BitVec.ofNat 32 (i 0).val
  let c0_i32_23 : BitVec 32 := 0#32
  let v32 : BitVec 1 := Scalar.cmpi .eq arg0 c0_i32_23
  let arg1 : BitVec 32 := BitVec.ofNat 32 (i 1).val
  let c0_i32_24 : BitVec 32 := 0#32
  let v33 : BitVec 1 := Scalar.cmpi .eq arg1 c0_i32_24
  let v34 : BitVec 1 := Scalar.andi v32 v33
  let v35 : BitVec 32 := Scalar.extui v34
  let c0_i32_25 : BitVec 32 := 0#32
  let v36 : BitVec 1 := Scalar.cmpi .ne v35 c0_i32_25
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference7Ideal.lean ====
abbrev S4096x1024 : Shape := ⟨2, ![4096, 1024]⟩
abbrev S2x1x1024 : Shape := ⟨3, ![2, 1, 1024]⟩
abbrev S1x1024 : Shape := ⟨2, ![1, 1024]⟩
abbrev S4x1024x1408 : Shape := ⟨3, ![4, 1024, 1408]⟩
abbrev S2816x1024 : Shape := ⟨2, ![2816, 1024]⟩
abbrev S2x2048x1024 : Shape := ⟨3, ![2, 2048, 1024]⟩
abbrev S1024x4x1408 : Shape := ⟨3, ![1024, 4, 1408]⟩
abbrev S1024x5632 : Shape := ⟨2, ![1024, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x2816 : Shape := ⟨2, ![4096, 2816]⟩
abbrev S2x1024 : Shape := ⟨2, ![2, 1024]⟩
abbrev S8x128 : Shape := ⟨2, ![8, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S4x1024x1408, .bf16⟩
  | .hbm, ⟨6, _⟩ => ⟨S2816x1024, .bf16⟩
  | .hbm, ⟨7, _⟩ => ⟨S4096x1024, .f32⟩
  | .hbm, ⟨8, _⟩ => ⟨S2x2048x1024, .f32⟩
  | .hbm, ⟨9, _⟩ => ⟨S2x2048x1024, .f32⟩
  | .hbm, ⟨10, _⟩ => ⟨S4x1024x1408, .f32⟩
  | .hbm, ⟨11, _⟩ => ⟨S1024x4x1408, .f32⟩
  | .hbm, ⟨12, _⟩ => ⟨S1024x5632, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x5632, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2816x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S_, .f32⟩
  | .hbm, ⟨63, _⟩ => ⟨S2x2048, .f32⟩
  | .hbm, ⟨64, _⟩ => ⟨S2x2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2x2048, .f32⟩
  | .hbm, ⟨73, _⟩ => ⟨S_, .f32⟩
  | .hbm, ⟨74, _⟩ => ⟨S2x2048, .f32⟩
  | .hbm, ⟨75, _⟩ => ⟨S2x2048, .f32⟩
  | .hbm, ⟨76, _⟩ => ⟨S2x2048x1024, .f32⟩
  | .hbm, ⟨77, _⟩ => ⟨S2x2048x1024, .f32⟩
  | .hbm, ⟨78, _⟩ => ⟨S4096x1024, .f32⟩
  | .hbm, ⟨79, _⟩ => ⟨S4096x1024, .bf16⟩
  | .hbm, ⟨80, _⟩ => ⟨S4096x2816, .f32⟩
  | .hbm, ⟨81, _⟩ => ⟨S4096x2816, .bf16⟩
  | .hbm, ⟨82, _⟩ => ⟨S4096x2816, .f32⟩
  | .hbm, ⟨83, _⟩ => ⟨S4096x2816, .bf16⟩
  | .hbm, ⟨84, _⟩ => ⟨S4096x1024, .f32⟩
  | .hbm, ⟨85, _⟩ => ⟨S2x2048x1024, .f32⟩
  | .hbm, ⟨86, _⟩ => ⟨S_, .f32⟩
  | .hbm, ⟨87, _⟩ => ⟨S2x1024, .f32⟩
  | .hbm, ⟨88, _⟩ => ⟨S2x1x1024, .f32⟩
  | .hbm, ⟨89, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_cst_8 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proof.Row.lean ====
module

public import proofs.«01_k».proof.Proof.Gen.KernelIdeal.Frame
public import proofs.«01_k».proof.Proof.Gen.KernelIdeal.Skeleton
public import Idealize.ShloMosaic.Lib.VecWindow

/-! # What the kernel computes for one row of queries

The kernel treats four rows of 64 queries per grid point, all four by the same text. Here that text is written once, as functions of the values a row loads, together with the
two accumulators' updates; `Run.lean` shows that the body leaves exactly these. -/

@[expose] public section

set_option maxRecDepth 16384

noncomputable section

namespace Cert.KernelIdeal.Gen

open Idealize.ShloMosaic

variable {F : FTy → Type} [FloatOps F]

/-- What a row of queries loads: its queries, the keys and values of its window, those of the context, the biases and the gradient of its output. -/
structure RowIn (F : FTy → Type) where
  q : FVec F S64x256 .bf16
  kw : FVec F S512x256 .bf16
  vw : FVec F S512x256 .bf16
  kc : FVec F S256x256 .bf16
  vc : FVec F S256x256 .bf16
  bias : FVec F S256x512 .f32
  g : FVec F S64x256 .f32

/-- The lanes of head `h` among the four heads side by side. -/
def headMask (h : BitVec 32) : IVec S64x256 1 :=
  broadcastTo S64x256 (shapeCast S1x256 (cmpi .eq (shrsi (iota .tc S1x256 32 [1] iota_S1x256_d1_w32) (broadcast S1x256 6#32)) (broadcast S1x256 h)) shapeCasts_S1x256_S1x256)
    broadcasts_S1x256_S64x256

/-- `x` with the lanes of the other heads zero. -/
def oneHead (x : FVec F S64x256 .bf16) (h : BitVec 32) : FVec F S64x256 .bf16 :=
  select (headMask h) x (broadcast S64x256 (Scalar.ofBits .bf16 0x0000#16))

/-- The four heads of `x` one under the other, each with the other heads' lanes zero. -/
def stack (x : FVec F S64x256 .bf16) : FVec F S256x256 .bf16 :=
  concatenate S256x256 0 [⟨S64x256, oneHead x 0#32⟩, ⟨S64x256, oneHead x 1#32⟩, ⟨S64x256, oneHead x 2#32⟩, ⟨S64x256, oneHead x 3#32⟩]
    concatenates_S64x256_S64x256_S64x256_S64x256_S256x256_d0

/-- Every head's lanes of its own quarter of `y`. -/
def unstack (y : FVec F S256x256 .f32) : FVec F S64x256 .f32 :=
  select (headMask 3#32) (extractStridedSlice S64x256 ![192, 0] y slices_S256x256_o192_0_S64x256)
    (select (headMask 2#32) (extractStridedSlice S64x256 ![128, 0] y slices_S256x256_o128_0_S64x256)
      (select (headMask 1#32) (extractStridedSlice S64x256 ![64, 0] y slices_S256x256_o64_0_S64x256)
        (select (headMask 0#32) (extractStridedSlice S64x256 ![0, 0] y slices_S256x256_o0_0_S64x256)
          (broadcast S64x256 (Scalar.ofBits .f32 0x00000000#32)))))

/-- A column along the window's keys. -/
def wideW (x : FVec F S256x1 .f32) : FVec F S256x512 .f32 := broadcastTo S256x512 x broadcasts_S256x1_S256x512
/-- A column along the context's keys. -/
def wideC (x : FVec F S256x1 .f32) : FVec F S256x256 .f32 := broadcastTo S256x256 x broadcasts_S256x1_S256x256
/-- The sums of the rows over the window's keys. -/
def sumW (x : FVec F S256x512 .f32) : FVec F S256x1 .f32 :=
  shapeCast S256x1 (multiReduction .add [1] S256 x 0x00000000#32 reduces_S256x512_S256 (.inl rfl) rfl) shapeCasts_S256_S256x1
/-- The sums of the rows over the context's keys. -/
def sumC (x : FVec F S256x256 .f32) : FVec F S256x1 .f32 :=
  shapeCast S256x1 (multiReduction .add [1] S256 x 0x00000000#32 reduces_S256x256_S256 (.inl rfl) rfl) shapeCasts_S256_S256x1
/-- The largest entries of the rows, of the window's and of the context's. -/
def rowMax (sw : FVec F S256x512 .f32) (sc : FVec F S256x256 .f32) : FVec F S256x1 .f32 :=
  maximumf (shapeCast S256x1 (multiReduction .maximumf [1] S256 sw 0xFF800000#32 reduces_S256x512_S256 (.inl rfl) rfl) shapeCasts_S256_S256x1)
    (shapeCast S256x1 (multiReduction .maximumf [1] S256 sc 0xFF800000#32 reduces_S256x256_S256 (.inl rfl) rfl) shapeCasts_S256_S256x1)

/-- The products of 256 stacked rows with the 512 rows of a window. -/
def dotW (x : FVec F S256x256 .bf16) (y : FVec F S512x256 .bf16) : FVec F S256x512 .f32 :=
  matmul dot_S256x256_S512x256_S256x512_1_1_0_0_n_n none x y (constant S256x512 .f32 0x00000000#32)
/-- The products of 256 stacked rows with the 256 rows of the context. -/
def dotC (x : FVec F S256x256 .bf16) (y : FVec F S256x256 .bf16) : FVec F S256x256 .f32 :=
  matmul dot_S256x256_S256x256_S256x256_1_1_0_0_n_n none x y (constant S256x256 .f32 0x00000000#32)

/-- The logits of the window's keys. -/
def logitW (ρ : RowIn F) : FVec F S256x512 .f32 := addf (dotW (stack ρ.q) ρ.kw) ρ.bias
/-- The logits of the context's keys. -/
def logitC (ρ : RowIn F) : FVec F S256x256 .f32 := dotC (stack ρ.q) ρ.kc
/-- The exponentials of the window's logits. -/
def expW (ρ : RowIn F) : FVec F S256x512 .f32 := exp (subf (logitW ρ) (wideW (rowMax (logitW ρ) (logitC ρ))))
/-- The exponentials of the context's logits. -/
def expC (ρ : RowIn F) : FVec F S256x256 .f32 := exp (subf (logitC ρ) (wideC (rowMax (logitW ρ) (logitC ρ))))
/-- One over the normaliser. -/
def rowInv (ρ : RowIn F) : FVec F S256x1 .f32 :=
  divf (broadcast S256x1 (Scalar.ofBits .f32 0x3F800000#32)) (addf (sumW (expW ρ)) (sumC (expC ρ)))
/-- The window's probabilities. -/
def probW (ρ : RowIn F) : FVec F S256x512 .f32 := mulf (expW ρ) (wideW (rowInv ρ))
/-- The context's probabilities. -/
def probC (ρ : RowIn F) : FVec F S256x256 .f32 := mulf (expC ρ) (wideC (rowInv ρ))
/-- The gradient of the output, stacked. -/
def stackG (ρ : RowIn F) : FVec F S256x256 .bf16 := stack (truncf .bf16 ρ.g bitsLt_bf16_f32)
/-- The gradient of the window's probabilities. -/
def gradPW (ρ : RowIn F) : FVec F S256x512 .f32 := dotW (stackG ρ) ρ.vw
/-- The gradient of the context's probabilities. -/
def gradPC (ρ : RowIn F) : FVec F S256x256 .f32 := dotC (stackG ρ) ρ.vc
/-- The mean of the probabilities' gradient under the probabilities. -/
def delta (ρ : RowIn F) : FVec F S256x1 .f32 := addf (sumW (mulf (probW ρ) (gradPW ρ))) (sumC (mulf (probC ρ) (gradPC ρ)))
/-- The gradient of the window's logits. -/
def gradSW (ρ : RowIn F) : FVec F S256x512 .bf16 := truncf .bf16 (mulf (probW ρ) (subf (gradPW ρ) (wideW (delta ρ)))) bitsLt_bf16_f32
/-- The gradient of the context's logits. -/
def gradSC (ρ : RowIn F) : FVec F S256x256 .bf16 := truncf .bf16 (mulf (probC ρ) (subf (gradPC ρ) (wideC (delta ρ)))) bitsLt_bf16_f32

/-- The gradient of the row's queries. -/
def rowQ (ρ : RowIn F) : FVec F S64x256 .f32 :=
  unstack (addf (matmul dot_S256x512_S512x256_S256x256_1_0_0_1_n_n none (gradSW ρ) ρ.kw (constant S256x256 .f32 0x00000000#32))
    (matmul dot_S256x256_S256x256_S256x256_1_0_0_1_n_n none (gradSC ρ) ρ.kc (constant S256x256 .f32 0x00000000#32)))
/-- What a stacked gradient `w` of the window's scores and the stacked rows `x` give the window's keys or values. -/
def pullW (w : FVec F S256x512 .bf16) (x : FVec F S256x256 .bf16) : FVec F S512x256 .f32 :=
  matmul dot_S256x512_S256x256_S512x256_0_0_1_1_n_n none w x (constant S512x256 .f32 0x00000000#32)
/-- The same for the context's keys or values. -/
def pullC (w : FVec F S256x256 .bf16) (x : FVec F S256x256 .bf16) : FVec F S256x256 .f32 :=
  matmul dot_S256x256_S256x256_S256x256_0_0_1_1_n_n none w x (constant S256x256 .f32 0x00000000#32)
/-- The row's share of the gradient of its window's keys. -/
def rowKW (ρ : RowIn F) : FVec F S512x256 .f32 := pullW (gradSW ρ) (stack ρ.q)
/-- The row's share of the gradient of the context's keys. -/
def rowKC (ρ : RowIn F) : FVec F S256x256 .f32 := pullC (gradSC ρ) (stack ρ.q)
/-- The row's share of the gradient of its window's values. -/
def rowVW (ρ : RowIn F) : FVec F S512x256 .f32 := pullW (truncf .bf16 (probW ρ) bitsLt_bf16_f32) (stackG ρ)
/-- The row's share of the gradient of the context's values. -/
def rowVC (ρ : RowIn F) : FVec F S256x256 .f32 := pullC (truncf .bf16 (probC ρ) bitsLt_bf16_f32) (stackG ρ)

/-- The first row of the window of keys of query row `4 * j + r`. -/
abbrev row0 (i : grid0.Coords) (r : ℕ) : ℕ := min 24 (4 * (i 2).val + r - 4)

/-- Rows `o … o + 511` of a block of keys. -/
def slabW {e : EltTy} (x : Vec F S1x2304x256 e) (o : ℕ) (h : o ≤ 1792) : Vec F S1x512x256 e :=
  VecWindow.window x ![0, o, 0] S1x512x256.size (fun a => by fin_cases a <;> simp [S1x2304x256, S1x512x256] <;> omega)
/-- The first 256 rows of a block of keys: the context's. -/
def slabC {e : EltTy} (x : Vec F S1x2304x256 e) : Vec F S1x256x256 e :=
  VecWindow.window x ![0, 0, 0] S1x256x256.size (fun a => by fin_cases a <;> simp [S1x2304x256, S1x256x256])
/-- Rows `64 * r … 64 * r + 63` of a block of queries. -/
def slabQ {e : EltTy} (x : Vec F S1x256x256 e) (r : Fin 4) : Vec F S1x64x256 e :=
  VecWindow.window x ![0, 64 * r.val, 0] S1x64x256.size (fun a => by fin_cases a <;> simp [S1x256x256, S1x64x256] <;> omega)

theorem row0_le (i : grid0.Coords) (r : ℕ) : 256 + 64 * row0 i r ≤ 1792 := by
  have : row0 i r ≤ 24 := Nat.min_le_left _ _
  omega

/-- What row `r` of a grid point loads. -/
def rowIn (i : grid0.Coords) (x0 : Vec F S1x256x256 .bf16) (x1 x2 : Vec F S1x2304x256 .bf16) (xb : Vec F S1x1x256x512 .f32) (x7 : Vec F S1x256x256 .f32) (r : Fin 4) : RowIn F where
  q := shapeCast S64x256 (slabQ x0 r) shapeCasts_S1x64x256_S64x256
  kw := shapeCast S512x256 (slabW x1 (256 + 64 * row0 i r.val) (row0_le i r.val)) shapeCasts_S1x512x256_S512x256
  vw := shapeCast S512x256 (slabW x2 (256 + 64 * row0 i r.val) (row0_le i r.val)) shapeCasts_S1x512x256_S512x256
  kc := shapeCast S256x256 (slabC x1) shapeCasts_S1x256x256_S256x256
  vc := shapeCast S256x256 (slabC x2) shapeCasts_S1x256x256_S256x256
  bias := shapeCast S256x512 xb shapeCasts_S1x1x256x512_S256x512
  g := shapeCast S64x256 (slabQ x7 r) shapeCasts_S1x64x256_S64x256

/-- Four rows' gradients of queries put one under the other over `X`. -/
def outQOver (Q : Fin 4 → FVec F S64x256 .f32) (X : Vec F S1x256x256 .f32) : Vec F S1x256x256 .f32 :=
  VecWindow.put (VecWindow.put (VecWindow.put (VecWindow.put X
    ![0, 0, 0] S1x64x256.size (shapeCast S1x64x256 (Q 0) shapeCasts_S64x256_S1x64x256))
    ![0, 64, 0] S1x64x256.size (shapeCast S1x64x256 (Q 1) shapeCasts_S64x256_S1x64x256))
    ![0, 128, 0] S1x64x256.size (shapeCast S1x64x256 (Q 2) shapeCasts_S64x256_S1x64x256))
    ![0, 192, 0] S1x64x256.size (shapeCast S1x64x256 (Q 3) shapeCasts_S64x256_S1x64x256)

/-- The block of gradients of queries: the four rows' one under the other. -/
def outQ (Q : Fin 4 → FVec F S64x256 .f32) : Vec F S1x256x256 .f32 := outQOver Q (broadcast S1x256x256 (Scalar.ofBits .f32 0x00000000#32))

/-- The four rows cover the block. -/
theorem outQ_cover (Q : Fin 4 → FVec F S64x256 .f32) (X X' : Vec F S1x256x256 .f32) : outQOver Q X = outQOver Q X' := by
  funext y
  have h0 : (y 0).val < 1 := (y 0).isLt
  have h1 : (y 1).val < 256 := (y 1).isLt
  have h2 : (y 2).val < 256 := (y 2).isLt
  have cov : ∀ (a : ℕ) (x x' : Vec F S1x256x256 .f32) (w : Vec F S1x64x256 .f32), (a ≤ (y 1).val ∧ (y 1).val < a + 64 ∨ x y = x' y) →
      VecWindow.put x ![0, a, 0] S1x64x256.size w y = VecWindow.put x' ![0, a, 0] S1x64x256.size w y := by
    intro a x x' w h
    unfold VecWindow.put
    by_cases hc : ∀ k : Fin 3, (![0, a, 0] : Fin 3 → ℕ) k ≤ (y k).val ∧ (y k).val < (![0, a, 0] : Fin 3 → ℕ) k + S1x64x256.size k
    · rw [dif_pos hc, dif_pos hc]
    · rw [dif_neg hc, dif_neg hc]
      refine h.resolve_left fun hh => hc fun k => ?_
      fin_cases k
      · exact ⟨Nat.zero_le _, by show (y 0).val < 0 + 1; omega⟩
      · exact hh
      · exact ⟨Nat.zero_le _, by show (y 2).val < 0 + 256; omega⟩
  refine cov 192 _ _ _ ?_
  by_cases c3 : 192 ≤ (y 1).val
  · exact .inl ⟨c3, by omega⟩
  refine .inr (cov 128 _ _ _ ?_)
  by_cases c2 : 128 ≤ (y 1).val
  · exact .inl ⟨c2, by omega⟩
  refine .inr (cov 64 _ _ _ ?_)
  by_cases c1 : 64 ≤ (y 1).val
  · exact .inl ⟨c1, by omega⟩
  exact .inr (cov 0 _ _ _ (.inl ⟨Nat.zero_le _, by omega⟩))

/-- What an accumulating store of `w` writes over what it loaded, at a window. -/
def bumpW (w : FVec F S512x256 .f32) (z : Vec F S1x512x256 .f32) : Vec F S1x512x256 .f32 :=
  shapeCast S1x512x256 (addf (shapeCast S512x256 z shapeCasts_S1x512x256_S512x256) w) shapeCasts_S512x256_S1x512x256
/-- The same at the context. -/
def bumpC (w : FVec F S256x256 .f32) (z : Vec F S1x256x256 .f32) : Vec F S1x256x256 .f32 :=
  shapeCast S1x256x256 (addf (shapeCast S256x256 z shapeCasts_S1x256x256_S256x256) w) shapeCasts_S256x256_S1x256x256
/-- `w` added to the rows of a window. -/
def addW (X : Vec F S1x2304x256 .f32) (o : ℕ) (h : o ≤ 1792) (w : FVec F S512x256 .f32) : Vec F S1x2304x256 .f32 :=
  VecWindow.put X ![0, o, 0] S1x512x256.size (bumpW w (slabW X o h))
/-- `w` added to the rows of the context. -/
def addC (X : Vec F S1x2304x256 .f32) (w : FVec F S256x256 .f32) : Vec F S1x2304x256 .f32 :=
  VecWindow.put X ![0, 0, 0] S1x256x256.size (bumpC w (slabC X))
/-- One row's two shares added. -/
def addRow (i : grid0.Coords) (r : Fin 4) (W : Fin 4 → FVec F S512x256 .f32) (C : Fin 4 → FVec F S256x256 .f32) (X : Vec F S1x2304x256 .f32) : Vec F S1x2304x256 .f32 :=
  addC (addW X (256 + 64 * row0 i r.val) (row0_le i r.val) (W r)) (C r)
/-- A grid point's four rows' shares added. -/
def accum (i : grid0.Coords) (W : Fin 4 → FVec F S512x256 .f32) (C : Fin 4 → FVec F S256x256 .f32) (X : Vec F S1x2304x256 .f32) : Vec F S1x2304x256 .f32 :=
  addRow i 3 W C (addRow i 2 W C (addRow i 1 W C (addRow i 0 W C X)))

end Cert.KernelIdeal.Gen

end
-- ==== Proof.Stages.lean ====
module

public import proofs.«01_k».proof.Proof.Row

/-! # The body's values are the row functions

The kernel treats the four rows in lockstep, so that the printed text has four copies of a row's operations, cut at different places. Each lemma here takes one stage of one row:
whatever equals the row's earlier values, the printed value is the stage's function of the row. -/

@[expose] public section

set_option maxRecDepth 16384

noncomputable section

namespace Cert.KernelIdeal.Gen

open Idealize.ShloMosaic

variable {F : FTy → Type} [FloatOps F] {ρ : RowIn F}
variable {q : FVec F S64x256 .bf16} {kw vw : FVec F S512x256 .bf16} {kc vc : FVec F S256x256 .bf16} {b : FVec F S256x512 .f32} {g : FVec F S64x256 .f32}
variable {s sg : FVec F S256x256 .bf16} {lw pw gw : FVec F S256x512 .f32} {lc pc gc : FVec F S256x256 .f32} {dw : FVec F S256x512 .bf16} {dc : FVec F S256x256 .bf16}

/-- The lanes' numbers. -/
abbrev lanes : IVec S1x256 32 := iota .tc S1x256 32 [1] iota_S1x256_d1_w32

/-! ## Row 0 -/

theorem stack_0 (hq : q = ρ.q) : k0_pay29 q = stack ρ.q := by
  subst hq; rfl
theorem logitW_0 (hq : q = ρ.q) (hkw : kw = ρ.kw) (hb : b = ρ.bias) : k0_pay31 b (k0_pay30 q kw) = logitW ρ := by
  subst hq hkw hb; rfl
theorem probW_0 (hkc : kc = ρ.kc) (hs : s = stack ρ.q) (hlw : lw = logitW ρ) : k0_pay52 (k0_pay48 kc s lw) (k0_pay51 kc s lw) = probW ρ := by
  subst hkc hs hlw; rfl
theorem probC_0 (hkc : kc = ρ.kc) (hs : s = stack ρ.q) (hlw : lw = logitW ρ) : k0_pay53 (k0_pay49 kc s lw) (k0_pay50 kc s lw) = probC ρ := by
  subst hkc hs hlw; rfl
theorem stackG_0 (hg : g = ρ.g) : k0_pay54 g = stackG ρ := by
  subst hg; rfl
theorem gradPW_0 (hvw : vw = ρ.vw) (hg : g = ρ.g) : k0_pay55 vw g = gradPW ρ := by
  subst hvw hg; rfl
theorem gradSW_0 (hvc : vc = ρ.vc) (hsg : sg = stackG ρ) (hpw : pw = probW ρ) (hpc : pc = probC ρ) (hgw : gw = gradPW ρ) : k0_pay97 (k0_pay96 vc pw pc sg gw) = gradSW ρ := by
  subst hvc hsg hpw hpc hgw; rfl
theorem gradSC_0 (hvc : vc = ρ.vc) (hsg : sg = stackG ρ) (hpw : pw = probW ρ) (hpc : pc = probC ρ) (hgw : gw = gradPW ρ) : k0_pay98 pc (k0_pay91 vc sg) (k0_pay95 vc pw pc sg gw) = gradSC ρ := by
  subst hvc hsg hpw hpc hgw; rfl
theorem rowQ_0 (hkw : kw = ρ.kw) (hkc : kc = ρ.kc) (hvc : vc = ρ.vc) (hsg : sg = stackG ρ) (hpw : pw = probW ρ) (hpc : pc = probC ρ) (hgw : gw = gradPW ρ) (hdc : dc = gradSC ρ) : k0_pay133 (k0_pay115 kc dc (k0_pay99 kw (k0_pay96 vc pw pc sg gw))) lanes (k0_pay132 kc dc (k0_pay99 kw (k0_pay96 vc pw pc sg gw))) = rowQ ρ := by
  subst hkw hkc hvc hsg hpw hpc hgw hdc; rfl
theorem rowKW_0 (hs : s = stack ρ.q) (hdw : dw = gradSW ρ) : k0_pay119 s dw = rowKW ρ := by
  subst hs hdw; rfl
theorem rowVW_0 (hsg : sg = stackG ρ) (hpw : pw = probW ρ) : k0_pay123 pw sg = rowVW ρ := by
  subst hsg hpw; rfl
theorem rowKC_0 (hs : s = stack ρ.q) (hdc : dc = gradSC ρ) : k0_pay127 s dc = rowKC ρ := by
  subst hs hdc; rfl
theorem rowVC_0 (hsg : sg = stackG ρ) (hpc : pc = probC ρ) : k0_pay131 pc sg = rowVC ρ := by
  subst hsg hpc; rfl

/-! ## Row 1 -/

theorem stack_1 (hq : q = ρ.q) : k0_pay32 q = stack ρ.q := by
  subst hq; rfl
theorem logitW_1 (hq : q = ρ.q) (hkw : kw = ρ.kw) (hb : b = ρ.bias) : k0_pay33 q kw b = logitW ρ := by
  subst hq hkw hb; rfl
theorem logitC_1 (hkc : kc = ρ.kc) (hs : s = stack ρ.q) : k0_pay44 kc s = logitC ρ := by
  subst hkc hs; rfl
theorem probW_1 (hlw : lw = logitW ρ) (hlc : lc = logitC ρ) : k0_pay61 lw lc (k0_pay56 lw lc) (k0_pay57 lw lc) = probW ρ := by
  subst hlw hlc; rfl
theorem probC_1 (hlw : lw = logitW ρ) (hlc : lc = logitC ρ) : k0_pay62 lw lc (k0_pay56 lw lc) (k0_pay57 lw lc) = probC ρ := by
  subst hlw hlc; rfl
theorem stackG_1 (hg : g = ρ.g) : k0_pay68 (k0_pay63 g) (k0_pay64 g) (k0_pay65 g) (k0_pay66 g) k0_pay67 = stackG ρ := by
  subst hg; rfl
theorem gradPW_1 (hvw : vw = ρ.vw) (hg : g = ρ.g) : k0_pay69 vw (k0_pay63 g) (k0_pay64 g) (k0_pay65 g) (k0_pay66 g) k0_pay67 = gradPW ρ := by
  subst hvw hg; rfl
theorem gradPC_1 (hvc : vc = ρ.vc) (hsg : sg = stackG ρ) : k0_pay92 vc sg = gradPC ρ := by
  subst hvc hsg; rfl
theorem gradSW_1 (hpw : pw = probW ρ) (hpc : pc = probC ρ) (hgw : gw = gradPW ρ) (hgc : gc = gradPC ρ) : k0_pay102 pw pc gw gc = gradSW ρ := by
  subst hpw hpc hgw hgc; rfl
theorem gradSC_1 (hpw : pw = probW ρ) (hpc : pc = probC ρ) (hgw : gw = gradPW ρ) (hgc : gc = gradPC ρ) : k0_pay103 pw pc gw gc = gradSC ρ := by
  subst hpw hpc hgw hgc; rfl
theorem rowQ_1 (hkw : kw = ρ.kw) (hkc : kc = ρ.kc) (hpw : pw = probW ρ) (hpc : pc = probC ρ) (hgw : gw = gradPW ρ) (hgc : gc = gradPC ρ) (hdc : dc = gradSC ρ) : k0_pay137 (k0_pay116 kc dc (k0_pay104 kw pw pc gw gc)) lanes (k0_pay135 (k0_pay116 kc dc (k0_pay104 kw pw pc gw gc))) k0_pay136 2#32 = rowQ ρ := by
  subst hkw hkc hpw hpc hgw hgc hdc; rfl
theorem rowKW_1 (hs : s = stack ρ.q) (hdw : dw = gradSW ρ) : k0_pay120 s dw = rowKW ρ := by
  subst hs hdw; rfl
theorem rowVW_1 (hsg : sg = stackG ρ) (hpw : pw = probW ρ) : k0_pay124 pw sg = rowVW ρ := by
  subst hsg hpw; rfl
theorem rowKC_1 (hs : s = stack ρ.q) (hdc : dc = gradSC ρ) : k0_pay128 s dc = rowKC ρ := by
  subst hs hdc; rfl
theorem rowVC_1 (hsg : sg = stackG ρ) (hpc : pc = probC ρ) : k0_pay134 pc sg = rowVC ρ := by
  subst hsg hpc; rfl

/-! ## Row 2 -/

theorem stack_2 (hq : q = ρ.q) : k0_pay36 q lanes k0_pay34 k0_pay35 = stack ρ.q := by
  subst hq; rfl
theorem logitW_2 (hq : q = ρ.q) (hkw : kw = ρ.kw) (hb : b = ρ.bias) : k0_pay37 q kw b lanes k0_pay34 k0_pay35 = logitW ρ := by
  subst hq hkw hb; rfl
theorem logitC_2 (hkc : kc = ρ.kc) (hs : s = stack ρ.q) : k0_pay45 kc s = logitC ρ := by
  subst hkc hs; rfl
theorem probW_2 (hlw : lw = logitW ρ) (hlc : lc = logitC ρ) : k0_pay74 lw lc = probW ρ := by
  subst hlw hlc; rfl
theorem probC_2 (hlw : lw = logitW ρ) (hlc : lc = logitC ρ) : k0_pay75 lw lc = probC ρ := by
  subst hlw hlc; rfl
theorem stackG_2 (hg : g = ρ.g) : k0_pay79 (k0_pay76 g) lanes (k0_pay77 g) (k0_pay78 g) 6#32 = stackG ρ := by
  subst hg; rfl
theorem gradPW_2 (hvw : vw = ρ.vw) (hg : g = ρ.g) : k0_pay80 vw (k0_pay76 g) lanes (k0_pay77 g) (k0_pay78 g) 6#32 = gradPW ρ := by
  subst hvw hg; rfl
theorem gradPC_2 (hvc : vc = ρ.vc) (hsg : sg = stackG ρ) : k0_pay93 vc sg = gradPC ρ := by
  subst hvc hsg; rfl
theorem gradSW_2 (hpw : pw = probW ρ) (hpc : pc = probC ρ) (hgw : gw = gradPW ρ) (hgc : gc = gradPC ρ) : k0_pay107 pw pc gw gc = gradSW ρ := by
  subst hpw hpc hgw hgc; rfl
theorem gradSC_2 (hpw : pw = probW ρ) (hpc : pc = probC ρ) (hgw : gw = gradPW ρ) (hgc : gc = gradPC ρ) : k0_pay108 pw pc gw gc = gradSC ρ := by
  subst hpw hpc hgw hgc; rfl
theorem rowQ_2 (hkw : kw = ρ.kw) (hkc : kc = ρ.kc) (hpw : pw = probW ρ) (hpc : pc = probC ρ) (hgw : gw = gradPW ρ) (hgc : gc = gradPC ρ) (hdc : dc = gradSC ρ) : k0_pay142 (k0_pay139 (k0_pay117 kc dc (k0_pay109 kw pw pc gw gc))) (k0_pay140 (k0_pay117 kc dc (k0_pay109 kw pw pc gw gc))) k0_pay141 = rowQ ρ := by
  subst hkw hkc hpw hpc hgw hgc hdc; rfl
theorem rowKW_2 (hs : s = stack ρ.q) (hdw : dw = gradSW ρ) : k0_pay121 s dw = rowKW ρ := by
  subst hs hdw; rfl
theorem rowVW_2 (hsg : sg = stackG ρ) (hpw : pw = probW ρ) : k0_pay125 pw sg = rowVW ρ := by
  subst hsg hpw; rfl
theorem rowKC_2 (hs : s = stack ρ.q) (hdc : dc = gradSC ρ) : k0_pay129 s dc = rowKC ρ := by
  subst hs hdc; rfl
theorem rowVC_2 (hsg : sg = stackG ρ) (hpc : pc = probC ρ) : k0_pay138 pc sg = rowVC ρ := by
  subst hsg hpc; rfl

/-! ## Row 3 -/

theorem stack_3 (hq : q = ρ.q) : k0_pay41 q lanes (k0_pay38 q) k0_pay39 k0_pay40 = stack ρ.q := by
  subst hq; rfl
theorem logitW_3 (hq : q = ρ.q) (hkw : kw = ρ.kw) (hb : b = ρ.bias) : k0_pay42 q kw b lanes (k0_pay38 q) k0_pay39 k0_pay40 = logitW ρ := by
  subst hq hkw hb; rfl
theorem logitC_3 (hq : q = ρ.q) (hkc : kc = ρ.kc) : k0_pay46 kc q lanes (k0_pay38 q) k0_pay39 k0_pay40 = logitC ρ := by
  subst hq hkc; rfl
theorem probW_3 (hlw : lw = logitW ρ) (hlc : lc = logitC ρ) : k0_pay85 lw lc = probW ρ := by
  subst hlw hlc; rfl
theorem probC_3 (hlw : lw = logitW ρ) (hlc : lc = logitC ρ) : k0_pay86 lw lc = probC ρ := by
  subst hlw hlc; rfl
theorem stackG_3 (hg : g = ρ.g) : k0_pay89 (k0_pay87 g) lanes k0_pay88 (Scalar.ofBits .bf16 0x0000#16) = stackG ρ := by
  subst hg; rfl
theorem gradPW_3 (hvw : vw = ρ.vw) (hg : g = ρ.g) : k0_pay90 vw (k0_pay87 g) lanes k0_pay88 (Scalar.ofBits .bf16 0x0000#16) = gradPW ρ := by
  subst hvw hg; rfl
theorem gradPC_3 (hvc : vc = ρ.vc) (hg : g = ρ.g) : k0_pay94 vc (k0_pay87 g) lanes k0_pay88 (Scalar.ofBits .bf16 0x0000#16) = gradPC ρ := by
  subst hvc hg; rfl
theorem rowQ_3 (hkw : kw = ρ.kw) (hkc : kc = ρ.kc) (hpw : pw = probW ρ) (hpc : pc = probC ρ) (hgw : gw = gradPW ρ) (hgc : gc = gradPC ρ) : k0_pay144 (k0_pay118 kc kw (k0_pay111 pw pc gw gc) (k0_pay112 pw pc gw gc)) = rowQ ρ := by
  subst hkw hkc hpw hpc hgw hgc; rfl
theorem rowKW_3 (hs : s = stack ρ.q) (hpw : pw = probW ρ) (hpc : pc = probC ρ) (hgw : gw = gradPW ρ) (hgc : gc = gradPC ρ) : k0_pay122 s (k0_pay111 pw pc gw gc) = rowKW ρ := by
  subst hs hpw hpc hgw hgc; rfl
theorem rowVW_3 (hsg : sg = stackG ρ) (hpw : pw = probW ρ) : k0_pay126 pw sg = rowVW ρ := by
  subst hsg hpw; rfl
theorem rowKC_3 (hs : s = stack ρ.q) (hpw : pw = probW ρ) (hpc : pc = probC ρ) (hgw : gw = gradPW ρ) (hgc : gc = gradPC ρ) : k0_pay130 s (k0_pay112 pw pc gw gc) = rowKC ρ := by
  subst hs hpw hpc hgw hgc; rfl
theorem rowVC_3 (hsg : sg = stackG ρ) (hpc : pc = probC ρ) : k0_pay143 pc sg = rowVC ρ := by
  subst hsg hpc; rfl

theorem bumpW_of {a w : FVec F S512x256 .f32} {l : Vec F S1x512x256 .f32} (h : a = w) : bumpW a l = bumpW w l := by rw [h]
theorem bumpC_of {a w : FVec F S256x256 .f32} {l : Vec F S1x256x256 .f32} (h : a = w) : bumpC a l = bumpC w l := by rw [h]

end Cert.KernelIdeal.Gen

end
-- ==== Proof.Run.lean ====
module

public import proofs.«01_k».proof.Proof.Stages

/-! # The body's run

What the body leaves in the four windows it writes, by the two conditionals: the block of gradients of queries, the two accumulators with the four rows' shares added (to zero at a
batch entry's first block of rows, to what was there elsewhere), and anything in the table of biases' gradients. -/

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test of the first conditional: the first pair of a group's first block of rows. -/
abbrev k0_cond1 (i : grid0.Coords) : BitVec 1 :=
  Scalar.cmpi .ne (Scalar.extui (Scalar.andi (Scalar.cmpi .eq (BitVec.ofNat 32 (i 1).val) 0#32) (Scalar.cmpi .eq (BitVec.ofNat 32 (i 2).val) 0#32)) : BitVec 32) 0#32
/-- The test of the second conditional: a batch entry's first block of rows. -/
abbrev k0_cond2 (i : grid0.Coords) : BitVec 1 :=
  Scalar.cmpi .ne (Scalar.extui (Scalar.cmpi .eq (BitVec.ofNat 32 (i 2).val) 0#32) : BitVec 32) 0#32

theorem off1_eq (i : grid0.Coords) (r : Fin 4) : k0_off1 i (BitVec.ofNat 32 r.val) = ![0, 256 + 64 * row0 i r.val, 0] := by
  have h : (i 2).val < 8 := (i 2).isLt
  have key : ∀ (j : Fin 8) (r : Fin 4), (Scalar.indexCast (Scalar.addi 256#32 (Scalar.muli (Scalar.minsi 24#32 (Scalar.maxsi 0#32 (Scalar.subi (Scalar.addi (Scalar.muli 4#32 (BitVec.ofNat 32 j.val)) (BitVec.ofNat 32 r.val)) 4#32))) 64#32)) : Index).toNat
      = 256 + 64 * min 24 (4 * j.val + r.val - 4) := by decide +kernel
  exact congrArg (fun n : ℕ => (![0, n, 0] : Fin 3 → ℕ)) (key ⟨_, h⟩ r)

theorem off2_eq (i : grid0.Coords) (r : Fin 4) : k0_off2 i (BitVec.ofNat 32 r.val) = ![row0 i r.val + 7 - (4 * (i 2).val + r.val), 0, 0, 0] := by
  have h : (i 2).val < 8 := (i 2).isLt
  have key : ∀ (j : Fin 8) (r : Fin 4), (Scalar.indexCast (Scalar.subi (Scalar.addi (Scalar.subi (Scalar.minsi 24#32 (Scalar.maxsi 0#32 (Scalar.subi (Scalar.addi (Scalar.muli 4#32 (BitVec.ofNat 32 j.val)) (BitVec.ofNat 32 r.val)) 4#32))) (Scalar.addi (Scalar.muli 4#32 (BitVec.ofNat 32 j.val)) (BitVec.ofNat 32 r.val))) 8#32) 1#32) : Index).toNat
      = min 24 (4 * j.val + r.val - 4) + 7 - (4 * j.val + r.val) := by decide +kernel
  exact congrArg (fun n : ℕ => (![n, 0, 0, 0] : Fin 4 → ℕ)) (key ⟨_, h⟩ r)

instance (i : grid0.Coords) : ClosedOff (k0_off1 i 0#32) := ⟨_, off1_eq i 0⟩
instance (i : grid0.Coords) : ClosedOff (k0_off1 i 1#32) := ⟨_, off1_eq i 1⟩
instance (i : grid0.Coords) : ClosedOff (k0_off1 i 2#32) := ⟨_, off1_eq i 2⟩
instance (i : grid0.Coords) : ClosedOff (k0_off1 i 3#32) := ⟨_, off1_eq i 3⟩
instance (i : grid0.Coords) : ClosedOff (k0_off2 i 0#32) := ⟨_, off2_eq i 0⟩
instance (i : grid0.Coords) : ClosedOff (k0_off2 i 1#32) := ⟨_, off2_eq i 1⟩
instance (i : grid0.Coords) : ClosedOff (k0_off2 i 2#32) := ⟨_, off2_eq i 2⟩
instance (i : grid0.Coords) : ClosedOff (k0_off2 i 3#32) := ⟨_, off2_eq i 3⟩

/-- What the four rows of a grid point load. -/
def rows (i : grid0.Coords) (x0 : Vec F S1x256x256 .bf16) (x1 x2 : Vec F S1x2304x256 .bf16) (x3 x4 x5 x6 : Vec F S1x1x256x512 .f32) (x7 : Vec F S1x256x256 .f32) (r : Fin 4) : RowIn F :=
  rowIn i x0 x1 x2 (![x3, x4, x5, x6] r) x7 r

/-- The rows' values as the body's loads read them. -/
theorem rowIn_loads (i : grid0.Coords) (arg3 : Memref sig .tc .vmem S1x256x256 .bf16) (harg3 : arg3.IsWhole) (arg4 : Memref sig .tc .vmem S1x2304x256 .bf16) (harg4 : arg4.IsWhole)
    (arg5 : Memref sig .tc .vmem S1x2304x256 .bf16) (harg5 : arg5.IsWhole) (arg6 : Memref sig .tc .vmem S1x1x256x512 .f32) (harg6 : arg6.IsWhole)
    (arg10 : Memref sig .tc .vmem S1x256x256 .f32) (harg10 : arg10.IsWhole)
    (x0 : Vec F S1x256x256 .bf16) (x1 x2 : Vec F S1x2304x256 .bf16) (xb : Vec F S1x1x256x512 .f32) (x7 : Vec F S1x256x256 .f32) (r : Fin 4)
    (hq : ∀ a, (![0, 64 * r.val, 0] : Fin 3 → ℕ) a + S1x64x256.size a ≤ S1x256x256.size a) :
    rowIn i x0 x1 x2 xb x7 r =
      { q := shapeCast S64x256 (arg3.view.readAt (Elt F) (Rect.unit (s := S1x256x256) ![0, 64 * r.val, 0] S1x64x256.size hq).toLoadRect (harg3.unread x0)) shapeCasts_S1x64x256_S64x256
        kw := shapeCast S512x256 (arg4.view.readAt (Elt F) (Rect.unit (s := S1x2304x256) (k0_off1 i (BitVec.ofNat 32 r.val)) S1x512x256.size (k0_off1_inb i r)).toLoadRect (harg4.unread x1)) shapeCasts_S1x512x256_S512x256
        vw := shapeCast S512x256 (arg5.view.readAt (Elt F) (Rect.unit (s := S1x2304x256) (k0_off1 i (BitVec.ofNat 32 r.val)) S1x512x256.size (k0_off1_inb i r)).toLoadRect (harg5.unread x2)) shapeCasts_S1x512x256_S512x256
        kc := shapeCast S256x256 (arg4.view.readAt (Elt F) (Rect.unit (s := S1x2304x256) ![0, 0, 0] S1x256x256.size inb_S1x2304x256_S1x256x256_0_0_0).toLoadRect (harg4.unread x1)) shapeCasts_S1x256x256_S256x256
        vc := shapeCast S256x256 (arg5.view.readAt (Elt F) (Rect.unit (s := S1x2304x256) ![0, 0, 0] S1x256x256.size inb_S1x2304x256_S1x256x256_0_0_0).toLoadRect (harg5.unread x2)) shapeCasts_S1x256x256_S256x256
        bias := shapeCast S256x512 (arg6.view.readAt (Elt F) (Rect.unit (s := S1x1x256x512) ![0, 0, 0, 0] S1x1x256x512.size inb_S1x1x256x512_S1x1x256x512_0_0_0_0).toLoadRect (harg6.unread xb)) shapeCasts_S1x1x256x512_S256x512
        g := shapeCast S64x256 (arg10.view.readAt (Elt F) (Rect.unit (s := S1x256x256) ![0, 64 * r.val, 0] S1x64x256.size hq).toLoadRect (harg10.unread x7)) shapeCasts_S1x64x256_S64x256 } := by
  have e1 : ∀ (m : Memref sig .tc .vmem S1x256x256 .bf16) (h : m.IsWhole) x, m.view.readAt (Elt F) (Rect.unit (s := S1x256x256) ![0, 64 * r.val, 0] S1x64x256.size hq).toLoadRect (h.unread x) = slabQ x r :=
    fun m h x => (View.readAt_unit m.view _ hq rfl hq).trans (by rw [h.read_unread]; rfl)
  have e2 : ∀ (m : Memref sig .tc .vmem S1x256x256 .f32) (h : m.IsWhole) x, m.view.readAt (Elt F) (Rect.unit (s := S1x256x256) ![0, 64 * r.val, 0] S1x64x256.size hq).toLoadRect (h.unread x) = slabQ x r :=
    fun m h x => (View.readAt_unit m.view _ hq rfl hq).trans (by rw [h.read_unread]; rfl)
  have e3 : ∀ (m : Memref sig .tc .vmem S1x2304x256 .bf16) (h : m.IsWhole) x, m.view.readAt (Elt F) (Rect.unit (s := S1x2304x256) (k0_off1 i (BitVec.ofNat 32 r.val)) S1x512x256.size (k0_off1_inb i r)).toLoadRect (h.unread x)
      = slabW x (256 + 64 * row0 i r.val) (row0_le i r.val) :=
    fun m h x => (View.readAt_unit m.view _ _ (off1_eq i r) (by rw [← off1_eq i r]; exact k0_off1_inb i r)).trans (by rw [h.read_unread]; rfl)
  have e4 : ∀ (m : Memref sig .tc .vmem S1x2304x256 .bf16) (h : m.IsWhole) x, m.view.readAt (Elt F) (Rect.unit (s := S1x2304x256) ![0, 0, 0] S1x256x256.size inb_S1x2304x256_S1x256x256_0_0_0).toLoadRect (h.unread x) = slabC x :=
    fun m h x => (View.readAt_unit m.view _ _ rfl inb_S1x2304x256_S1x256x256_0_0_0).trans (by rw [h.read_unread]; rfl)
  have e5 : arg6.view.readAt (Elt F) (Rect.unit (s := S1x1x256x512) ![0, 0, 0, 0] S1x1x256x512.size inb_S1x1x256x512_S1x1x256x512_0_0_0_0).toLoadRect (harg6.unread xb) = xb :=
    (View.readAt_full arg6.view _ _).trans (harg6.read_unread xb)
  rw [e1, e2, e3, e3, e4, e4, e5]; rfl

/-- An accumulating store at a window. -/
theorem read_stepW (v : View sig .tc .vmem S1x2304x256 .f32) (f : v.ty.Contents (Elt F)) (L : List (View.Piece (Elt F) S1x2304x256 .f32)) {X : Vec F S1x2304x256 .f32}
    (hX : v.read (Elt F) (v.writes (Elt F) f L) = X) {off : Fin 3 → ℕ} {inb : ∀ a, off a + S1x512x256.size a ≤ S1x2304x256.size a} {o : ℕ} {h : o ≤ 1792} (ho : off = ![0, o, 0])
    {w : FVec F S512x256 .f32} {z l : Vec F S1x512x256 .f32} (hl : v.readAt (Elt F) (Rect.unit (s := S1x2304x256) off S1x512x256.size inb).toLoadRect (v.writes (Elt F) f L) = l)
    (hz : z = bumpW w l) :
    v.read (Elt F) (v.writes (Elt F) f (⟨Rect.unit (s := S1x2304x256) off S1x512x256.size inb, z⟩ :: L)) = addW X o h w := by
  subst hX hz hl ho
  exact View.read_writes_cons_put v f inb _ L rfl

/-- An accumulating store at the context. -/
theorem read_stepC (v : View sig .tc .vmem S1x2304x256 .f32) (f : v.ty.Contents (Elt F)) (L : List (View.Piece (Elt F) S1x2304x256 .f32)) {X : Vec F S1x2304x256 .f32}
    (hX : v.read (Elt F) (v.writes (Elt F) f L) = X) {inb : ∀ a, (![0, 0, 0] : Fin 3 → ℕ) a + S1x256x256.size a ≤ S1x2304x256.size a}
    {w : FVec F S256x256 .f32} {z l : Vec F S1x256x256 .f32} (hl : v.readAt (Elt F) (Rect.unit (s := S1x2304x256) ![0, 0, 0] S1x256x256.size inb).toLoadRect (v.writes (Elt F) f L) = l)
    (hz : z = bumpC w l) :
    v.read (Elt F) (v.writes (Elt F) f (⟨Rect.unit (s := S1x2304x256) ![0, 0, 0] S1x256x256.size inb, z⟩ :: L)) = addC X w := by
  subst hX hz hl
  exact View.read_writes_cons_put v f inb _ L rfl

/-- A load of the context after a store at a window after a store at the context reads none of what was there before. -/
theorem readAt_covC (v : View sig .tc .vmem S1x2304x256 .f32) (f : v.ty.Contents (Elt F)) (p : View.Piece (Elt F) S1x2304x256 .f32)
    {inb inb' : ∀ a, (![0, 0, 0] : Fin 3 → ℕ) a + S1x256x256.size a ≤ S1x2304x256.size a} (z : Vec F S1x256x256 .f32) (L : List (View.Piece (Elt F) S1x2304x256 .f32)) :
    v.readAt (Elt F) (Rect.unit (s := S1x2304x256) ![0, 0, 0] S1x256x256.size inb').toLoadRect
        (v.writes (Elt F) f (p :: ⟨Rect.unit (s := S1x2304x256) ![0, 0, 0] S1x256x256.size inb, z⟩ :: L))
      = v.readCov (p :: ⟨Rect.unit (s := S1x2304x256) ![0, 0, 0] S1x256x256.size inb, z⟩ :: L) (Rect.unit (s := S1x2304x256) ![0, 0, 0] S1x256x256.size inb').toLoadRect :=
  View.readAt_writes_of_cover v f _ _ fun j => ⟨_, List.mem_cons_of_mem _ List.mem_cons_self, (Rect.unit (s := S1x2304x256) ![0, 0, 0] S1x256x256.size inb').toLoadRect.idx_mem j⟩

/-- An accumulating store at a window, whatever was there before the stores. -/
theorem read_stepW0 (v : View sig .tc .vmem S1x2304x256 .f32) (L : List (View.Piece (Elt F) S1x2304x256 .f32)) {X : Vec F S1x2304x256 .f32}
    (hX : ∀ f, v.read (Elt F) (v.writes (Elt F) f L) = X) {off : Fin 3 → ℕ} {inb : ∀ a, off a + S1x512x256.size a ≤ S1x2304x256.size a} {o : ℕ} {h : o ≤ 1792} (ho : off = ![0, o, 0])
    {w : FVec F S512x256 .f32} {z : Vec F S1x512x256 .f32} (hz : z = bumpW w (v.readCov L (Rect.unit (s := S1x2304x256) off S1x512x256.size inb).toLoadRect)) (f : v.ty.Contents (Elt F)) :
    v.read (Elt F) (v.writes (Elt F) f (⟨Rect.unit (s := S1x2304x256) off S1x512x256.size inb, z⟩ :: L)) = addW X o h w :=
  (read_stepW v f L (hX f) (h := h) ho rfl (hz.trans (congrArg (bumpW w) (by
    subst ho
    rw [View.readAt_unit v _ inb rfl inb, hX, View.readCov, View.readAt_unit v _ inb rfl inb, hX]))))

/-- An accumulating store at the context, whatever was there before the stores. -/
theorem read_stepC0 (v : View sig .tc .vmem S1x2304x256 .f32) (L : List (View.Piece (Elt F) S1x2304x256 .f32)) {X : Vec F S1x2304x256 .f32}
    (hX : ∀ f, v.read (Elt F) (v.writes (Elt F) f L) = X) {inb : ∀ a, (![0, 0, 0] : Fin 3 → ℕ) a + S1x256x256.size a ≤ S1x2304x256.size a}
    {w : FVec F S256x256 .f32} {z : Vec F S1x256x256 .f32} (hz : z = bumpC w (v.readCov L (Rect.unit (s := S1x2304x256) ![0, 0, 0] S1x256x256.size inb).toLoadRect)) (f : v.ty.Contents (Elt F)) :
    v.read (Elt F) (v.writes (Elt F) f (⟨Rect.unit (s := S1x2304x256) ![0, 0, 0] S1x256x256.size inb, z⟩ :: L)) = addC X w :=
  (read_stepC v f L (hX f) rfl (hz.trans (congrArg (bumpC w) (by
    rw [View.readAt_unit v _ inb rfl inb, hX, View.readCov, View.readAt_unit v _ inb rfl inb, hX]))))

/-- The four stores of gradients of queries. -/
theorem read_outQ (v : View sig .tc .vmem S1x256x256 .f32) (f : v.ty.Contents (Elt F))
    {i0 : ∀ a, (![0, 0, 0] : Fin 3 → ℕ) a + S1x64x256.size a ≤ S1x256x256.size a} {i1 : ∀ a, (![0, 64, 0] : Fin 3 → ℕ) a + S1x64x256.size a ≤ S1x256x256.size a}
    {i2 : ∀ a, (![0, 128, 0] : Fin 3 → ℕ) a + S1x64x256.size a ≤ S1x256x256.size a} {i3 : ∀ a, (![0, 192, 0] : Fin 3 → ℕ) a + S1x64x256.size a ≤ S1x256x256.size a}
    (Q : Fin 4 → FVec F S64x256 .f32) :
    v.read (Elt F) (v.writes (Elt F) f [⟨Rect.unit (s := S1x256x256) ![0, 192, 0] S1x64x256.size i3, shapeCast S1x64x256 (Q 3) shapeCasts_S64x256_S1x64x256⟩,
      ⟨Rect.unit (s := S1x256x256) ![0, 128, 0] S1x64x256.size i2, shapeCast S1x64x256 (Q 2) shapeCasts_S64x256_S1x64x256⟩,
      ⟨Rect.unit (s := S1x256x256) ![0, 64, 0] S1x64x256.size i1, shapeCast S1x64x256 (Q 1) shapeCasts_S64x256_S1x64x256⟩,
      ⟨Rect.unit (s := S1x256x256) ![0, 0, 0] S1x64x256.size i0, shapeCast S1x64x256 (Q 0) shapeCasts_S64x256_S1x64x256⟩]) = outQ Q := by
  rw [View.read_writes_cons_put v f i3 _ _ rfl, View.read_writes_cons_put v f i2 _ _ rfl, View.read_writes_cons_put v f i1 _ _ rfl, View.read_writes_cons_put v f i0 _ _ rfl]
  exact outQ_cover Q _ _

set_option maxHeartbeats 2000000 in
/-- Away from a batch entry's first block of rows. -/
theorem run_next (c : Dev nD) (i : grid0.Coords) (arg3 : Memref sig .tc .vmem S1x256x256 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S1x1x256x512 .f32) (harg6 : arg6.IsWhole) (arg7 : Memref sig .tc .vmem S1x1x256x512 .f32) (harg7 : arg7.IsWhole) (arg8 : Memref sig .tc .vmem S1x1x256x512 .f32) (harg8 : arg8.IsWhole) (arg9 : Memref sig .tc .vmem S1x1x256x512 .f32) (harg9 : arg9.IsWhole) (arg10 : Memref sig .tc .vmem S1x256x256 .f32) (harg10 : arg10.IsWhole) (arg11 : Memref sig .tc .vmem S1x256x256 .f32) (harg11 : arg11.IsWhole) (arg12 : Memref sig .tc .vmem S1x2304x256 .f32) (harg12 : arg12.IsWhole) (arg13 : Memref sig .tc .vmem S1x2304x256 .f32) (harg13 : arg13.IsWhole) (arg14 : Memref sig .tc .vmem S8x1x256x512 .f32) (harg14 : arg14.IsWhole)
    (hc0 : ¬ k0_cond1 i = 1#1) (hc1 : ¬ k0_cond2 i = 1#1) (x0 : Vec F S1x256x256 .bf16) (x1 : Vec F S1x2304x256 .bf16) (x2 : Vec F S1x2304x256 .bf16) (x3 : Vec F S1x1x256x512 .f32) (x4 : Vec F S1x1x256x512 .f32) (x5 : Vec F S1x1x256x512 .f32) (x6 : Vec F S1x1x256x512 .f32) (x7 : Vec F S1x256x256 .f32) (x9 : Vec F S1x2304x256 .f32) (x10 : Vec F S1x2304x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare x9 ∗ owns (c : Thread nD τ) arg13 fullShare x10 ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ owns (c : Thread nD τ) arg11 fullShare (outQ fun r => rowQ (rows i x0 x1 x2 x3 x4 x5 x6 x7 r))
              ∗ owns (c : Thread nD τ) arg12 fullShare (accum i (fun r => rowKW (rows i x0 x1 x2 x3 x4 x5 x6 x7 r)) (fun r => rowKC (rows i x0 x1 x2 x3 x4 x5 x6 x7 r)) x9)
              ∗ owns (c : Thread nD τ) arg13 fullShare (accum i (fun r => rowVW (rows i x0 x1 x2 x3 x4 x5 x6 x7 r)) (fun r => rowVC (rows i x0 x1 x2 x3 x4 x5 x6 x7 r)) x10) ∗ (∃ d, owns (c : Thread nD τ) arg14 fullShare d)) -∗ K ⟨⟩))
          ⊢ wp frame (wpE (defs₀ (F := F)) Variants.none c none) E (cc0_na_bwd i arg3 harg3 arg4 harg4 arg5 harg5 arg6 harg6 arg7 harg7 arg8 harg8 arg9 harg9 arg10 harg10 arg11 harg11 arg12 harg12 arg13 harg13 arg14 harg14) K := by
    intro E K
    have hρ := rowIn_loads i arg3 harg3 arg4 harg4 arg5 harg5 arg6 harg6 arg10 harg10 x0 x1 x2 x3 x7 0 inb_S1x256x256_S1x64x256_0_0_0
    change rows i x0 x1 x2 x3 x4 x5 x6 x7 0 = _ at hρ
    have hq : k0_pay9 (arg3.view.readAt (Elt F) (Rect.unit (s := S1x256x256) ![0, 0, 0] S1x64x256.size inb_S1x256x256_S1x64x256_0_0_0).toLoadRect (harg3.unread x0)) = (rows i x0 x1 x2 x3 x4 x5 x6 x7 0).q := by rw [hρ]; rfl
    have hkw : k0_pay10 (arg4.view.readAt (Elt F) (Rect.unit (s := S1x2304x256) (k0_off1 i 0#32) S1x512x256.size (k0_off1_inb i 0)).toLoadRect (harg4.unread x1)) = (rows i x0 x1 x2 x3 x4 x5 x6 x7 0).kw := by rw [hρ]; rfl
    have hvw : k0_pay11 (arg5.view.readAt (Elt F) (Rect.unit (s := S1x2304x256) (k0_off1 i 0#32) S1x512x256.size (k0_off1_inb i 0)).toLoadRect (harg5.unread x2)) = (rows i x0 x1 x2 x3 x4 x5 x6 x7 0).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 0).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 0).vc := by rw [hρ]; rfl
    have hb : k0_pay12 (arg6.view.readAt (Elt F) (Rect.unit (s := S1x1x256x512) ![0, 0, 0, 0] S1x1x256x512.size inb_S1x1x256x512_S1x1x256x512_0_0_0_0).toLoadRect (harg6.unread x3)) = (rows i x0 x1 x2 x3 x4 x5 x6 x7 0).bias := by rw [hρ]; rfl
    have hg : k0_pay13 (arg10.view.readAt (Elt F) (Rect.unit (s := S1x256x256) ![0, 0, 0] S1x64x256.size inb_S1x256x256_S1x64x256_0_0_0).toLoadRect (harg10.unread x7)) = (rows i x0 x1 x2 x3 x4 x5 x6 x7 0).g := by rw [hρ]; rfl
    have hs := stack_0 hq
    have hlw := logitW_0 hq hkw hb
    have hpw := probW_0 hkc hs hlw
    have hpc := probC_0 hkc hs hlw
    have hsg := stackG_0 hg
    have hgw := gradPW_0 hvw hg
    have hdw := gradSW_0 hvc hsg hpw hpc hgw
    have hdc := gradSC_0 hvc hsg hpw hpc hgw
    have hQ0 := rowQ_0 hkw hkc hvc hsg hpw hpc hgw hdc
    have hKW0 := rowKW_0 hs hdw
    have hKC0 := rowKC_0 hs hdc
    have hVW0 := rowVW_0 hsg hpw
    have hVC0 := rowVC_0 hsg hpc
    clear hρ hq hkw hvw hkc hvc hb hg hs hlw hpw hpc hsg hgw hdw hdc
    have hρ := rowIn_loads i arg3 harg3 arg4 harg4 arg5 harg5 arg7 harg7 arg10 harg10 x0 x1 x2 x4 x7 1 inb_S1x256x256_S1x64x256_0_64_0
    change rows i x0 x1 x2 x3 x4 x5 x6 x7 1 = _ at hρ
    have hq : k0_pay14 (arg3.view.readAt (Elt F) (Rect.unit (s := S1x256x256) ![0, 64, 0] S1x64x256.size inb_S1x256x256_S1x64x256_0_64_0).toLoadRect (harg3.unread x0)) = (rows i x0 x1 x2 x3 x4 x5 x6 x7 1).q := by rw [hρ]; rfl
    have hkw : k0_pay15 (arg4.view.readAt (Elt F) (Rect.unit (s := S1x2304x256) (k0_off1 i 1#32) S1x512x256.size (k0_off1_inb i 1)).toLoadRect (harg4.unread x1)) = (rows i x0 x1 x2 x3 x4 x5 x6 x7 1).kw := by rw [hρ]; rfl
    have hvw : k0_pay16 (arg5.view.readAt (Elt F) (Rect.unit (s := S1x2304x256) (k0_off1 i 1#32) S1x512x256.size (k0_off1_inb i 1)).toLoadRect (harg5.unread x2)) = (rows i x0 x1 x2 x3 x4 x5 x6 x7 1).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 1).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 1).vc := by rw [hρ]; rfl
    have hb : k0_pay17 (arg7.view.readAt (Elt F) (Rect.unit (s := S1x1x256x512) ![0, 0, 0, 0] S1x1x256x512.size inb_S1x1x256x512_S1x1x256x512_0_0_0_0).toLoadRect (harg7.unread x4)) = (rows i x0 x1 x2 x3 x4 x5 x6 x7 1).bias := by rw [hρ]; rfl
    have hg : k0_pay18 (arg10.view.readAt (Elt F) (Rect.unit (s := S1x256x256) ![0, 64, 0] S1x64x256.size inb_S1x256x256_S1x64x256_0_64_0).toLoadRect (harg10.unread x7)) = (rows i x0 x1 x2 x3 x4 x5 x6 x7 1).g := by rw [hρ]; rfl
    have hs := stack_1 hq
    have hlw := logitW_1 hq hkw hb
    have hlc := logitC_1 hkc hs
    have hpw := probW_1 hlw hlc
    have hpc := probC_1 hlw hlc
    have hsg := stackG_1 hg
    have hgw := gradPW_1 hvw hg
    have hgc := gradPC_1 hvc hsg
    have hdw := gradSW_1 hpw hpc hgw hgc
    have hdc := gradSC_1 hpw hpc hgw hgc
    have hQ1 := rowQ_1 hkw hkc hpw hpc hgw hgc hdc
    have hKW1 := rowKW_1 hs hdw
    have hKC1 := rowKC_1 hs hdc
    have hVW1 := rowVW_1 hsg hpw
    have hVC1 := rowVC_1 hsg hpc
    clear hρ hq hkw hvw hkc hvc hb hg hs hlw hpw hpc hsg hgw hlc hgc hdw hdc
    have hρ := rowIn_loads i arg3 harg3 arg4 harg4 arg5 harg5 arg8 harg8 arg10 harg10 x0 x1 x2 x5 x7 2 inb_S1x256x256_S1x64x256_0_128_0
    change rows i x0 x1 x2 x3 x4 x5 x6 x7 2 = _ at hρ
    have hq : k0_pay19 (arg3.view.readAt (Elt F) (Rect.unit (s := S1x256x256) ![0, 128, 0] S1x64x256.size inb_S1x256x256_S1x64x256_0_128_0).toLoadRect (harg3.unread x0)) = (rows i x0 x1 x2 x3 x4 x5 x6 x7 2).q := by rw [hρ]; rfl
    have hkw : k0_pay20 (arg4.view.readAt (Elt F) (Rect.unit (s := S1x2304x256) (k0_off1 i 2#32) S1x512x256.size (k0_off1_inb i 2)).toLoadRect (harg4.unread x1)) = (rows i x0 x1 x2 x3 x4 x5 x6 x7 2).kw := by rw [hρ]; rfl
    have hvw : k0_pay21 (arg5.view.readAt (Elt F) (Rect.unit (s := S1x2304x256) (k0_off1 i 2#32) S1x512x256.size (k0_off1_inb i 2)).toLoadRect (harg5.unread x2)) = (rows i x0 x1 x2 x3 x4 x5 x6 x7 2).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 2).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 2).vc := by rw [hρ]; rfl
    have hb : k0_pay22 (arg8.view.readAt (Elt F) (Rect.unit (s := S1x1x256x512) ![0, 0, 0, 0] S1x1x256x512.size inb_S1x1x256x512_S1x1x256x512_0_0_0_0).toLoadRect (harg8.unread x5)) = (rows i x0 x1 x2 x3 x4 x5 x6 x7 2).bias := by rw [hρ]; rfl
    have hg : k0_pay23 (arg10.view.readAt (Elt F) (Rect.unit (s := S1x256x256) ![0, 128, 0] S1x64x256.size inb_S1x256x256_S1x64x256_0_128_0).toLoadRect (harg10.unread x7)) = (rows i x0 x1 x2 x3 x4 x5 x6 x7 2).g := by rw [hρ]; rfl
    have hs := stack_2 hq
    have hlw := logitW_2 hq hkw hb
    have hlc := logitC_2 hkc hs
    have hpw := probW_2 hlw hlc
    have hpc := probC_2 hlw hlc
    have hsg := stackG_2 hg
    have hgw := gradPW_2 hvw hg
    have hgc := gradPC_2 hvc hsg
    have hdw := gradSW_2 hpw hpc hgw hgc
    have hdc := gradSC_2 hpw hpc hgw hgc
    have hQ2 := rowQ_2 hkw hkc hpw hpc hgw hgc hdc
    have hKW2 := rowKW_2 hs hdw
    have hKC2 := rowKC_2 hs hdc
    have hVW2 := rowVW_2 hsg hpw
    have hVC2 := rowVC_2 hsg hpc
    clear hρ hq hkw hvw hkc hvc hb hg hs hlw hpw hpc hsg hgw hlc hgc hdw hdc
    have hρ := rowIn_loads i arg3 harg3 arg4 harg4 arg5 harg5 arg9 harg9 arg10 harg10 x0 x1 x2 x6 x7 3 inb_S1x256x256_S1x64x256_0_192_0
    change rows i x0 x1 x2 x3 x4 x5 x6 x7 3 = _ at hρ
    have hq : k0_pay24 (arg3.view.readAt (Elt F) (Rect.unit (s := S1x256x256) ![0, 192, 0] S1x64x256.size inb_S1x256x256_S1x64x256_0_192_0).toLoadRect (harg3.unread x0)) = (rows i x0 x1 x2 x3 x4 x5 x6 x7 3).q := by rw [hρ]; rfl
    have hkw : k0_pay25 (arg4.view.readAt (Elt F) (Rect.unit (s := S1x2304x256) (k0_off1 i 3#32) S1x512x256.size (k0_off1_inb i 3)).toLoadRect (harg4.unread x1)) = (rows i x0 x1 x2 x3 x4 x5 x6 x7 3).kw := by rw [hρ]; rfl
    have hvw : k0_pay26 (arg5.view.readAt (Elt F) (Rect.unit (s := S1x2304x256) (k0_off1 i 3#32) S1x512x256.size (k0_off1_inb i 3)).toLoadRect (harg5.unread x2)) = (rows i x0 x1 x2 x3 x4 x5 x6 x7 3).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 3).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 3).vc := by rw [hρ]; rfl
    have hb : k0_pay27 (arg9.view.readAt (Elt F) (Rect.unit (s := S1x1x256x512) ![0, 0, 0, 0] S1x1x256x512.size inb_S1x1x256x512_S1x1x256x512_0_0_0_0).toLoadRect (harg9.unread x6)) = (rows i x0 x1 x2 x3 x4 x5 x6 x7 3).bias := by rw [hρ]; rfl
    have hg : k0_pay28 (arg10.view.readAt (Elt F) (Rect.unit (s := S1x256x256) ![0, 192, 0] S1x64x256.size inb_S1x256x256_S1x64x256_0_192_0).toLoadRect (harg10.unread x7)) = (rows i x0 x1 x2 x3 x4 x5 x6 x7 3).g := by rw [hρ]; rfl
    have hs := stack_3 hq
    have hlw := logitW_3 hq hkw hb
    have hlc := logitC_3 hq hkc
    have hpw := probW_3 hlw hlc
    have hpc := probC_3 hlw hlc
    have hsg := stackG_3 hg
    have hgw := gradPW_3 hvw hg
    have hgc := gradPC_3 hvc hg
    have hQ3 := rowQ_3 hkw hkc hpw hpc hgw hgc
    have hKW3 := rowKW_3 hs hpw hpc hgw hgc
    have hKC3 := rowKC_3 hs hpw hpc hgw hgc
    have hVW3 := rowVW_3 hsg hpw
    have hVC3 := rowVC_3 hsg hpc
    clear hρ hq hkw hvw hkc hvc hb hg hs hlw hpw hpc hsg hgw hlc hgc
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hf10
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      refine Eq.trans ?_ (read_outQ arg11.view f8 (i0 := inb_S1x256x256_S1x64x256_0_0_0) (i1 := inb_S1x256x256_S1x64x256_0_64_0)
        (i2 := inb_S1x256x256_S1x64x256_0_128_0) (i3 := inb_S1x256x256_S1x64x256_0_192_0) _)
      simp only [← hQ0, ← hQ1, ← hQ2, ← hQ3]
      rfl
    isplitl [H9]
    · iexists _; isplitr; swap; · iexact H9
      ipureintro
      refine read_stepC _ _ _ ?_ (readAt_covC _ _ _ _ _) (bumpC_of hKC3)
      refine read_stepW _ _ _ ?_ (off1_eq i 3) rfl (bumpW_of hKW3)
      refine read_stepC _ _ _ ?_ (readAt_covC _ _ _ _ _) (bumpC_of hKC2)
      refine read_stepW _ _ _ ?_ (off1_eq i 2) rfl (bumpW_of hKW2)
      refine read_stepC _ _ _ ?_ (readAt_covC _ _ _ _ _) (bumpC_of hKC1)
      refine read_stepW _ _ _ ?_ (off1_eq i 1) rfl (bumpW_of hKW1)
      refine read_stepC _ _ _ ?_ rfl (bumpC_of hKC0)
      refine read_stepW _ _ _ ?_ (off1_eq i 0) rfl (bumpW_of hKW0)
      exact harg12.read_unread _
    isplitl [H10]
    · iexists _; isplitr; swap; · iexact H10
      ipureintro
      refine read_stepC _ _ _ ?_ (readAt_covC _ _ _ _ _) (bumpC_of hVC3)
      refine read_stepW _ _ _ ?_ (off1_eq i 3) rfl (bumpW_of hVW3)
      refine read_stepC _ _ _ ?_ (readAt_covC _ _ _ _ _) (bumpC_of hVC2)
      refine read_stepW _ _ _ ?_ (off1_eq i 2) rfl (bumpW_of hVW2)
      refine read_stepC _ _ _ ?_ (readAt_covC _ _ _ _ _) (bumpC_of hVC1)
      refine read_stepW _ _ _ ?_ (off1_eq i 1) rfl (bumpW_of hVW1)
      refine read_stepC _ _ _ ?_ rfl (bumpC_of hVC0)
      refine read_stepW _ _ _ ?_ (off1_eq i 0) rfl (bumpW_of hVW0)
      exact harg13.read_unread _
    iexists _, _; isplitr; swap; · iexact H11
    ipureintro; rfl

set_option maxHeartbeats 2000000 in
/-- At the second batch entry's first block of rows. -/
theorem run_entry (c : Dev nD) (i : grid0.Coords) (arg3 : Memref sig .tc .vmem S1x256x256 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S1x1x256x512 .f32) (harg6 : arg6.IsWhole) (arg7 : Memref sig .tc .vmem S1x1x256x512 .f32) (harg7 : arg7.IsWhole) (arg8 : Memref sig .tc .vmem S1x1x256x512 .f32) (harg8 : arg8.IsWhole) (arg9 : Memref sig .tc .vmem S1x1x256x512 .f32) (harg9 : arg9.IsWhole) (arg10 : Memref sig .tc .vmem S1x256x256 .f32) (harg10 : arg10.IsWhole) (arg11 : Memref sig .tc .vmem S1x256x256 .f32) (harg11 : arg11.IsWhole) (arg12 : Memref sig .tc .vmem S1x2304x256 .f32) (harg12 : arg12.IsWhole) (arg13 : Memref sig .tc .vmem S1x2304x256 .f32) (harg13 : arg13.IsWhole) (arg14 : Memref sig .tc .vmem S8x1x256x512 .f32) (harg14 : arg14.IsWhole)
    (hc0 : ¬ k0_cond1 i = 1#1) (hc1 : k0_cond2 i = 1#1) (x0 : Vec F S1x256x256 .bf16) (x1 : Vec F S1x2304x256 .bf16) (x2 : Vec F S1x2304x256 .bf16) (x3 : Vec F S1x1x256x512 .f32) (x4 : Vec F S1x1x256x512 .f32) (x5 : Vec F S1x1x256x512 .f32) (x6 : Vec F S1x1x256x512 .f32) (x7 : Vec F S1x256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ owns (c : Thread nD τ) arg11 fullShare (outQ fun r => rowQ (rows i x0 x1 x2 x3 x4 x5 x6 x7 r))
              ∗ owns (c : Thread nD τ) arg12 fullShare (accum i (fun r => rowKW (rows i x0 x1 x2 x3 x4 x5 x6 x7 r)) (fun r => rowKC (rows i x0 x1 x2 x3 x4 x5 x6 x7 r)) k0_pay5)
              ∗ owns (c : Thread nD τ) arg13 fullShare (accum i (fun r => rowVW (rows i x0 x1 x2 x3 x4 x5 x6 x7 r)) (fun r => rowVC (rows i x0 x1 x2 x3 x4 x5 x6 x7 r)) k0_pay6) ∗ (∃ d, owns (c : Thread nD τ) arg14 fullShare d)) -∗ K ⟨⟩))
          ⊢ wp frame (wpE (defs₀ (F := F)) Variants.none c none) E (cc0_na_bwd i arg3 harg3 arg4 harg4 arg5 harg5 arg6 harg6 arg7 harg7 arg8 harg8 arg9 harg9 arg10 harg10 arg11 harg11 arg12 harg12 arg13 harg13 arg14 harg14) K := by
    intro E K
    have hρ := rowIn_loads i arg3 harg3 arg4 harg4 arg5 harg5 arg6 harg6 arg10 harg10 x0 x1 x2 x3 x7 0 inb_S1x256x256_S1x64x256_0_0_0
    change rows i x0 x1 x2 x3 x4 x5 x6 x7 0 = _ at hρ
    have hq : k0_pay9 (arg3.view.readAt (Elt F) (Rect.unit (s := S1x256x256) ![0, 0, 0] S1x64x256.size inb_S1x256x256_S1x64x256_0_0_0).toLoadRect (harg3.unread x0)) = (rows i x0 x1 x2 x3 x4 x5 x6 x7 0).q := by rw [hρ]; rfl
    have hkw : k0_pay10 (arg4.view.readAt (Elt F) (Rect.unit (s := S1x2304x256) (k0_off1 i 0#32) S1x512x256.size (k0_off1_inb i 0)).toLoadRect (harg4.unread x1)) = (rows i x0 x1 x2 x3 x4 x5 x6 x7 0).kw := by rw [hρ]; rfl
    have hvw : k0_pay11 (arg5.view.readAt (Elt F) (Rect.unit (s := S1x2304x256) (k0_off1 i 0#32) S1x512x256.size (k0_off1_inb i 0)).toLoadRect (harg5.unread x2)) = (rows i x0 x1 x2 x3 x4 x5 x6 x7 0).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 0).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 0).vc := by rw [hρ]; rfl
    have hb : k0_pay12 (arg6.view.readAt (Elt F) (Rect.unit (s := S1x1x256x512) ![0, 0, 0, 0] S1x1x256x512.size inb_S1x1x256x512_S1x1x256x512_0_0_0_0).toLoadRect (harg6.unread x3)) = (rows i x0 x1 x2 x3 x4 x5 x6 x7 0).bias := by rw [hρ]; rfl
    have hg : k0_pay13 (arg10.view.readAt (Elt F) (Rect.unit (s := S1x256x256) ![0, 0, 0] S1x64x256.size inb_S1x256x256_S1x64x256_0_0_0).toLoadRect (harg10.unread x7)) = (rows i x0 x1 x2 x3 x4 x5 x6 x7 0).g := by rw [hρ]; rfl
    have hs := stack_0 hq
    have hlw := logitW_0 hq hkw hb
    have hpw := probW_0 hkc hs hlw
    have hpc := probC_0 hkc hs hlw
    have hsg := stackG_0 hg
    have hgw := gradPW_0 hvw hg
    have hdw := gradSW_0 hvc hsg hpw hpc hgw
    have hdc := gradSC_0 hvc hsg hpw hpc hgw
    have hQ0 := rowQ_0 hkw hkc hvc hsg hpw hpc hgw hdc
    have hKW0 := rowKW_0 hs hdw
    have hKC0 := rowKC_0 hs hdc
    have hVW0 := rowVW_0 hsg hpw
    have hVC0 := rowVC_0 hsg hpc
    clear hρ hq hkw hvw hkc hvc hb hg hs hlw hpw hpc hsg hgw hdw hdc
    have hρ := rowIn_loads i arg3 harg3 arg4 harg4 arg5 harg5 arg7 harg7 arg10 harg10 x0 x1 x2 x4 x7 1 inb_S1x256x256_S1x64x256_0_64_0
    change rows i x0 x1 x2 x3 x4 x5 x6 x7 1 = _ at hρ
    have hq : k0_pay14 (arg3.view.readAt (Elt F) (Rect.unit (s := S1x256x256) ![0, 64, 0] S1x64x256.size inb_S1x256x256_S1x64x256_0_64_0).toLoadRect (harg3.unread x0)) = (rows i x0 x1 x2 x3 x4 x5 x6 x7 1).q := by rw [hρ]; rfl
    have hkw : k0_pay15 (arg4.view.readAt (Elt F) (Rect.unit (s := S1x2304x256) (k0_off1 i 1#32) S1x512x256.size (k0_off1_inb i 1)).toLoadRect (harg4.unread x1)) = (rows i x0 x1 x2 x3 x4 x5 x6 x7 1).kw := by rw [hρ]; rfl
    have hvw : k0_pay16 (arg5.view.readAt (Elt F) (Rect.unit (s := S1x2304x256) (k0_off1 i 1#32) S1x512x256.size (k0_off1_inb i 1)).toLoadRect (harg5.unread x2)) = (rows i x0 x1 x2 x3 x4 x5 x6 x7 1).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 1).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 1).vc := by rw [hρ]; rfl
    have hb : k0_pay17 (arg7.view.readAt (Elt F) (Rect.unit (s := S1x1x256x512) ![0, 0, 0, 0] S1x1x256x512.size inb_S1x1x256x512_S1x1x256x512_0_0_0_0).toLoadRect (harg7.unread x4)) = (rows i x0 x1 x2 x3 x4 x5 x6 x7 1).bias := by rw [hρ]; rfl
    have hg : k0_pay18 (arg10.view.readAt (Elt F) (Rect.unit (s := S1x256x256) ![0, 64, 0] S1x64x256.size inb_S1x256x256_S1x64x256_0_64_0).toLoadRect (harg10.unread x7)) = (rows i x0 x1 x2 x3 x4 x5 x6 x7 1).g := by rw [hρ]; rfl
    have hs := stack_1 hq
    have hlw := logitW_1 hq hkw hb
    have hlc := logitC_1 hkc hs
    have hpw := probW_1 hlw hlc
    have hpc := probC_1 hlw hlc
    have hsg := stackG_1 hg
    have hgw := gradPW_1 hvw hg
    have hgc := gradPC_1 hvc hsg
    have hdw := gradSW_1 hpw hpc hgw hgc
    have hdc := gradSC_1 hpw hpc hgw hgc
    have hQ1 := rowQ_1 hkw hkc hpw hpc hgw hgc hdc
    have hKW1 := rowKW_1 hs hdw
    have hKC1 := rowKC_1 hs hdc
    have hVW1 := rowVW_1 hsg hpw
    have hVC1 := rowVC_1 hsg hpc
    clear hρ hq hkw hvw hkc hvc hb hg hs hlw hpw hpc hsg hgw hlc hgc hdw hdc
    have hρ := rowIn_loads i arg3 harg3 arg4 harg4 arg5 harg5 arg8 harg8 arg10 harg10 x0 x1 x2 x5 x7 2 inb_S1x256x256_S1x64x256_0_128_0
    change rows i x0 x1 x2 x3 x4 x5 x6 x7 2 = _ at hρ
    have hq : k0_pay19 (arg3.view.readAt (Elt F) (Rect.unit (s := S1x256x256) ![0, 128, 0] S1x64x256.size inb_S1x256x256_S1x64x256_0_128_0).toLoadRect (harg3.unread x0)) = (rows i x0 x1 x2 x3 x4 x5 x6 x7 2).q := by rw [hρ]; rfl
    have hkw : k0_pay20 (arg4.view.readAt (Elt F) (Rect.unit (s := S1x2304x256) (k0_off1 i 2#32) S1x512x256.size (k0_off1_inb i 2)).toLoadRect (harg4.unread x1)) = (rows i x0 x1 x2 x3 x4 x5 x6 x7 2).kw := by rw [hρ]; rfl
    have hvw : k0_pay21 (arg5.view.readAt (Elt F) (Rect.unit (s := S1x2304x256) (k0_off1 i 2#32) S1x512x256.size (k0_off1_inb i 2)).toLoadRect (harg5.unread x2)) = (rows i x0 x1 x2 x3 x4 x5 x6 x7 2).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 2).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 2).vc := by rw [hρ]; rfl
    have hb : k0_pay22 (arg8.view.readAt (Elt F) (Rect.unit (s := S1x1x256x512) ![0, 0, 0, 0] S1x1x256x512.size inb_S1x1x256x512_S1x1x256x512_0_0_0_0).toLoadRect (harg8.unread x5)) = (rows i x0 x1 x2 x3 x4 x5 x6 x7 2).bias := by rw [hρ]; rfl
    have hg : k0_pay23 (arg10.view.readAt (Elt F) (Rect.unit (s := S1x256x256) ![0, 128, 0] S1x64x256.size inb_S1x256x256_S1x64x256_0_128_0).toLoadRect (harg10.unread x7)) = (rows i x0 x1 x2 x3 x4 x5 x6 x7 2).g := by rw [hρ]; rfl
    have hs := stack_2 hq
    have hlw := logitW_2 hq hkw hb
    have hlc := logitC_2 hkc hs
    have hpw := probW_2 hlw hlc
    have hpc := probC_2 hlw hlc
    have hsg := stackG_2 hg
    have hgw := gradPW_2 hvw hg
    have hgc := gradPC_2 hvc hsg
    have hdw := gradSW_2 hpw hpc hgw hgc
    have hdc := gradSC_2 hpw hpc hgw hgc
    have hQ2 := rowQ_2 hkw hkc hpw hpc hgw hgc hdc
    have hKW2 := rowKW_2 hs hdw
    have hKC2 := rowKC_2 hs hdc
    have hVW2 := rowVW_2 hsg hpw
    have hVC2 := rowVC_2 hsg hpc
    clear hρ hq hkw hvw hkc hvc hb hg hs hlw hpw hpc hsg hgw hlc hgc hdw hdc
    have hρ := rowIn_loads i arg3 harg3 arg4 harg4 arg5 harg5 arg9 harg9 arg10 harg10 x0 x1 x2 x6 x7 3 inb_S1x256x256_S1x64x256_0_192_0
    change rows i x0 x1 x2 x3 x4 x5 x6 x7 3 = _ at hρ
    have hq : k0_pay24 (arg3.view.readAt (Elt F) (Rect.unit (s := S1x256x256) ![0, 192, 0] S1x64x256.size inb_S1x256x256_S1x64x256_0_192_0).toLoadRect (harg3.unread x0)) = (rows i x0 x1 x2 x3 x4 x5 x6 x7 3).q := by rw [hρ]; rfl
    have hkw : k0_pay25 (arg4.view.readAt (Elt F) (Rect.unit (s := S1x2304x256) (k0_off1 i 3#32) S1x512x256.size (k0_off1_inb i 3)).toLoadRect (harg4.unread x1)) = (rows i x0 x1 x2 x3 x4 x5 x6 x7 3).kw := by rw [hρ]; rfl
    have hvw : k0_pay26 (arg5.view.readAt (Elt F) (Rect.unit (s := S1x2304x256) (k0_off1 i 3#32) S1x512x256.size (k0_off1_inb i 3)).toLoadRect (harg5.unread x2)) = (rows i x0 x1 x2 x3 x4 x5 x6 x7 3).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 3).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 3).vc := by rw [hρ]; rfl
    have hb : k0_pay27 (arg9.view.readAt (Elt F) (Rect.unit (s := S1x1x256x512) ![0, 0, 0, 0] S1x1x256x512.size inb_S1x1x256x512_S1x1x256x512_0_0_0_0).toLoadRect (harg9.unread x6)) = (rows i x0 x1 x2 x3 x4 x5 x6 x7 3).bias := by rw [hρ]; rfl
    have hg : k0_pay28 (arg10.view.readAt (Elt F) (Rect.unit (s := S1x256x256) ![0, 192, 0] S1x64x256.size inb_S1x256x256_S1x64x256_0_192_0).toLoadRect (harg10.unread x7)) = (rows i x0 x1 x2 x3 x4 x5 x6 x7 3).g := by rw [hρ]; rfl
    have hs := stack_3 hq
    have hlw := logitW_3 hq hkw hb
    have hlc := logitC_3 hq hkc
    have hpw := probW_3 hlw hlc
    have hpc := probC_3 hlw hlc
    have hsg := stackG_3 hg
    have hgw := gradPW_3 hvw hg
    have hgc := gradPC_3 hvc hg
    have hQ3 := rowQ_3 hkw hkc hpw hpc hgw hgc
    have hKW3 := rowKW_3 hs hpw hpc hgw hgc
    have hKC3 := rowKC_3 hs hpw hpc hgw hgc
    have hVW3 := rowVW_3 hsg hpw
    have hVC3 := rowVC_3 hsg hpc
    clear hρ hq hkw hvw hkc hvc hb hg hs hlw hpw hpc hsg hgw hlc hgc
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      refine Eq.trans ?_ (read_outQ arg11.view f8 (i0 := inb_S1x256x256_S1x64x256_0_0_0) (i1 := inb_S1x256x256_S1x64x256_0_64_0)
        (i2 := inb_S1x256x256_S1x64x256_0_128_0) (i3 := inb_S1x256x256_S1x64x256_0_192_0) _)
      simp only [← hQ0, ← hQ1, ← hQ2, ← hQ3]
      rfl
    isplitl [H9]
    · iexists _; isplitr; swap; · iexact H9
      ipureintro
      refine read_stepC0 _ _ ?_ (bumpC_of hKC3) _
      refine read_stepW0 _ _ ?_ (off1_eq i 3) (bumpW_of hKW3)
      refine read_stepC0 _ _ ?_ (bumpC_of hKC2)
      refine read_stepW0 _ _ ?_ (off1_eq i 2) (bumpW_of hKW2)
      refine read_stepC0 _ _ ?_ (bumpC_of hKC1)
      refine read_stepW0 _ _ ?_ (off1_eq i 1) (bumpW_of hKW1)
      refine read_stepC0 _ _ ?_ (bumpC_of hKC0)
      refine read_stepW0 _ _ ?_ (off1_eq i 0) (bumpW_of hKW0)
      exact fun f => View.read_writes_full _ f _ _ _
    isplitl [H10]
    · iexists _; isplitr; swap; · iexact H10
      ipureintro
      refine read_stepC0 _ _ ?_ (bumpC_of hVC3) _
      refine read_stepW0 _ _ ?_ (off1_eq i 3) (bumpW_of hVW3)
      refine read_stepC0 _ _ ?_ (bumpC_of hVC2)
      refine read_stepW0 _ _ ?_ (off1_eq i 2) (bumpW_of hVW2)
      refine read_stepC0 _ _ ?_ (bumpC_of hVC1)
      refine read_stepW0 _ _ ?_ (off1_eq i 1) (bumpW_of hVW1)
      refine read_stepC0 _ _ ?_ (bumpC_of hVC0)
      refine read_stepW0 _ _ ?_ (off1_eq i 0) (bumpW_of hVW0)
      exact fun f => View.read_writes_full _ f _ _ _
    iexists _, _; isplitr; swap; · iexact H11
    ipureintro; rfl

set_option maxHeartbeats 2000000 in
/-- At a group's first block of rows. -/
theorem run_first (c : Dev nD) (i : grid0.Coords) (arg3 : Memref sig .tc .vmem S1x256x256 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S1x1x256x512 .f32) (harg6 : arg6.IsWhole) (arg7 : Memref sig .tc .vmem S1x1x256x512 .f32) (harg7 : arg7.IsWhole) (arg8 : Memref sig .tc .vmem S1x1x256x512 .f32) (harg8 : arg8.IsWhole) (arg9 : Memref sig .tc .vmem S1x1x256x512 .f32) (harg9 : arg9.IsWhole) (arg10 : Memref sig .tc .vmem S1x256x256 .f32) (harg10 : arg10.IsWhole) (arg11 : Memref sig .tc .vmem S1x256x256 .f32) (harg11 : arg11.IsWhole) (arg12 : Memref sig .tc .vmem S1x2304x256 .f32) (harg12 : arg12.IsWhole) (arg13 : Memref sig .tc .vmem S1x2304x256 .f32) (harg13 : arg13.IsWhole) (arg14 : Memref sig .tc .vmem S8x1x256x512 .f32) (harg14 : arg14.IsWhole)
    (hc0 : k0_cond1 i = 1#1) (hc1 : k0_cond2 i = 1#1) (x0 : Vec F S1x256x256 .bf16) (x1 : Vec F S1x2304x256 .bf16) (x2 : Vec F S1x2304x256 .bf16) (x3 : Vec F S1x1x256x512 .f32) (x4 : Vec F S1x1x256x512 .f32) (x5 : Vec F S1x1x256x512 .f32) (x6 : Vec F S1x1x256x512 .f32) (x7 : Vec F S1x256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ owns (c : Thread nD τ) arg11 fullShare (outQ fun r => rowQ (rows i x0 x1 x2 x3 x4 x5 x6 x7 r))
              ∗ owns (c : Thread nD τ) arg12 fullShare (accum i (fun r => rowKW (rows i x0 x1 x2 x3 x4 x5 x6 x7 r)) (fun r => rowKC (rows i x0 x1 x2 x3 x4 x5 x6 x7 r)) k0_pay5)
              ∗ owns (c : Thread nD τ) arg13 fullShare (accum i (fun r => rowVW (rows i x0 x1 x2 x3 x4 x5 x6 x7 r)) (fun r => rowVC (rows i x0 x1 x2 x3 x4 x5 x6 x7 r)) k0_pay6) ∗ (∃ d, owns (c : Thread nD τ) arg14 fullShare d)) -∗ K ⟨⟩))
          ⊢ wp frame (wpE (defs₀ (F := F)) Variants.none c none) E (cc0_na_bwd i arg3 harg3 arg4 harg4 arg5 harg5 arg6 harg6 arg7 harg7 arg8 harg8 arg9 harg9 arg10 harg10 arg11 harg11 arg12 harg12 arg13 harg13 arg14 harg14) K := by
    intro E K
    have hρ := rowIn_loads i arg3 harg3 arg4 harg4 arg5 harg5 arg6 harg6 arg10 harg10 x0 x1 x2 x3 x7 0 inb_S1x256x256_S1x64x256_0_0_0
    change rows i x0 x1 x2 x3 x4 x5 x6 x7 0 = _ at hρ
    have hq : k0_pay9 (arg3.view.readAt (Elt F) (Rect.unit (s := S1x256x256) ![0, 0, 0] S1x64x256.size inb_S1x256x256_S1x64x256_0_0_0).toLoadRect (harg3.unread x0)) = (rows i x0 x1 x2 x3 x4 x5 x6 x7 0).q := by rw [hρ]; rfl
    have hkw : k0_pay10 (arg4.view.readAt (Elt F) (Rect.unit (s := S1x2304x256) (k0_off1 i 0#32) S1x512x256.size (k0_off1_inb i 0)).toLoadRect (harg4.unread x1)) = (rows i x0 x1 x2 x3 x4 x5 x6 x7 0).kw := by rw [hρ]; rfl
    have hvw : k0_pay11 (arg5.view.readAt (Elt F) (Rect.unit (s := S1x2304x256) (k0_off1 i 0#32) S1x512x256.size (k0_off1_inb i 0)).toLoadRect (harg5.unread x2)) = (rows i x0 x1 x2 x3 x4 x5 x6 x7 0).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 0).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 0).vc := by rw [hρ]; rfl
    have hb : k0_pay12 (arg6.view.readAt (Elt F) (Rect.unit (s := S1x1x256x512) ![0, 0, 0, 0] S1x1x256x512.size inb_S1x1x256x512_S1x1x256x512_0_0_0_0).toLoadRect (harg6.unread x3)) = (rows i x0 x1 x2 x3 x4 x5 x6 x7 0).bias := by rw [hρ]; rfl
    have hg : k0_pay13 (arg10.view.readAt (Elt F) (Rect.unit (s := S1x256x256) ![0, 0, 0] S1x64x256.size inb_S1x256x256_S1x64x256_0_0_0).toLoadRect (harg10.unread x7)) = (rows i x0 x1 x2 x3 x4 x5 x6 x7 0).g := by rw [hρ]; rfl
    have hs := stack_0 hq
    have hlw := logitW_0 hq hkw hb
    have hpw := probW_0 hkc hs hlw
    have hpc := probC_0 hkc hs hlw
    have hsg := stackG_0 hg
    have hgw := gradPW_0 hvw hg
    have hdw := gradSW_0 hvc hsg hpw hpc hgw
    have hdc := gradSC_0 hvc hsg hpw hpc hgw
    have hQ0 := rowQ_0 hkw hkc hvc hsg hpw hpc hgw hdc
    have hKW0 := rowKW_0 hs hdw
    have hKC0 := rowKC_0 hs hdc
    have hVW0 := rowVW_0 hsg hpw
    have hVC0 := rowVC_0 hsg hpc
    clear hρ hq hkw hvw hkc hvc hb hg hs hlw hpw hpc hsg hgw hdw hdc
    have hρ := rowIn_loads i arg3 harg3 arg4 harg4 arg5 harg5 arg7 harg7 arg10 harg10 x0 x1 x2 x4 x7 1 inb_S1x256x256_S1x64x256_0_64_0
    change rows i x0 x1 x2 x3 x4 x5 x6 x7 1 = _ at hρ
    have hq : k0_pay14 (arg3.view.readAt (Elt F) (Rect.unit (s := S1x256x256) ![0, 64, 0] S1x64x256.size inb_S1x256x256_S1x64x256_0_64_0).toLoadRect (harg3.unread x0)) = (rows i x0 x1 x2 x3 x4 x5 x6 x7 1).q := by rw [hρ]; rfl
    have hkw : k0_pay15 (arg4.view.readAt (Elt F) (Rect.unit (s := S1x2304x256) (k0_off1 i 1#32) S1x512x256.size (k0_off1_inb i 1)).toLoadRect (harg4.unread x1)) = (rows i x0 x1 x2 x3 x4 x5 x6 x7 1).kw := by rw [hρ]; rfl
    have hvw : k0_pay16 (arg5.view.readAt (Elt F) (Rect.unit (s := S1x2304x256) (k0_off1 i 1#32) S1x512x256.size (k0_off1_inb i 1)).toLoadRect (harg5.unread x2)) = (rows i x0 x1 x2 x3 x4 x5 x6 x7 1).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 1).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 1).vc := by rw [hρ]; rfl
    have hb : k0_pay17 (arg7.view.readAt (Elt F) (Rect.unit (s := S1x1x256x512) ![0, 0, 0, 0] S1x1x256x512.size inb_S1x1x256x512_S1x1x256x512_0_0_0_0).toLoadRect (harg7.unread x4)) = (rows i x0 x1 x2 x3 x4 x5 x6 x7 1).bias := by rw [hρ]; rfl
    have hg : k0_pay18 (arg10.view.readAt (Elt F) (Rect.unit (s := S1x256x256) ![0, 64, 0] S1x64x256.size inb_S1x256x256_S1x64x256_0_64_0).toLoadRect (harg10.unread x7)) = (rows i x0 x1 x2 x3 x4 x5 x6 x7 1).g := by rw [hρ]; rfl
    have hs := stack_1 hq
    have hlw := logitW_1 hq hkw hb
    have hlc := logitC_1 hkc hs
    have hpw := probW_1 hlw hlc
    have hpc := probC_1 hlw hlc
    have hsg := stackG_1 hg
    have hgw := gradPW_1 hvw hg
    have hgc := gradPC_1 hvc hsg
    have hdw := gradSW_1 hpw hpc hgw hgc
    have hdc := gradSC_1 hpw hpc hgw hgc
    have hQ1 := rowQ_1 hkw hkc hpw hpc hgw hgc hdc
    have hKW1 := rowKW_1 hs hdw
    have hKC1 := rowKC_1 hs hdc
    have hVW1 := rowVW_1 hsg hpw
    have hVC1 := rowVC_1 hsg hpc
    clear hρ hq hkw hvw hkc hvc hb hg hs hlw hpw hpc hsg hgw hlc hgc hdw hdc
    have hρ := rowIn_loads i arg3 harg3 arg4 harg4 arg5 harg5 arg8 harg8 arg10 harg10 x0 x1 x2 x5 x7 2 inb_S1x256x256_S1x64x256_0_128_0
    change rows i x0 x1 x2 x3 x4 x5 x6 x7 2 = _ at hρ
    have hq : k0_pay19 (arg3.view.readAt (Elt F) (Rect.unit (s := S1x256x256) ![0, 128, 0] S1x64x256.size inb_S1x256x256_S1x64x256_0_128_0).toLoadRect (harg3.unread x0)) = (rows i x0 x1 x2 x3 x4 x5 x6 x7 2).q := by rw [hρ]; rfl
    have hkw : k0_pay20 (arg4.view.readAt (Elt F) (Rect.unit (s := S1x2304x256) (k0_off1 i 2#32) S1x512x256.size (k0_off1_inb i 2)).toLoadRect (harg4.unread x1)) = (rows i x0 x1 x2 x3 x4 x5 x6 x7 2).kw := by rw [hρ]; rfl
    have hvw : k0_pay21 (arg5.view.readAt (Elt F) (Rect.unit (s := S1x2304x256) (k0_off1 i 2#32) S1x512x256.size (k0_off1_inb i 2)).toLoadRect (harg5.unread x2)) = (rows i x0 x1 x2 x3 x4 x5 x6 x7 2).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 2).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 2).vc := by rw [hρ]; rfl
    have hb : k0_pay22 (arg8.view.readAt (Elt F) (Rect.unit (s := S1x1x256x512) ![0, 0, 0, 0] S1x1x256x512.size inb_S1x1x256x512_S1x1x256x512_0_0_0_0).toLoadRect (harg8.unread x5)) = (rows i x0 x1 x2 x3 x4 x5 x6 x7 2).bias := by rw [hρ]; rfl
    have hg : k0_pay23 (arg10.view.readAt (Elt F) (Rect.unit (s := S1x256x256) ![0, 128, 0] S1x64x256.size inb_S1x256x256_S1x64x256_0_128_0).toLoadRect (harg10.unread x7)) = (rows i x0 x1 x2 x3 x4 x5 x6 x7 2).g := by rw [hρ]; rfl
    have hs := stack_2 hq
    have hlw := logitW_2 hq hkw hb
    have hlc := logitC_2 hkc hs
    have hpw := probW_2 hlw hlc
    have hpc := probC_2 hlw hlc
    have hsg := stackG_2 hg
    have hgw := gradPW_2 hvw hg
    have hgc := gradPC_2 hvc hsg
    have hdw := gradSW_2 hpw hpc hgw hgc
    have hdc := gradSC_2 hpw hpc hgw hgc
    have hQ2 := rowQ_2 hkw hkc hpw hpc hgw hgc hdc
    have hKW2 := rowKW_2 hs hdw
    have hKC2 := rowKC_2 hs hdc
    have hVW2 := rowVW_2 hsg hpw
    have hVC2 := rowVC_2 hsg hpc
    clear hρ hq hkw hvw hkc hvc hb hg hs hlw hpw hpc hsg hgw hlc hgc hdw hdc
    have hρ := rowIn_loads i arg3 harg3 arg4 harg4 arg5 harg5 arg9 harg9 arg10 harg10 x0 x1 x2 x6 x7 3 inb_S1x256x256_S1x64x256_0_192_0
    change rows i x0 x1 x2 x3 x4 x5 x6 x7 3 = _ at hρ
    have hq : k0_pay24 (arg3.view.readAt (Elt F) (Rect.unit (s := S1x256x256) ![0, 192, 0] S1x64x256.size inb_S1x256x256_S1x64x256_0_192_0).toLoadRect (harg3.unread x0)) = (rows i x0 x1 x2 x3 x4 x5 x6 x7 3).q := by rw [hρ]; rfl
    have hkw : k0_pay25 (arg4.view.readAt (Elt F) (Rect.unit (s := S1x2304x256) (k0_off1 i 3#32) S1x512x256.size (k0_off1_inb i 3)).toLoadRect (harg4.unread x1)) = (rows i x0 x1 x2 x3 x4 x5 x6 x7 3).kw := by rw [hρ]; rfl
    have hvw : k0_pay26 (arg5.view.readAt (Elt F) (Rect.unit (s := S1x2304x256) (k0_off1 i 3#32) S1x512x256.size (k0_off1_inb i 3)).toLoadRect (harg5.unread x2)) = (rows i x0 x1 x2 x3 x4 x5 x6 x7 3).vw := by rw [hρ]; rfl
    have hkc : k0_pay7 (arg4.view.readAt (Elt F) (Rect.unit (s := S1x2304x256) ![0, 0, 0] S1x256x256.size inb_S1x2304x256_S1x256x256_0_0_0).toLoadRect (harg4.unread x1)) = (rows i x0 x1 x2 x3 x4 x5 x6 x7 3).kc := by rw [hρ]; rfl
    have hvc : k0_pay8 (arg5.view.readAt (Elt F) (Rect.unit (s := S1x2304x256) ![0, 0, 0] S1x256x256.size inb_S1x2304x256_S1x256x256_0_0_0).toLoadRect (harg5.unread x2)) = (rows i x0 x1 x2 x3 x4 x5 x6 x7 3).vc := by rw [hρ]; rfl
    have hb : k0_pay27 (arg9.view.readAt (Elt F) (Rect.unit (s := S1x1x256x512) ![0, 0, 0, 0] S1x1x256x512.size inb_S1x1x256x512_S1x1x256x512_0_0_0_0).toLoadRect (harg9.unread x6)) = (rows i x0 x1 x2 x3 x4 x5 x6 x7 3).bias := by rw [hρ]; rfl
    have hg : k0_pay28 (arg10.view.readAt (Elt F) (Rect.unit (s := S1x256x256) ![0, 192, 0] S1x64x256.size inb_S1x256x256_S1x64x256_0_192_0).toLoadRect (harg10.unread x7)) = (rows i x0 x1 x2 x3 x4 x5 x6 x7 3).g := by rw [hρ]; rfl
    have hs := stack_3 hq
    have hlw := logitW_3 hq hkw hb
    have hlc := logitC_3 hq hkc
    have hpw := probW_3 hlw hlc
    have hpc := probC_3 hlw hlc
    have hsg := stackG_3 hg
    have hgw := gradPW_3 hvw hg
    have hgc := gradPC_3 hvc hg
    have hQ3 := rowQ_3 hkw hkc hpw hpc hgw hgc
    have hKW3 := rowKW_3 hs hpw hpc hgw hgc
    have hKC3 := rowKC_3 hs hpw hpc hgw hgc
    have hVW3 := rowVW_3 hsg hpw
    have hVC3 := rowVC_3 hsg hpc
    clear hρ hq hkw hvw hkc hvc hb hg hs hlw hpw hpc hsg hgw hlc hgc
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      refine Eq.trans ?_ (read_outQ arg11.view f8 (i0 := inb_S1x256x256_S1x64x256_0_0_0) (i1 := inb_S1x256x256_S1x64x256_0_64_0)
        (i2 := inb_S1x256x256_S1x64x256_0_128_0) (i3 := inb_S1x256x256_S1x64x256_0_192_0) _)
      simp only [← hQ0, ← hQ1, ← hQ2, ← hQ3]
      rfl
    isplitl [H9]
    · iexists _; isplitr; swap; · iexact H9
      ipureintro
      refine read_stepC0 _ _ ?_ (bumpC_of hKC3) _
      refine read_stepW0 _ _ ?_ (off1_eq i 3) (bumpW_of hKW3)
      refine read_stepC0 _ _ ?_ (bumpC_of hKC2)
      refine read_stepW0 _ _ ?_ (off1_eq i 2) (bumpW_of hKW2)
      refine read_stepC0 _ _ ?_ (bumpC_of hKC1)
      refine read_stepW0 _ _ ?_ (off1_eq i 1) (bumpW_of hKW1)
      refine read_stepC0 _ _ ?_ (bumpC_of hKC0)
      refine read_stepW0 _ _ ?_ (off1_eq i 0) (bumpW_of hKW0)
      exact fun f => View.read_writes_full _ f _ _ _
    isplitl [H10]
    · iexists _; isplitr; swap; · iexact H10
      ipureintro
      refine read_stepC0 _ _ ?_ (bumpC_of hVC3) _
      refine read_stepW0 _ _ ?_ (off1_eq i 3) (bumpW_of hVW3)
      refine read_stepC0 _ _ ?_ (bumpC_of hVC2)
      refine read_stepW0 _ _ ?_ (off1_eq i 2) (bumpW_of hVW2)
      refine read_stepC0 _ _ ?_ (bumpC_of hVC1)
      refine read_stepW0 _ _ ?_ (off1_eq i 1) (bumpW_of hVW1)
      refine read_stepC0 _ _ ?_ (bumpC_of hVC0)
      refine read_stepW0 _ _ ?_ (off1_eq i 0) (bumpW_of hVW0)
      exact fun f => View.read_writes_full _ f _ _ _
    iexists _, _; isplitr; swap; · iexact H11
    ipureintro; rfl

end Cert.KernelIdeal.Gen

end
-- ==== Proof.Sweep.lean ====
module

public import proofs.«01_k».proof.Proof.Run
public import proofs.«01_k».proof.Proof.Gen.KernelIdeal.Points
public import proofs.«01_k».proof.Proof.Gen.KernelIdeal.Frame
public import Idealize.ShloMosaic.Lib.Claim

/-! # The sweep over the grid

What the windows hold after each point, and the run of the whole launch: the gradients of queries block by block, the two accumulators of a batch entry's gradients of keys and
values built up over its eight points, and nothing stated of the table of biases' gradients. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

/-- The first conditional is taken at a group's first point, -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- the second at a batch entry's first point. -/
theorem cond2_iff : ∀ t : Fin cfg0.N, k0_cond2 (grid0.coords t) = 1#1 ↔ t.val % 8 = 0 :=
  (by decide +kernel : ∀ t : Fin grid0.N, k0_cond2 (grid0.coords t) = 1#1 ↔ t.val % 8 = 0)

/-- The `n`-th point. -/
def point (n : ℕ) : Fin cfg0.N := ⟨n % 32, by rw [show cfg0.N = 32 from N_0]; exact Nat.mod_lt _ (by decide)⟩

theorem point_val (t : Fin cfg0.N) : point t.val = t :=
  Fin.ext (Nat.mod_eq_of_lt (lt_of_lt_of_eq t.isLt (show cfg0.N = 32 from N_0)))

variable (m : (ℓ : Loc nD τ sig) → Buf (Elt F) ℓ) (ρ : Dev nD → PrngReg)

/-! ## What the points leave -/

/-- The rows of point `t`. -/
def rowsAt (c : Dev nD) (t : Fin cfg0.N) (r : Fin 4) : RowIn F :=
  rows (grid0.coords t) (iblk m c 0 t) (iblk m c 1 t) (iblk m c 2 t) (iblk m c 3 t) (iblk m c 4 t) (iblk m c 5 t) (iblk m c 6 t) (iblk m c 7 t) r

/-- The block of gradients of queries of point `t`. -/
def dqBlock (c : Dev nD) (t : Fin cfg0.N) : Vec F S1x256x256 .f32 := outQ fun r => rowQ (rowsAt m c t r)

/-- Point `t`'s shares added to an accumulator of gradients of keys, -/
def dkStep (c : Dev nD) (t : Fin cfg0.N) (X : Vec F S1x2304x256 .f32) : Vec F S1x2304x256 .f32 :=
  accum (grid0.coords t) (fun r => rowKW (rowsAt m c t r)) (fun r => rowKC (rowsAt m c t r)) X
/-- and of values. -/
def dvStep (c : Dev nD) (t : Fin cfg0.N) (X : Vec F S1x2304x256 .f32) : Vec F S1x2304x256 .f32 :=
  accum (grid0.coords t) (fun r => rowVW (rowsAt m c t r)) (fun r => rowVC (rowsAt m c t r)) X

/-- The accumulator of gradients of keys after the `n`-th point, -/
def dkAfter (c : Dev nD) : ℕ → Vec F S1x2304x256 .f32
  | 0 => dkStep m c (point 0) k0_pay5
  | n + 1 => dkStep m c (point (n + 1)) (if (n + 1) % 8 = 0 then k0_pay5 else dkAfter c n)
/-- and of values. -/
def dvAfter (c : Dev nD) : ℕ → Vec F S1x2304x256 .f32
  | 0 => dvStep m c (point 0) k0_pay6
  | n + 1 => dvStep m c (point (n + 1)) (if (n + 1) % 8 = 0 then k0_pay6 else dvAfter c n)

theorem dkAfter_entry (c : Dev nD) (t : Fin cfg0.N) (h : t.val % 8 = 0) : dkAfter m c t.val = dkStep m c t k0_pay5 := by
  conv_rhs => rw [← point_val t]
  rcases ht : t.val with _ | n
  · rfl
  · rw [dkAfter, if_pos (ht ▸ h)]
theorem dvAfter_entry (c : Dev nD) (t : Fin cfg0.N) (h : t.val % 8 = 0) : dvAfter m c t.val = dvStep m c t k0_pay6 := by
  conv_rhs => rw [← point_val t]
  rcases ht : t.val with _ | n
  · rfl
  · rw [dvAfter, if_pos (ht ▸ h)]
theorem dkAfter_next (c : Dev nD) (t : Fin cfg0.N) (h : ¬ t.val % 8 = 0) : dkAfter m c t.val = dkStep m c t (dkAfter m c (t.val - 1)) := by
  obtain ⟨n, hn⟩ : ∃ n, t.val = n + 1 := ⟨t.val - 1, by omega⟩
  rw [hn, dkAfter, if_neg (hn ▸ h), Nat.add_sub_cancel, ← hn, point_val]
theorem dvAfter_next (c : Dev nD) (t : Fin cfg0.N) (h : ¬ t.val % 8 = 0) : dvAfter m c t.val = dvStep m c t (dvAfter m c (t.val - 1)) := by
  obtain ⟨n, hn⟩ : ∃ n, t.val = n + 1 := ⟨t.val - 1, by omega⟩
  rw [hn, dvAfter, if_neg (hn ▸ h), Nat.add_sub_cancel, ← hn, point_val]

/-! ## The pipeline's proof data -/

/-- Nothing is stated of the table of biases' gradients. -/
def forgets0 : Fin 12 → Bool := fun w => w.val == 11

/-- What each window's buffer holds after a point; the arrays as the launch finds them, the four windows on the table of biases sharing it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqBlock m c t
    | ⟨9, _⟩ => dkAfter m c t.val
    | ⟨10, _⟩ => dvAfter m c t.val
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqBlock m c t := by dsimp only [dats]
theorem after0_9 (c : Dev nD) (t : Fin cfg0.N) : (dats m 0 c).after 9 t = dkAfter m c t.val := by dsimp only [dats]
theorem after0_10 (c : Dev nD) (t : Fin cfg0.N) : (dats m 0 c).after 10 t = dvAfter m c t.val := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Past a batch entry's first point the accumulator of gradients of keys holds what the point before left. -/
theorem before0_9_next (c : Dev nD) (t : Fin cfg0.N) (h : ¬ t.val % 8 = 0) (d) : (dats m 0 c).before 9 t d = dkAfter m c (t.val - 1) :=
  ((dats m 0 c).before_out_kept 9 rfl t (fun h0 => h (by rw [h0]))
    (Bool.eq_false_iff.mpr fun hf => h (by have := (flush0_9 ⟨t.val - 1, Nat.lt_of_le_of_lt (Nat.sub_le _ _) t.isLt⟩).mp hf; dsimp only at this; omega))
    (fun _ => rfl) (fun _ _ => rfl) d).trans (after0_9 m c _)

/-- Past a batch entry's first point the accumulator of gradients of values holds what the point before left. -/
theorem before0_10_next (c : Dev nD) (t : Fin cfg0.N) (h : ¬ t.val % 8 = 0) (d) : (dats m 0 c).before 10 t d = dvAfter m c (t.val - 1) :=
  ((dats m 0 c).before_out_kept 10 rfl t (fun h0 => h (by rw [h0]))
    (Bool.eq_false_iff.mpr fun hf => h (by have := (flush0_10 ⟨t.val - 1, Nat.lt_of_le_of_lt (Nat.sub_le _ _) t.isLt⟩).mp hf; dsimp only at this; omega))
    (fun _ => rfl) (fun _ _ => rfl) d).trans (after0_10 m c _)

abbrev ms0_0 (t : Fin cfg0.N) : Memref sig .tc .vmem S1x256x256 .bf16 := win0_0.stage (cfg0.slots t 0)
abbrev ms0_1 (t : Fin cfg0.N) : Memref sig .tc .vmem S1x2304x256 .bf16 := win0_1.stage (cfg0.slots t 1)
abbrev ms0_2 (t : Fin cfg0.N) : Memref sig .tc .vmem S1x2304x256 .bf16 := win0_2.stage (cfg0.slots t 2)
abbrev ms0_3 (t : Fin cfg0.N) : Memref sig .tc .vmem S1x1x256x512 .f32 := win0_3.stage (cfg0.slots t 3)
abbrev ms0_4 (t : Fin cfg0.N) : Memref sig .tc .vmem S1x1x256x512 .f32 := win0_4.stage (cfg0.slots t 4)
abbrev ms0_5 (t : Fin cfg0.N) : Memref sig .tc .vmem S1x1x256x512 .f32 := win0_5.stage (cfg0.slots t 5)
abbrev ms0_6 (t : Fin cfg0.N) : Memref sig .tc .vmem S1x1x256x512 .f32 := win0_6.stage (cfg0.slots t 6)
abbrev ms0_7 (t : Fin cfg0.N) : Memref sig .tc .vmem S1x256x256 .f32 := win0_7.stage (cfg0.slots t 7)
abbrev ms0_8 (t : Fin cfg0.N) : Memref sig .tc .vmem S1x256x256 .f32 := win0_8.stage (cfg0.slots t 8)
abbrev ms0_9 (t : Fin cfg0.N) : Memref sig .tc .vmem S1x2304x256 .f32 := win0_9.stage (cfg0.slots t 9)
abbrev ms0_10 (t : Fin cfg0.N) : Memref sig .tc .vmem S1x2304x256 .f32 := win0_10.stage (cfg0.slots t 10)
abbrev ms0_11 (t : Fin cfg0.N) : Memref sig .tc .vmem S8x1x256x512 .f32 := win0_11.stage (cfg0.slots t 11)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d))

/-- A window the body uses is left holding what the proof data say. -/
theorem leaves_eq (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: the three cases of its conditionals. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [leaves_eq m c 0 t rfl, after0_0, leaves_eq m c 1 t rfl, after0_1, leaves_eq m c 2 t rfl, after0_2, leaves_eq m c 3 t rfl, after0_3, leaves_eq m c 4 t rfl, after0_4, leaves_eq m c 5 t rfl, after0_5, leaves_eq m c 6 t rfl, after0_6, leaves_eq m c 7 t rfl, after0_7, leaves_eq m c 8 t rfl, after0_8, leaves_eq m c 9 t rfl, after0_9, leaves_eq m c 10 t rfl, after0_10]
  by_cases h1 : t.val % 8 = 0
  · rw [dkAfter_entry m c t h1, dvAfter_entry m c t h1]
    by_cases h0 : t.val % 16 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((run_first c (grid0.coords t) _ _ _ _ _ _ _ _ _ _ _ _ _ _ _ _ _ _ _ _ _ _ _ _ ((cond1_iff t).mpr h0) ((cond2_iff t).mpr h1) (iblk m c 0 t) (iblk m c 1 t) (iblk m c 2 t) (iblk m c 3 t) (iblk m c 4 t) (iblk m c 5 t) (iblk m c 6 t) (iblk m c 7 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      iintro ⟨H0, H1, H2, H3, H4, H5, H6, H7, H8, H9, H10, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((run_entry c (grid0.coords t) _ _ _ _ _ _ _ _ _ _ _ _ _ _ _ _ _ _ _ _ _ _ _ _ (fun h => h0 ((cond1_iff t).mp h)) ((cond2_iff t).mpr h1) (iblk m c 0 t) (iblk m c 1 t) (iblk m c 2 t) (iblk m c 3 t) (iblk m c 4 t) (iblk m c 5 t) (iblk m c 6 t) (iblk m c 7 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      iintro ⟨H0, H1, H2, H3, H4, H5, H6, H7, H8, H9, H10, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · simp only [before0_9_next m c t h1, before0_10_next m c t h1]
    rw [dkAfter_next m c t h1, dvAfter_next m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run_next c (grid0.coords t) _ _ _ _ _ _ _ _ _ _ _ _ _ _ _ _ _ _ _ _ _ _ _ _ (fun h => h1 (by have := (cond1_iff t).mp h; omega)) (fun h => h1 ((cond2_iff t).mp h)) (iblk m c 0 t) (iblk m c 1 t) (iblk m c 2 t) (iblk m c 3 t) (iblk m c 4 t) (iblk m c 5 t) (iblk m c 6 t) (iblk m c 7 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run -/

set_option backward.isDefEq.respectTransparency.types false in
/-- The launch: every execution ends with the arrays as the proof data say and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 3200000 in
/-- What every execution ends in: the three results as the proof data say, the arguments as they were, and every counter at zero. -/
theorem run_values : θ_run defs (onTc (τ := τ) (main (F := F))) (s₀ m ρ) (fun r => (∀ c : Dev nD,
      (r.2.mem ((c.tc : Thread nD τ).loc main_v51_0) = (dats m 0 c).arrAt 8 cfg0.N
      ∧ r.2.mem ((c.tc : Thread nD τ).loc main_v51_1) = (dats m 0 c).arrAt 9 cfg0.N
      ∧ r.2.mem ((c.tc : Thread nD τ).loc main_v51_2) = (dats m 0 c).arrAt 10 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)))
      ∧ r.2.sem = fun _ => 0) :=
  (θ_run defs _ _).mono (fun _ h => ⟨fun c => ⟨⟨
      ((dats m 0 c).toRForget_arrAt_iff (fgt := forgets0) (w := 8) rfl _ _).mp ((h.1 c).1 8),
      ((dats m 0 c).toRForget_arrAt_iff (fgt := forgets0) (w := 9) rfl _ _).mp ((h.1 c).1 9),
      ((dats m 0 c).toRForget_arrAt_iff (fgt := forgets0) (w := 10) rfl _ _).mp ((h.1 c).1 10)⟩,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      (Pipeline.RDat.FramePost.arr_in h.1 c 7 rfl).trans ((A_eq m c 7).trans (V_main_arg4 m c))⟩, h.2⟩) (run_main m ρ)

/-- The frame, over any floating-point values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_values m ρ)

end Cert.KernelIdeal.Gen

end
-- ==== Proof.Twin.lean ====
module

public import proofs.«01_k».proof.Defs
public import proofs.«01_k».proof.Proof.Gen.Kernel
public import proofs.«01_k».proof.Proof.Gen.KernelIdeal

/-! # The kernel and its idealization are one text

The two printed programs, read over any floating-point values, are equal: a run of one is a run of the other. -/

public section

noncomputable section

namespace Cert.Proof

open Idealize.ShloMosaic Idealize.SL.Sem

variable {F : FTy → Type} [FloatOps F]

theorem body_same : Cert.Kernel.cc0_na_bwd (F := F) = Cert.KernelIdeal.cc0_na_bwd := rfl

set_option maxHeartbeats 1000000 in
theorem defs₀_same : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => exact (by rw [body_same]; rfl)
  | ⟨_ + 1, h⟩, _ => exact absurd h (Nat.not_lt.2 (Nat.le_add_left _ _))

theorem defs_same : Cert.Kernel.defs (F := F) = Cert.KernelIdeal.defs :=
  congrArg (Pipeline.defs (Cert.KernelIdeal.pcfgs (F := F))) defs₀_same

set_option maxHeartbeats 4000000 in
theorem main_part0_same : Cert.Kernel.main_part0 (F := F) = Cert.KernelIdeal.main_part0 := rfl

set_option maxHeartbeats 4000000 in
theorem main_part1_same : Cert.Kernel.main_part1 (F := F) = Cert.KernelIdeal.main_part1 := rfl

theorem main_same : Cert.Kernel.main (F := F) = Cert.KernelIdeal.main :=
  funext fun d => congrArg₂ (fun a b => a >>= fun _ => b) (congrFun main_part0_same d) (congrFun main_part1_same d)

/-- A run of the idealization's text is a run of the kernel's. -/
theorem run_same {s : MemSt Cert.Kernel.nD Cert.Kernel.τ Cert.Kernel.sig (Elt F)} {Q : PUnit × MemSt Cert.Kernel.nD Cert.Kernel.τ Cert.Kernel.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]; exact h

end Cert.Proof

end
-- ==== Proof.Softmax.lean ====
module

public import Idealize.ShloMosaic.PureOps.Ideal.Laws
public import Mathlib.Data.EReal.Operations
public import Mathlib.Data.EReal.Inv

/-! # The gradient of one row of a softmax, over the extended reals

`logit` gives a row's logits over its keys and `g` the gradients of its probabilities. The kernel takes the softmax of the keys of a window only and multiplies by the
reciprocal of the normaliser; the reference takes it of all keys, those outside the window at `⊥`, and divides. -/

@[expose] public section

noncomputable section

namespace Cert.Attention

open Idealize.ShloMosaic

variable {K K' : Type} [Fintype K] [Fintype K']

/-- The largest logit. -/
def top (s : K → EReal) : EReal := Finset.univ.sup s
/-- The exponentials of the logits less the largest. -/
def ex (s : K → EReal) (k : K) : EReal := Ideal.exp (s k - top s)
/-- The normaliser. -/
def norm (s : K → EReal) : EReal := ∑ k, ex s k
/-- The probabilities. -/
def prob (s : K → EReal) (k : K) : EReal := Ideal.div (ex s k) (norm s)
/-- The mean of the probabilities' gradients. -/
def mean (s g : K → EReal) : EReal := ∑ k, prob s k * g k
/-- The logits' gradients. -/
def grad (s g : K → EReal) (k : K) : EReal := prob s k * (g k - mean s g)

/-- A row of logits no one of which is `⊤` and not all of which are `⊥`. -/
def Proper (s : K → EReal) : Prop := (∀ k, s k ≠ ⊤) ∧ ∃ k, s k ≠ ⊥

theorem Proper.top_real {s : K → EReal} (h : Proper s) : ∃ r : ℝ, top s = r := by
  have h1 : top s ≠ ⊤ := ne_of_lt ((Finset.sup_lt_iff (by simp)).2 fun k _ => lt_top_iff_ne_top.2 (h.1 k))
  have h2 : top s ≠ ⊥ := by
    obtain ⟨k, hk⟩ := h.2
    exact fun e => hk (le_bot_iff.1 (e ▸ Finset.le_sup (f := s) (Finset.mem_univ k)))
  exact ⟨(top s).toReal, (EReal.coe_toReal h1 h2).symm⟩

theorem Proper.ex_real {s : K → EReal} (h : Proper s) : ∃ e : K → ℝ, (∀ k, ex s k = e k) ∧ (∀ k, 0 ≤ e k) ∧ (∃ k, 0 < e k) ∧ ∀ k, s k = ⊥ → e k = 0 := by
  obtain ⟨r, hr⟩ := h.top_real
  have key : ∀ k, ∃ x : ℝ, ex s k = x ∧ 0 ≤ x ∧ (s k ≠ ⊥ → 0 < x) ∧ (s k = ⊥ → x = 0) := by
    intro k
    unfold ex
    rw [hr]
    by_cases hb : s k = ⊥
    · exact ⟨0, by rw [hb, EReal.bot_sub, Ideal.exp_bot]; rfl, le_refl _, fun h => absurd hb h, fun _ => rfl⟩
    · have hx := EReal.coe_toReal (h.1 k) hb
      refine ⟨Real.exp ((s k).toReal - r), ?_, (Real.exp_pos _).le, fun _ => Real.exp_pos _, fun h => absurd h hb⟩
      rw [← hx, ← EReal.coe_sub, Ideal.exp_coe, EReal.toReal_coe]
  choose e he using key
  obtain ⟨k, hk⟩ := h.2
  exact ⟨e, fun k => (he k).1, fun k => (he k).2.1, ⟨k, (he k).2.2.1 hk⟩, fun k => (he k).2.2.2⟩

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A nonnegative real goes into a sum. -/
theorem mul_sum_of_nonneg {ι : Type} (t : Finset ι) (c : ℝ) (hc : 0 ≤ c) (f : ι → EReal) : (c : EReal) * ∑ k ∈ t, f k = ∑ k ∈ t, (c : EReal) * f k := by
  classical
  induction t using Finset.induction_on with
  | empty => simp
  | insert a t ha ih =>
    rw [Finset.sum_insert ha, Finset.sum_insert ha, EReal.left_distrib_of_nonneg_of_ne_top (by exact_mod_cast hc) (EReal.coe_ne_top c), ih]

/-- Everything of a proper row in real numbers: exponentials, normaliser and probabilities. -/
theorem Proper.real {s : K → EReal} (h : Proper s) :
    ∃ (e : K → ℝ) (z : ℝ), (∀ k, ex s k = e k) ∧ (∀ k, 0 ≤ e k) ∧ 0 < z ∧ norm s = z ∧ (∀ k, prob s k = ((e k * (1 / z) : ℝ) : EReal))
      ∧ ∀ k, s k = ⊥ → e k = 0 := by
  obtain ⟨e, he, h0, ⟨k0, hk0⟩, hb⟩ := h.ex_real
  have hz : 0 < ∑ k, e k := Finset.sum_pos' (fun k _ => h0 k) ⟨k0, Finset.mem_univ _, hk0⟩
  have hn : norm s = ((∑ k, e k : ℝ) : EReal) := by
    rw [coe_sum]; exact Finset.sum_congr rfl fun k _ => he k
  refine ⟨e, ∑ k, e k, he, h0, hz, hn, fun k => ?_, hb⟩
  rw [prob, hn, he, Ideal.div_coe hz.ne', ← EReal.coe_mul]

/-- The kernel's probabilities: the exponentials by the reciprocal of the normaliser. -/
theorem Proper.mul_inv {s : K → EReal} (h : Proper s) (k : K) : ex s k * Ideal.div 1 (norm s) = prob s k := by
  obtain ⟨e, z, he, h0, hz, hn, hp, -⟩ := h.real
  rw [hp, he, hn, Ideal.div_coe hz.ne', one_mul, ← EReal.coe_mul]

/-- The reference's gradient of a logit. -/
theorem Proper.ref_grad {s : K → EReal} (h : Proper s) (g : K → EReal) (k : K) :
    (Ideal.div (g k) (norm s) + -(∑ j, g j * Ideal.div 1 (norm s * norm s) * ex s j)) * ex s k = grad s g k := by
  obtain ⟨e, z, he, h0, hz, hn, hp, -⟩ := h.real
  have hzi : (0 : ℝ) ≤ 1 / z := by positivity
  have hz2 : z * z ≠ 0 := (mul_pos hz hz).ne'
  have hsum : ∑ j, g j * Ideal.div 1 (norm s * norm s) * ex s j = ((1 / z : ℝ) : EReal) * mean s g := by
    rw [mean, mul_sum_of_nonneg _ _ hzi]
    refine Finset.sum_congr rfl fun j _ => ?_
    rw [hn, ← EReal.coe_mul, Ideal.div_coe hz2, one_mul, he, hp, mul_assoc, ← EReal.coe_mul, ← mul_assoc, ← EReal.coe_mul, mul_comm]
    congr 2
    field_simp
  rw [hsum, grad, hp, he, hn, Ideal.div_coe hz.ne', sub_eq_add_neg,
    EReal.left_distrib_of_nonneg_of_ne_top (by exact_mod_cast mul_nonneg (h0 k) hzi) (EReal.coe_ne_top _), mul_comm,
    EReal.left_distrib_of_nonneg_of_ne_top (by exact_mod_cast h0 k) (EReal.coe_ne_top _)]
  congr 1
  · rw [mul_comm (g k), ← mul_assoc, ← EReal.coe_mul]
  · rw [mul_neg, mul_neg, ← mul_assoc, ← EReal.coe_mul]

/-- A key at `⊥` has probability zero. -/
theorem Proper.prob_bot {s : K → EReal} (h : Proper s) {k : K} (hk : s k = ⊥) : prob s k = 0 := by
  obtain ⟨e, z, he, h0, hz, hn, hp, hb⟩ := h.real
  rw [hp, hb k hk, zero_mul, EReal.coe_zero]

/-- A key at `⊥` has gradient zero. -/
theorem Proper.grad_bot {s : K → EReal} (h : Proper s) (g : K → EReal) {k : K} (hk : s k = ⊥) : grad s g k = 0 := by
  rw [grad, h.prob_bot hk, zero_mul]

section Restrict

variable (ι : K' → K) (hι : Function.Injective ι) {s : K → EReal} (hs : Proper s) (hout : ∀ k, k ∉ Set.range ι → s k = ⊥)
include hι hout

theorem sum_restrict (f : K → EReal) (hf : ∀ k, s k = ⊥ → f k = 0) : ∑ k, f k = ∑ k', f (ι k') := by
  refine (Finset.sum_of_injOn ι hι.injOn (fun _ _ => Finset.mem_coe.2 (Finset.mem_univ _)) (fun k _ hk => ?_) fun _ _ => rfl).symm
  exact hf k (hout k fun ⟨k', e⟩ => hk ⟨k', Finset.mem_coe.2 (Finset.mem_univ _), e⟩)

omit hι in
theorem top_restrict : top (fun k' => s (ι k')) = top s := by
  refine le_antisymm (Finset.sup_le fun k' _ => Finset.le_sup (f := s) (Finset.mem_univ _)) (Finset.sup_le fun k _ => ?_)
  by_cases hk : k ∈ Set.range ι
  · obtain ⟨k', rfl⟩ := hk
    exact Finset.le_sup (f := fun k' => s (ι k')) (Finset.mem_univ k')
  · rw [hout k hk]; exact bot_le

include hs in
theorem norm_restrict : norm (fun k' => s (ι k')) = norm s := by
  unfold norm ex
  rw [top_restrict ι hout]
  refine (sum_restrict ι hι hout (fun k => Ideal.exp (s k - top s)) fun k hk => ?_).symm
  show Ideal.exp (s k - top s) = 0
  rw [hk, EReal.bot_sub, Ideal.exp_bot]

include hs in
theorem prob_restrict (k' : K') : prob (fun k' => s (ι k')) k' = prob s (ι k') := by
  unfold prob
  rw [norm_restrict ι hι hs hout]
  unfold ex
  rw [top_restrict ι hout]

include hs in
theorem mean_restrict (g : K → EReal) : mean (fun k' => s (ι k')) (fun k' => g (ι k')) = mean s g := by
  unfold mean
  refine Eq.trans ?_ (sum_restrict ι hι hout (fun k => prob s k * g k) fun k hk => ?_).symm
  · exact Finset.sum_congr rfl fun k' _ => by rw [prob_restrict ι hι hs hout]
  · show prob s k * g k = 0
    rw [hs.prob_bot hk, zero_mul]

include hs in
theorem grad_restrict (g : K → EReal) (k' : K') : grad (fun k' => s (ι k')) (fun k' => g (ι k')) k' = grad s g (ι k') := by
  unfold grad
  rw [prob_restrict ι hι hs hout, mean_restrict ι hι hs hout]

omit hι in
include hs in
theorem proper_restrict : Proper (fun k' => s (ι k')) := by
  refine ⟨fun k' => hs.1 _, ?_⟩
  obtain ⟨k, hk⟩ := hs.2
  by_contra hn
  push Not at hn
  exact hk (hout k fun ⟨k', e⟩ => hk (e ▸ hn k'))

end Restrict

end Cert.Attention

end
-- ==== Proof.Spec.lean ====
module

public import proofs.«01_k».proof.Proof.Softmax

/-! # The attention's gradients, as sums

Two sequences of 256 context and 2048 latent positions and eight heads of 64 lanes; the queries are the latent positions, the keys the latent positions followed by the context's.
`β` is the bias of a latent key, `⊥` where the query does not see it. -/

@[expose] public section

noncomputable section

namespace Cert.Attention

/-- The keys of a query: the latent positions and the context's. -/
abbrev Key := Fin 2048 ⊕ Fin 256

/-- The position of a key in the sequence. -/
def pos : Key → Fin 2304
  | .inl κ => ⟨256 + κ.val, by omega⟩
  | .inr c => ⟨c.val, by omega⟩

/-- The lane `d` of head `h`. -/
def lane (h : Fin 8) (d : Fin 64) : Fin 512 := ⟨h.val * 64 + d.val, by omega⟩

/-- What the gradients are of: queries, keys and values, the biases, and the gradient of the attention's output. -/
structure Args where
  q : Fin 2 → Fin 2304 → Fin 512 → EReal
  k : Fin 2 → Fin 2304 → Fin 512 → EReal
  v : Fin 2 → Fin 2304 → Fin 512 → EReal
  β : Fin 8 → Fin 2048 → Fin 2048 → EReal
  g : Fin 2 → Fin 2048 → Fin 512 → EReal

namespace Args

variable (A : Args) (b : Fin 2) (h : Fin 8) (n : Fin 2048)

/-- A query's product with a position. -/
def score (y : Fin 2304) : EReal := ∑ d, A.q b (pos (.inl n)) (lane h d) * A.k b y (lane h d)
/-- The logits of a query. -/
def logit : Key → EReal
  | .inl κ => A.score b h n (pos (.inl κ)) + A.β h n κ
  | .inr c => A.score b h n (pos (.inr c))
/-- The gradients of a query's probabilities. -/
def gp (κ : Key) : EReal := ∑ d, A.g b n (lane h d) * A.v b (pos κ) (lane h d)
/-- The gradients of a query's logits. -/
def gs (κ : Key) : EReal := grad (A.logit b h n) (A.gp b h n) κ
/-- A query's probabilities. -/
def p (κ : Key) : EReal := prob (A.logit b h n) κ
/-- The gradient of a query. -/
def dq (d : Fin 64) : EReal := ∑ κ, A.gs b h n κ * A.k b (pos κ) (lane h d)
/-- The gradient of a key. -/
def dk (κ : Key) (d : Fin 64) : EReal := ∑ n, A.gs b h n κ * A.q b (pos (.inl n)) (lane h d)
/-- The gradient of a value. -/
def dv (κ : Key) (d : Fin 64) : EReal := ∑ n, A.p b h n κ * A.g b n (lane h d)

end Args

end Cert.Attention

end
-- ==== Proof.RowValue.lean ====
module

public import proofs.«01_k».proof.Proof.Row
public import proofs.«01_k».proof.Proof.Spec
public import Idealize.ShloMosaic.Lib.Pointwise
public import Idealize.ShloMosaic.Lib.IdealHost

/-! # The kernel's row of queries at an index

Of the four heads side by side, head `hh` of query `x` is the row `64 * hh + x` of the stacked arrays and its lanes are `64 * hh + d`. -/

@[expose] public section

noncomputable section

namespace Cert.KernelIdeal.Gen

open Idealize.ShloMosaic Cert.Attention

/-- Row or lane `d` of the quarter `hh`. -/
def quarter (hh : Fin 4) (d : Fin 64) : Fin 256 := ⟨hh.val * 64 + d.val, by omega⟩

theorem sum_quarter (f : Fin 256 → EReal) (hh : Fin 4) (hf : ∀ g d, g ≠ hh → f (quarter g d) = 0) : ∑ l, f l = ∑ d, f (quarter hh d) := by
  refine (Finset.sum_of_injOn (quarter hh) (fun d _ e _ h => ?_) (fun _ _ => Finset.mem_coe.2 (Finset.mem_univ _)) (fun l _ hl => ?_) fun _ _ => rfl).symm
  · have := congrArg Fin.val h
    simp only [quarter] at this
    exact Fin.ext (by omega)
  · have e : l = quarter ⟨l.val / 64, by omega⟩ ⟨l.val % 64, by omega⟩ := Fin.ext (by simp only [quarter]; omega)
    rw [e]
    refine hf _ _ fun hg => hl ⟨⟨l.val % 64, by omega⟩, by simp, ?_⟩
    have hv := congrArg Fin.val hg
    simp only at hv
    exact Fin.ext (by simp only [quarter]; omega)

theorem mask_bit : ∀ (hh g : Fin 4) (d : Fin 64),
    IntOp.cmpi .eq (IntOp.shrsi .vector (BitVec.ofNat 32 (quarter g d).val) 6#32) (BitVec.ofNat 32 hh.val) = if g = hh then 1#1 else 0#1 := by
  decide +kernel

theorem headMask_at (x : Fin 64) (hh g : Fin 4) (d : Fin 64) : headMask (BitVec.ofNat 32 hh.val) (ix2 x (quarter g d)) = if g = hh then 1#1 else 0#1 := by
  rw [← mask_bit hh g d]
  unfold headMask
  pointwise
  done

/-- A head's mask, at a head. -/
theorem select_mask {α : Type} (g hh : Fin 4) (a b : α) : Scalar.select (if g = hh then 1#1 else 0#1) a b = if g = hh then a else b := by
  split <;> rfl

theorem stack_at (x : FVec Ideal S64x256 .bf16) (hh g : Fin 4) (n d : Fin 64) :
    stack x (ix2 (quarter hh n) (quarter g d)) = if g = hh then x (ix2 n (quarter g d)) else 0 := by
  have m0 := fun n => headMask_at n 0 g d
  have m1 := fun n => headMask_at n 1 g d
  have m2 := fun n => headMask_at n 2 g d
  have m3 := fun n => headMask_at n 3 g d
  have hv : (quarter hh n).val = hh.val * 64 + n.val := rfl
  unfold stack oneHead
  pointwise
  fin_cases hh
  · have hv' : (quarter 0 n).val = n.val := by simpa using hv
    rw [dif_pos (by show (quarter 0 n).val < 64; omega)]
    refine (congrArg (fun z => Scalar.select z _ _) (m0 _)).trans ((select_mask g 0 _ _).trans ?_)
    congr 3
    exact Fin.ext hv'
  · have hv' : (quarter 1 n).val = 64 + n.val := by simpa using hv
    rw [dif_neg (by show ¬ (quarter 1 n).val < 64; omega), dif_pos (by show (quarter 1 n).val - 64 < 64; omega)]
    refine (congrArg (fun z => Scalar.select z _ _) (m1 _)).trans ((select_mask g 1 _ _).trans ?_)
    congr 3
    exact Fin.ext (by show (quarter 1 n).val - 64 = n.val; omega)
  · have hv' : (quarter 2 n).val = 128 + n.val := by simpa using hv
    rw [dif_neg (by show ¬ (quarter 2 n).val < 64; omega), dif_neg (by show ¬ (quarter 2 n).val - 64 < 64; omega),
      dif_pos (by show (quarter 2 n).val - 64 - 64 < 64; omega)]
    refine (congrArg (fun z => Scalar.select z _ _) (m2 _)).trans ((select_mask g 2 _ _).trans ?_)
    congr 3
    exact Fin.ext (by show (quarter 2 n).val - 64 - 64 = n.val; omega)
  · have hv' : (quarter 3 n).val = 192 + n.val := by simpa using hv
    rw [dif_neg (by show ¬ (quarter 3 n).val < 64; omega), dif_neg (by show ¬ (quarter 3 n).val - 64 < 64; omega),
      dif_neg (by show ¬ (quarter 3 n).val - 64 - 64 < 64; omega)]
    refine (congrArg (fun z => Scalar.select z _ _) (m3 _)).trans ((select_mask g 3 _ _).trans ?_)
    congr 3
    exact Fin.ext (by show (quarter 3 n).val - 64 - 64 - 64 = n.val; omega)

theorem unstack_at (y : FVec Ideal S256x256 .f32) (hh : Fin 4) (n d : Fin 64) :
    unstack y (ix2 n (quarter hh d)) = y (ix2 (quarter hh n) (quarter hh d)) := by
  have m0 : headMask 0#32 (ix2 n (quarter hh d)) = _ := headMask_at n 0 hh d
  have m1 : headMask 1#32 (ix2 n (quarter hh d)) = _ := headMask_at n 1 hh d
  have m2 : headMask 2#32 (ix2 n (quarter hh d)) = _ := headMask_at n 2 hh d
  have m3 : headMask 3#32 (ix2 n (quarter hh d)) = _ := headMask_at n 3 hh d
  unfold unstack
  pointwise
  rw [m0, m1, m2, m3]
  simp only [select_mask]
  fin_cases hh
  · exact congrArg (fun r => y (ix2 r _)) (Fin.ext (by simp [quarter]))
  · exact congrArg (fun r => y (ix2 r _)) (Fin.ext (by simp [quarter]))
  · exact congrArg (fun r => y (ix2 r _)) (Fin.ext (by simp [quarter]))
  · exact congrArg (fun r => y (ix2 r _)) (Fin.ext (by simp [quarter]))

theorem dotW_at (x : FVec Ideal S256x256 .bf16) (y : FVec Ideal S512x256 .bf16) (r : Fin 256) (i : Fin 512) :
    dotW x y (ix2 r i) = ∑ l, x (ix2 r l) * y (ix2 i l) := by
  unfold dotW
  pointwise

theorem dotC_at (x : FVec Ideal S256x256 .bf16) (y : FVec Ideal S256x256 .bf16) (r : Fin 256) (i : Fin 256) :
    dotC x y (ix2 r i) = ∑ l, x (ix2 r l) * y (ix2 i l) := by
  unfold dotC
  pointwise

theorem pullW_at (w : FVec Ideal S256x512 .bf16) (x : FVec Ideal S256x256 .bf16) (i : Fin 512) (l : Fin 256) :
    pullW w x (ix2 i l) = ∑ r, w (ix2 r i) * x (ix2 r l) := by
  unfold pullW
  pointwise

theorem pullC_at (w : FVec Ideal S256x256 .bf16) (x : FVec Ideal S256x256 .bf16) (i : Fin 256) (l : Fin 256) :
    pullC w x (ix2 i l) = ∑ r, w (ix2 r i) * x (ix2 r l) := by
  unfold pullC
  pointwise

theorem sumW_at (x : FVec Ideal S256x512 .f32) (r : Fin 256) (z : Fin 1) : sumW x (ix2 r z) = ∑ i, x (ix2 r i) := by
  unfold sumW
  pointwise

theorem sumC_at (x : FVec Ideal S256x256 .f32) (r : Fin 256) (z : Fin 1) : sumC x (ix2 r z) = ∑ i, x (ix2 r i) := by
  unfold sumC
  pointwise

theorem wideW_at (x : FVec Ideal S256x1 .f32) (r : Fin 256) (i : Fin 512) : wideW x (ix2 r i) = x (ix2 r 0) := by
  unfold wideW
  pointwise

theorem wideC_at (x : FVec Ideal S256x1 .f32) (r : Fin 256) (i : Fin 256) : wideC x (ix2 r i) = x (ix2 r 0) := by
  unfold wideC
  pointwise

theorem rowMax_at (sw : FVec Ideal S256x512 .f32) (sc : FVec Ideal S256x256 .f32) (r : Fin 256) (z : Fin 1) :
    rowMax sw sc (ix2 r z) = max (top fun i => sw (ix2 r i)) (top fun c => sc (ix2 r c)) := by
  have h0 : Ideal.ofBits .f32 0xFF800000#32 = (⊥ : EReal) := by simp [Ideal.ofBits, Ideal.ieee]
  unfold rowMax
  pointwise
  rw [h0]
  rfl

/-- A stacked row's product with any lanes is the head's own. -/
theorem sum_stack (x : FVec Ideal S64x256 .bf16) (f : Fin 256 → EReal) (hh : Fin 4) (n : Fin 64) :
    ∑ l, stack x (ix2 (quarter hh n) l) * f l = ∑ d, x (ix2 n (quarter hh d)) * f (quarter hh d) := by
  rw [sum_quarter _ hh fun g d hg => by rw [stack_at, if_neg hg, zero_mul]]
  exact Finset.sum_congr rfl fun d _ => by rw [stack_at, if_pos rfl]

/-- What the stacked rows give a lane are its own head's. -/
theorem sum_stack' (x : FVec Ideal S64x256 .bf16) (f : Fin 256 → EReal) (hh : Fin 4) (d : Fin 64) :
    ∑ r, f r * stack x (ix2 r (quarter hh d)) = ∑ n, f (quarter hh n) * x (ix2 n (quarter hh d)) := by
  rw [sum_quarter _ hh fun g n hg => by rw [stack_at, if_neg (Ne.symm hg), mul_zero]]
  exact Finset.sum_congr rfl fun d _ => by rw [stack_at, if_pos rfl]

/-- The keys a row sees: its window's and the context's. -/
abbrev RowKey := Fin 512 ⊕ Fin 256

variable (ρ : RowIn Ideal) (hh : Fin 4) (n : Fin 64)

/-- A query's logits. -/
def RowIn.logit : RowKey → EReal
  | .inl i => (∑ d, ρ.q (ix2 n (quarter hh d)) * ρ.kw (ix2 i (quarter hh d))) + ρ.bias (ix2 (quarter hh n) i)
  | .inr c => ∑ d, ρ.q (ix2 n (quarter hh d)) * ρ.kc (ix2 c (quarter hh d))
/-- The gradients of its probabilities. -/
def RowIn.gp : RowKey → EReal
  | .inl i => ∑ d, ρ.g (ix2 n (quarter hh d)) * ρ.vw (ix2 i (quarter hh d))
  | .inr c => ∑ d, ρ.g (ix2 n (quarter hh d)) * ρ.vc (ix2 c (quarter hh d))

theorem logitW_at (i : Fin 512) : logitW ρ (ix2 (quarter hh n) i) = ρ.logit hh n (.inl i) := by
  show dotW (stack ρ.q) ρ.kw (ix2 (quarter hh n) i) + ρ.bias (ix2 (quarter hh n) i) = _
  rw [dotW_at, sum_stack ρ.q (fun l => ρ.kw (ix2 i l)), RowIn.logit]

theorem logitC_at (c : Fin 256) : logitC ρ (ix2 (quarter hh n) c) = ρ.logit hh n (.inr c) := by
  rw [logitC, dotC_at, sum_stack ρ.q (fun l => ρ.kc (ix2 c l)), RowIn.logit]

theorem gradPW_at (i : Fin 512) : gradPW ρ (ix2 (quarter hh n) i) = ρ.gp hh n (.inl i) := by
  rw [gradPW, dotW_at, stackG, sum_stack _ (fun l => ρ.vw (ix2 i l)), RowIn.gp]
  rfl

theorem gradPC_at (c : Fin 256) : gradPC ρ (ix2 (quarter hh n) c) = ρ.gp hh n (.inr c) := by
  rw [gradPC, dotC_at, stackG, sum_stack _ (fun l => ρ.vc (ix2 c l)), RowIn.gp]
  rfl

theorem top_sum (s : RowKey → EReal) : max (top fun i => s (.inl i)) (top fun c => s (.inr c)) = top s := by
  refine le_antisymm (max_le (Finset.sup_le fun i _ => Finset.le_sup (f := s) (Finset.mem_univ _)) (Finset.sup_le fun i _ => Finset.le_sup (f := s) (Finset.mem_univ _)))
    (Finset.sup_le fun k _ => ?_)
  rcases k with i | c
  · exact le_max_of_le_left (Finset.le_sup (f := fun i => s (.inl i)) (Finset.mem_univ i))
  · exact le_max_of_le_right (Finset.le_sup (f := fun c => s (.inr c)) (Finset.mem_univ c))

theorem rowMax_row (z : Fin 1) : rowMax (logitW ρ) (logitC ρ) (ix2 (quarter hh n) z) = top (ρ.logit hh n) := by
  rw [rowMax_at, ← top_sum]
  simp only [logitW_at, logitC_at]

theorem expW_at (i : Fin 512) : expW ρ (ix2 (quarter hh n) i) = ex (ρ.logit hh n) (.inl i) := by
  show Ideal.exp (logitW ρ (ix2 (quarter hh n) i) - wideW (rowMax (logitW ρ) (logitC ρ)) (ix2 (quarter hh n) i)) = _
  rw [wideW_at, rowMax_row, logitW_at, ex]

theorem expC_at (c : Fin 256) : expC ρ (ix2 (quarter hh n) c) = ex (ρ.logit hh n) (.inr c) := by
  show Ideal.exp (logitC ρ (ix2 (quarter hh n) c) - wideC (rowMax (logitW ρ) (logitC ρ)) (ix2 (quarter hh n) c)) = _
  rw [wideC_at, rowMax_row, logitC_at, ex]

theorem rowInv_at (z : Fin 1) : rowInv ρ (ix2 (quarter hh n) z) = Ideal.div 1 (norm (ρ.logit hh n)) := by
  show Ideal.div (Ideal.ofBits .f32 0x3F800000#32) (sumW (expW ρ) (ix2 (quarter hh n) z) + sumC (expC ρ) (ix2 (quarter hh n) z)) = _
  rw [Ideal.ofBits_one_f32, sumW_at, sumC_at, Attention.norm, Fintype.sum_sum_type]
  simp only [expW_at, expC_at]

section Proper

variable (hp : Proper (ρ.logit hh n))
include hp

theorem probW_at (i : Fin 512) : probW ρ (ix2 (quarter hh n) i) = prob (ρ.logit hh n) (.inl i) := by
  show expW ρ (ix2 (quarter hh n) i) * wideW (rowInv ρ) (ix2 (quarter hh n) i) = _
  rw [wideW_at, rowInv_at, expW_at, hp.mul_inv]

theorem probC_at (c : Fin 256) : probC ρ (ix2 (quarter hh n) c) = prob (ρ.logit hh n) (.inr c) := by
  show expC ρ (ix2 (quarter hh n) c) * wideC (rowInv ρ) (ix2 (quarter hh n) c) = _
  rw [wideC_at, rowInv_at, expC_at, hp.mul_inv]

theorem delta_at (z : Fin 1) : delta ρ (ix2 (quarter hh n) z) = mean (ρ.logit hh n) (ρ.gp hh n) := by
  show sumW (mulf (probW ρ) (gradPW ρ)) (ix2 (quarter hh n) z) + sumC (mulf (probC ρ) (gradPC ρ)) (ix2 (quarter hh n) z) = _
  rw [sumW_at, sumC_at, mean, Fintype.sum_sum_type]
  refine congrArg₂ _ (Finset.sum_congr rfl fun i _ => ?_) (Finset.sum_congr rfl fun c _ => ?_)
  · show probW ρ (ix2 (quarter hh n) i) * gradPW ρ (ix2 (quarter hh n) i) = _
    rw [probW_at ρ hh n hp, gradPW_at]
  · show probC ρ (ix2 (quarter hh n) c) * gradPC ρ (ix2 (quarter hh n) c) = _
    rw [probC_at ρ hh n hp, gradPC_at]

theorem gradSW_at (i : Fin 512) : gradSW ρ (ix2 (quarter hh n) i) = grad (ρ.logit hh n) (ρ.gp hh n) (.inl i) := by
  show probW ρ (ix2 (quarter hh n) i) * (gradPW ρ (ix2 (quarter hh n) i) - wideW (delta ρ) (ix2 (quarter hh n) i)) = _
  rw [wideW_at, delta_at ρ hh n hp, probW_at ρ hh n hp, gradPW_at, grad]

theorem gradSC_at (c : Fin 256) : gradSC ρ (ix2 (quarter hh n) c) = grad (ρ.logit hh n) (ρ.gp hh n) (.inr c) := by
  show probC ρ (ix2 (quarter hh n) c) * (gradPC ρ (ix2 (quarter hh n) c) - wideC (delta ρ) (ix2 (quarter hh n) c)) = _
  rw [wideC_at, delta_at ρ hh n hp, probC_at ρ hh n hp, gradPC_at, grad]

/-- The row's gradient of its queries. -/
theorem rowQ_at (d : Fin 64) : rowQ ρ (ix2 n (quarter hh d)) =
    (∑ i, grad (ρ.logit hh n) (ρ.gp hh n) (.inl i) * ρ.kw (ix2 i (quarter hh d))) + ∑ c, grad (ρ.logit hh n) (ρ.gp hh n) (.inr c) * ρ.kc (ix2 c (quarter hh d)) := by
  simp only [← gradSW_at ρ hh n hp, ← gradSC_at ρ hh n hp]
  rw [rowQ, unstack_at]
  generalize gradSW ρ = a
  generalize gradSC ρ = b
  pointwise

end Proper

variable (hp : ∀ n, Proper (ρ.logit hh n))
include hp

theorem rowKW_at (i : Fin 512) (d : Fin 64) : rowKW ρ (ix2 i (quarter hh d)) = ∑ n, grad (ρ.logit hh n) (ρ.gp hh n) (.inl i) * ρ.q (ix2 n (quarter hh d)) := by
  rw [rowKW, pullW_at, sum_stack' ρ.q (fun r => gradSW ρ (ix2 r i))]
  exact Finset.sum_congr rfl fun n _ => by rw [gradSW_at ρ hh n (hp n)]

theorem rowKC_at (c : Fin 256) (d : Fin 64) : rowKC ρ (ix2 c (quarter hh d)) = ∑ n, grad (ρ.logit hh n) (ρ.gp hh n) (.inr c) * ρ.q (ix2 n (quarter hh d)) := by
  rw [rowKC, pullC_at, sum_stack' ρ.q (fun r => gradSC ρ (ix2 r c))]
  exact Finset.sum_congr rfl fun n _ => by rw [gradSC_at ρ hh n (hp n)]

theorem rowVW_at (i : Fin 512) (d : Fin 64) : rowVW ρ (ix2 i (quarter hh d)) = ∑ n, prob (ρ.logit hh n) (.inl i) * ρ.g (ix2 n (quarter hh d)) := by
  rw [rowVW, pullW_at, stackG, sum_stack' _ (fun r => (truncf .bf16 (probW ρ) bitsLt_bf16_f32 : FVec Ideal S256x512 .bf16) (ix2 r i))]
  refine Finset.sum_congr rfl fun n _ => ?_
  rw [← probW_at ρ hh n (hp n)]
  rfl

theorem rowVC_at (c : Fin 256) (d : Fin 64) : rowVC ρ (ix2 c (quarter hh d)) = ∑ n, prob (ρ.logit hh n) (.inr c) * ρ.g (ix2 n (quarter hh d)) := by
  rw [rowVC, pullC_at, stackG, sum_stack' _ (fun r => (truncf .bf16 (probC ρ) bitsLt_bf16_f32 : FVec Ideal S256x256 .bf16) (ix2 r c))]
  refine Finset.sum_congr rfl fun n _ => ?_
  rw [← probC_at ρ hh n (hp n)]
  rfl

end Cert.KernelIdeal.Gen

end
-- ==== Proof.Blocks.lean ====
module

public import proofs.«01_k».proof.Proof.Sweep
public import proofs.«01_k».proof.Proof.RowValue
public import Idealize.ShloMosaic.Lib.Pipeline.ValueKit

/-! # The blocks a point reads

Point `16 * g + 8 * b + j` of the grid is that of the heads `4 * g … 4 * g + 3`, of sequence `b` and of the query rows `4 * j … 4 * j + 3`. -/

@[expose] public section

noncomputable section

namespace Cert.KernelIdeal.Gen

open Idealize.ShloMosaic Cert.Attention

/-- The point of two quarters of heads, a sequence and four rows of queries. -/
def pt (g b : Fin 2) (j : Fin 8) : Fin cfg0.N := ⟨g.val * 16 + b.val * 8 + j.val, by rw [show cfg0.N = 32 from N_0]; omega⟩

theorem coords_pt : ∀ g b j, (grid0.coords (pt g b j) 2).val = j.val := by decide +kernel

theorem index0 : ∀ g b j, (cfg0.win 0).index (pt g b j) 0 = b.val ∧ (cfg0.win 0).index (pt g b j) 1 = 1 + j.val ∧ (cfg0.win 0).index (pt g b j) 2 = g.val := by
  decide +kernel
theorem index1 : ∀ g b j, (cfg0.win 1).index (pt g b j) 0 = b.val ∧ (cfg0.win 1).index (pt g b j) 1 = 0 ∧ (cfg0.win 1).index (pt g b j) 2 = g.val := by
  decide +kernel
theorem index2 : ∀ g b j, (cfg0.win 2).index (pt g b j) 0 = b.val ∧ (cfg0.win 2).index (pt g b j) 1 = 0 ∧ (cfg0.win 2).index (pt g b j) 2 = g.val := by
  decide +kernel
theorem index7 : ∀ g b j, (cfg0.win 7).index (pt g b j) 0 = b.val ∧ (cfg0.win 7).index (pt g b j) 1 = j.val ∧ (cfg0.win 7).index (pt g b j) 2 = g.val := by
  decide +kernel
theorem index8 : ∀ g b j, (cfg0.win 8).index (pt g b j) 0 = b.val ∧ (cfg0.win 8).index (pt g b j) 1 = j.val ∧ (cfg0.win 8).index (pt g b j) 2 = g.val := by
  decide +kernel
theorem index9 : ∀ g b j, (cfg0.win 9).index (pt g b j) 0 = b.val ∧ (cfg0.win 9).index (pt g b j) 1 = 0 ∧ (cfg0.win 9).index (pt g b j) 2 = g.val := by
  decide +kernel
theorem index10 : ∀ g b j, (cfg0.win 10).index (pt g b j) 0 = b.val ∧ (cfg0.win 10).index (pt g b j) 1 = 0 ∧ (cfg0.win 10).index (pt g b j) 2 = g.val := by
  decide +kernel

/-- A row's class: the first row of its window, less the row, plus seven. -/
def cls (qr : ℕ) : ℕ := min 24 (qr - 4) + 7 - qr

theorem index3 : ∀ g b j, (cfg0.win 3).index (pt g b j) 0 = cls (4 * j.val) ∧ (cfg0.win 3).index (pt g b j) 1 = g.val ∧ (cfg0.win 3).index (pt g b j) 2 = 0 ∧ (cfg0.win 3).index (pt g b j) 3 = 0 := by
  decide +kernel
theorem index4 : ∀ g b j, (cfg0.win 4).index (pt g b j) 0 = cls (4 * j.val + 1) ∧ (cfg0.win 4).index (pt g b j) 1 = g.val ∧ (cfg0.win 4).index (pt g b j) 2 = 0 ∧ (cfg0.win 4).index (pt g b j) 3 = 0 := by
  decide +kernel
theorem index5 : ∀ g b j, (cfg0.win 5).index (pt g b j) 0 = cls (4 * j.val + 2) ∧ (cfg0.win 5).index (pt g b j) 1 = g.val ∧ (cfg0.win 5).index (pt g b j) 2 = 0 ∧ (cfg0.win 5).index (pt g b j) 3 = 0 := by
  decide +kernel
theorem index6 : ∀ g b j, (cfg0.win 6).index (pt g b j) 0 = cls (4 * j.val + 3) ∧ (cfg0.win 6).index (pt g b j) 1 = g.val ∧ (cfg0.win 6).index (pt g b j) 2 = 0 ∧ (cfg0.win 6).index (pt g b j) 3 = 0 := by
  decide +kernel

/-- The lane `l` of the quarters `g` of heads. -/
def wide (g : Fin 2) (l : Fin 256) : Fin 512 := ⟨g.val * 256 + l.val, by omega⟩

variable (m : (ℓ : Loc nD τ sig) → Buf (Elt Ideal) ℓ) (c : Dev nD) (g b : Fin 2) (j : Fin 8)

/-- The arguments as launched: queries, keys, values, biases and the output's gradient. -/
abbrev arg0 : Vec Ideal S2x2304x512 .bf16 := m ((c.tc : Thread nD τ).loc main_arg0)
abbrev arg1 : Vec Ideal S2x2304x512 .bf16 := m ((c.tc : Thread nD τ).loc main_arg1)
abbrev arg2 : Vec Ideal S2x2304x512 .bf16 := m ((c.tc : Thread nD τ).loc main_arg2)
abbrev arg3 : Vec Ideal S8x15x31 .f32 := m ((c.tc : Thread nD τ).loc main_arg3)
abbrev arg4 : Vec Ideal S2x2048x512 .f32 := m ((c.tc : Thread nD τ).loc main_arg4)
/-- The table of biases as the launch finds it. -/
abbrev table : Vec Ideal S8x2x256x512 .f32 := V m c main_v50

theorem iblk0_at (y : Fin 256) (l : Fin 256) : iblk m c 0 (pt g b j) (ix3 0 y l) = arg0 m c (ix3 b ⟨256 + 256 * j.val + y.val, by omega⟩ (wide g l)) := by
  obtain ⟨h0, h1, h2⟩ := index0 g b j
  refine Eq.trans ?_ (congrFun (V_main_arg0 m c) _)
  unfold iblk
  blk_ext [h0, h1, h2, wide]

theorem iblk1_at (y : Fin 2304) (l : Fin 256) : iblk m c 1 (pt g b j) (ix3 0 y l) = arg1 m c (ix3 b y (wide g l)) := by
  obtain ⟨h0, h1, h2⟩ := index1 g b j
  refine Eq.trans ?_ (congrFun (V_main_arg1 m c) _)
  unfold iblk
  blk_ext [h0, h1, h2, wide]

theorem iblk2_at (y : Fin 2304) (l : Fin 256) : iblk m c 2 (pt g b j) (ix3 0 y l) = arg2 m c (ix3 b y (wide g l)) := by
  obtain ⟨h0, h1, h2⟩ := index2 g b j
  refine Eq.trans ?_ (congrFun (V_main_arg2 m c) _)
  unfold iblk
  blk_ext [h0, h1, h2, wide]

theorem iblk7_at (y : Fin 256) (l : Fin 256) : iblk m c 7 (pt g b j) (ix3 0 y l) = arg4 m c (ix3 b ⟨256 * j.val + y.val, by omega⟩ (wide g l)) := by
  obtain ⟨h0, h1, h2⟩ := index7 g b j
  refine Eq.trans ?_ (congrFun (V_main_arg4 m c) _)
  unfold iblk
  blk_ext [h0, h1, h2, wide]

theorem cls_lt (qr : ℕ) : cls qr < 8 := by unfold cls; omega

theorem iblk3_at (y : Fin 256) (l : Fin 512) : iblk m c 3 (pt g b j) (ix4 0 0 y l) = table m c (ix4 ⟨cls (4 * j.val), cls_lt _⟩ g y l) := by
  obtain ⟨h0, h1, h2, h3⟩ := index3 g b j
  unfold iblk
  blk_ext [h0, h1, h2, h3]

theorem iblk4_at (y : Fin 256) (l : Fin 512) : iblk m c 4 (pt g b j) (ix4 0 0 y l) = table m c (ix4 ⟨cls (4 * j.val + 1), cls_lt _⟩ g y l) := by
  obtain ⟨h0, h1, h2, h3⟩ := index4 g b j
  unfold iblk
  blk_ext [h0, h1, h2, h3]

theorem iblk5_at (y : Fin 256) (l : Fin 512) : iblk m c 5 (pt g b j) (ix4 0 0 y l) = table m c (ix4 ⟨cls (4 * j.val + 2), cls_lt _⟩ g y l) := by
  obtain ⟨h0, h1, h2, h3⟩ := index5 g b j
  unfold iblk
  blk_ext [h0, h1, h2, h3]

theorem iblk6_at (y : Fin 256) (l : Fin 512) : iblk m c 6 (pt g b j) (ix4 0 0 y l) = table m c (ix4 ⟨cls (4 * j.val + 3), cls_lt _⟩ g y l) := by
  obtain ⟨h0, h1, h2, h3⟩ := index6 g b j
  unfold iblk
  blk_ext [h0, h1, h2, h3]

end Cert.KernelIdeal.Gen

end
-- ==== Proof.Steps.lean ====
module

public import proofs.«01_k».proof.Proof.Blocks

/-! # A point's rows among the attention's -/

@[expose] public section

noncomputable section

namespace Cert.KernelIdeal.Gen

open Idealize.ShloMosaic Cert.Attention

/-- The query in column `x` of row `qr`. -/
def query (qr : Fin 32) (x : Fin 64) : Fin 2048 := ⟨qr.val * 64 + x.val, by omega⟩
/-- The head `hh` of a quarter. -/
def head (g : Fin 2) (hh : Fin 4) : Fin 8 := ⟨g.val * 4 + hh.val, by omega⟩
/-- The `i`-th key of the window of a row. -/
def winKey (qr : Fin 32) (i : Fin 512) : Fin 2048 := ⟨64 * min 24 (qr.val - 4) + i.val, by have : min 24 (qr.val - 4) ≤ 24 := Nat.min_le_left _ _; omega⟩
/-- The key that a row's key is. -/
def toKey (qr : Fin 32) : RowKey → Key
  | .inl i => .inl (winKey qr i)
  | .inr c => .inr c

theorem toKey_injective (qr : Fin 32) : Function.Injective (toKey qr) := by
  rintro (i | c) (i' | c') h
  · have := congrArg Fin.val (Sum.inl.inj h)
    simp only [winKey] at this
    exact congrArg Sum.inl (Fin.ext (by omega))
  · cases h
  · cases h
  · exact congrArg Sum.inr (Sum.inr.inj h)

theorem lane_eq (g : Fin 2) (hh : Fin 4) (d : Fin 64) : wide g (quarter hh d) = lane (head g hh) d :=
  Fin.ext (by simp only [wide, quarter, lane, head]; omega)

/-- Row `r` of the rows of a point. -/
def rowOf (j : Fin 8) (r : Fin 4) : Fin 32 := ⟨4 * j.val + r.val, by omega⟩

variable (m : (ℓ : Loc nD τ sig) → Buf (Elt Ideal) ℓ) (c : Dev nD)

/-- The launch's arguments, at a given table of biases. -/
def args (β : Fin 8 → Fin 2048 → Fin 2048 → EReal) : Args where
  q b y e := arg0 m c (ix3 b y e)
  k b y e := arg1 m c (ix3 b y e)
  v b y e := arg2 m c (ix3 b y e)
  β := β
  g b n e := arg4 m c (ix3 b n e)

/-- A table of biases is the launch's: at a row's window the table of its class, elsewhere `⊥`. -/
structure IsBias (β : Fin 8 → Fin 2048 → Fin 2048 → EReal) : Prop where
  win : ∀ (g : Fin 2) (hh : Fin 4) (qr : Fin 32) (x : Fin 64) (i : Fin 512),
    table m c (ix4 ⟨cls qr.val, cls_lt _⟩ g (quarter hh x) i) = β (head g hh) (query qr x) (winKey qr i)
  out : ∀ (h : Fin 8) (qr : Fin 32) (x : Fin 64) (κ : Fin 2048), κ ∉ Set.range (winKey qr) → β h (query qr x) κ = ⊥

section Slabs

theorem slabQ_at {e : EltTy} (x : Vec Ideal S1x256x256 e) (r : Fin 4) (y : Fin 64) (l : Fin 256) :
    slabQ x r (ix3 0 y l) = x (ix3 0 ⟨64 * r.val + y.val, by omega⟩ l) := by
  unfold slabQ VecWindow.window
  refine congrArg x (funext fun a => Fin.ext ?_)
  fin_cases a <;> simp [ix3]

theorem slabW_at {e : EltTy} (x : Vec Ideal S1x2304x256 e) (o : ℕ) (h : o ≤ 1792) (y : Fin 512) (l : Fin 256) :
    slabW x o h (ix3 0 y l) = x (ix3 0 ⟨o + y.val, by omega⟩ l) := by
  unfold slabW VecWindow.window
  refine congrArg x (funext fun a => Fin.ext ?_)
  fin_cases a <;> simp [ix3]

theorem slabW_cast (x : Vec Ideal S1x2304x256 .bf16) (o : ℕ) (h : o ≤ 1792) (y : Fin 512) (l : Fin 256) :
    shapeCast S512x256 (slabW x o h) shapeCasts_S1x512x256_S512x256 (ix2 y l) = x (ix3 0 ⟨o + y.val, by omega⟩ l) := by
  rw [← slabW_at x o h]
  generalize slabW x o h = z
  pointwise

theorem slabC_at {e : EltTy} (x : Vec Ideal S1x2304x256 e) (y : Fin 256) (l : Fin 256) :
    slabC x (ix3 0 y l) = x (ix3 0 ⟨y.val, by omega⟩ l) := by
  unfold slabC VecWindow.window
  refine congrArg x (funext fun a => Fin.ext ?_)
  fin_cases a <;> simp [ix3]

end Slabs

variable (g b : Fin 2) (j : Fin 8) (r : Fin 4)

/-- The rows of the point of two quarters of heads, a sequence and four rows. -/
abbrev rowsPt : RowIn Ideal := rowsAt m c (pt g b j) r

theorem row0_pt : row0 (grid0.coords (pt g b j)) r.val = min 24 ((rowOf j r).val - 4) := by
  unfold row0
  rw [coords_pt]
  rfl

theorem q_at (x : Fin 64) (l : Fin 256) : (rowsPt m c g b j r).q (ix2 x l) = arg0 m c (ix3 b (pos (.inl (query (rowOf j r) x))) (wide g l)) := by
  show shapeCast S64x256 (slabQ (iblk m c 0 (pt g b j)) r) shapeCasts_S1x64x256_S64x256 (ix2 x l) = _
  generalize hX : (iblk m c 0 (pt g b j) : Vec Ideal S1x256x256 .bf16) = X
  pointwise
  rw [slabQ_at, ← hX, iblk0_at]
  refine congrArg (fun y => arg0 m c (ix3 b y (wide g l))) (Fin.ext ?_)
  simp only [pos, query, rowOf]
  omega

theorem g_at (x : Fin 64) (l : Fin 256) : (rowsPt m c g b j r).g (ix2 x l) = arg4 m c (ix3 b (query (rowOf j r) x) (wide g l)) := by
  show shapeCast S64x256 (slabQ (iblk m c 7 (pt g b j)) r) shapeCasts_S1x64x256_S64x256 (ix2 x l) = _
  generalize hX : (iblk m c 7 (pt g b j) : Vec Ideal S1x256x256 .f32) = X
  pointwise
  rw [slabQ_at, ← hX, iblk7_at]
  refine congrArg (fun y => arg4 m c (ix3 b y (wide g l))) (Fin.ext ?_)
  simp only [query, rowOf]
  omega

theorem kw_at (i : Fin 512) (l : Fin 256) : (rowsPt m c g b j r).kw (ix2 i l) = arg1 m c (ix3 b (pos (.inl (winKey (rowOf j r) i))) (wide g l)) := by
  refine (slabW_cast (iblk m c 1 (pt g b j) : Vec Ideal S1x2304x256 .bf16) _ (row0_le (grid0.coords (pt g b j)) r.val) i l).trans ((iblk1_at m c g b j _ l).trans ?_)
  refine congrArg (fun y => arg1 m c (ix3 b y (wide g l))) (Fin.ext ?_)
  have h0 := row0_pt g b j r
  simp only [pos, winKey]
  omega

theorem vw_at (i : Fin 512) (l : Fin 256) : (rowsPt m c g b j r).vw (ix2 i l) = arg2 m c (ix3 b (pos (.inl (winKey (rowOf j r) i))) (wide g l)) := by
  refine (slabW_cast (iblk m c 2 (pt g b j) : Vec Ideal S1x2304x256 .bf16) _ (row0_le (grid0.coords (pt g b j)) r.val) i l).trans ((iblk2_at m c g b j _ l).trans ?_)
  refine congrArg (fun y => arg2 m c (ix3 b y (wide g l))) (Fin.ext ?_)
  have h0 := row0_pt g b j r
  simp only [pos, winKey]
  omega

theorem kc_at (i : Fin 256) (l : Fin 256) : (rowsPt m c g b j r).kc (ix2 i l) = arg1 m c (ix3 b (pos (.inr i)) (wide g l)) := by
  show shapeCast S256x256 (slabC (iblk m c 1 (pt g b j))) shapeCasts_S1x256x256_S256x256 (ix2 i l) = _
  generalize hX : (iblk m c 1 (pt g b j) : Vec Ideal S1x2304x256 .bf16) = X
  pointwise
  rw [slabC_at, ← hX, iblk1_at]
  rfl

theorem vc_at (i : Fin 256) (l : Fin 256) : (rowsPt m c g b j r).vc (ix2 i l) = arg2 m c (ix3 b (pos (.inr i)) (wide g l)) := by
  show shapeCast S256x256 (slabC (iblk m c 2 (pt g b j))) shapeCasts_S1x256x256_S256x256 (ix2 i l) = _
  generalize hX : (iblk m c 2 (pt g b j) : Vec Ideal S1x2304x256 .bf16) = X
  pointwise
  rw [slabC_at, ← hX, iblk2_at]
  rfl

theorem bias_cast (X : Vec Ideal S1x1x256x512 .f32) (y : Fin 256) (i : Fin 512) : shapeCast S256x512 X shapeCasts_S1x1x256x512_S256x512 (ix2 y i) = X (ix4 0 0 y i) := by
  pointwise

theorem bias0 : (rowsPt m c g b j 0).bias = shapeCast S256x512 (iblk m c 3 (pt g b j) : Vec Ideal S1x1x256x512 .f32) shapeCasts_S1x1x256x512_S256x512 := rfl
theorem bias1 : (rowsPt m c g b j 1).bias = shapeCast S256x512 (iblk m c 4 (pt g b j) : Vec Ideal S1x1x256x512 .f32) shapeCasts_S1x1x256x512_S256x512 := rfl
theorem bias2 : (rowsPt m c g b j 2).bias = shapeCast S256x512 (iblk m c 5 (pt g b j) : Vec Ideal S1x1x256x512 .f32) shapeCasts_S1x1x256x512_S256x512 := rfl
theorem bias3 : (rowsPt m c g b j 3).bias = shapeCast S256x512 (iblk m c 6 (pt g b j) : Vec Ideal S1x1x256x512 .f32) shapeCasts_S1x1x256x512_S256x512 := rfl

theorem table_congr (a a' : Fin 8) (h : a.val = a'.val) (y : Fin 256) (i : Fin 512) : table m c (ix4 a g y i) = table m c (ix4 a' g y i) := by
  rw [Fin.ext h]

theorem bias_at (y : Fin 256) (i : Fin 512) : (rowsPt m c g b j r).bias (ix2 y i) = table m c (ix4 ⟨cls (rowOf j r).val, cls_lt _⟩ g y i) := by
  obtain rfl | rfl | rfl | rfl : r = 0 ∨ r = 1 ∨ r = 2 ∨ r = 3 := by omega
  · rw [bias0, bias_cast, iblk3_at]
    exact table_congr m c g _ _ (by simp [rowOf]) y i
  · rw [bias1, bias_cast, iblk4_at]
    exact table_congr m c g _ _ (by simp [rowOf]) y i
  · rw [bias2, bias_cast, iblk5_at]
    exact table_congr m c g _ _ (by simp [rowOf]) y i
  · rw [bias3, bias_cast, iblk6_at]
    exact table_congr m c g _ _ (by simp [rowOf]) y i

variable {β : Fin 8 → Fin 2048 → Fin 2048 → EReal} (hβ : IsBias m c β) (hh : Fin 4) (x : Fin 64)

include hβ in
theorem logit_at (κ : RowKey) : (rowsPt m c g b j r).logit hh x κ = (args m c β).logit b (head g hh) (query (rowOf j r) x) (toKey (rowOf j r) κ) := by
  rcases κ with i | k
  · simp only [RowIn.logit, q_at, kw_at, bias_at, hβ.win, lane_eq]
    rfl
  · simp only [RowIn.logit, q_at, kc_at, lane_eq]
    rfl

theorem gp_at (κ : RowKey) : (rowsPt m c g b j r).gp hh x κ = (args m c β).gp b (head g hh) (query (rowOf j r) x) (toKey (rowOf j r) κ) := by
  rcases κ with i | k
  · simp only [RowIn.gp, g_at, vw_at, lane_eq]
    rfl
  · simp only [RowIn.gp, g_at, vc_at, lane_eq]
    rfl

include hβ in
/-- The keys outside the window are not seen. -/
theorem logit_out (h : Fin 8) (qr : Fin 32) (κ : Key) (hκ : κ ∉ Set.range (toKey qr)) : (args m c β).logit b h (query qr x) κ = ⊥ := by
  rcases κ with κ | k
  · show _ + β h (query qr x) κ = ⊥
    rw [hβ.out h qr x κ fun ⟨i, hi⟩ => hκ ⟨.inl i, congrArg Sum.inl hi⟩, EReal.add_bot]
  · exact absurd ⟨.inr k, rfl⟩ hκ

variable (hp : ∀ b h n, Proper ((args m c β).logit b h n))

include hβ hp in
theorem proper_at : Proper ((rowsPt m c g b j r).logit hh x) := by
  rw [show (rowsPt m c g b j r).logit hh x = _ from funext fun κ => logit_at m c g b j r hβ hh x κ]
  exact proper_restrict _ (hp _ _ _) (logit_out m c b hβ x _ _)

include hβ hp in
theorem grad_at (κ : RowKey) : grad ((rowsPt m c g b j r).logit hh x) ((rowsPt m c g b j r).gp hh x) κ = (args m c β).gs b (head g hh) (query (rowOf j r) x) (toKey (rowOf j r) κ) := by
  rw [show (rowsPt m c g b j r).logit hh x = _ from funext fun κ => logit_at m c g b j r hβ hh x κ,
    show (rowsPt m c g b j r).gp hh x = _ from funext fun κ => gp_at m c g b j r (β := β) hh x κ]
  exact grad_restrict _ (toKey_injective _) (hp _ _ _) (logit_out m c b hβ x _ _) _ κ

include hβ hp in
theorem prob_at (κ : RowKey) : prob ((rowsPt m c g b j r).logit hh x) κ = (args m c β).p b (head g hh) (query (rowOf j r) x) (toKey (rowOf j r) κ) := by
  rw [show (rowsPt m c g b j r).logit hh x = _ from funext fun κ => logit_at m c g b j r hβ hh x κ]
  exact prob_restrict _ (toKey_injective _) (hp _ _ _) (logit_out m c b hβ x _ _) κ

include hβ hp in
/-- A row's gradient of its queries. -/
theorem dq_at (d : Fin 64) : rowQ (rowsPt m c g b j r) (ix2 x (quarter hh d)) = (args m c β).dq b (head g hh) (query (rowOf j r) x) d := by
  rw [rowQ_at _ hh x (proper_at m c g b j r hβ hh x hp), Args.dq,
    sum_restrict (toKey (rowOf j r)) (toKey_injective _) (s := (args m c β).logit b (head g hh) (query (rowOf j r) x)) (logit_out m c b hβ x _ _) _
      fun κ hκ => by rw [Args.gs, (hp _ _ _).grad_bot _ hκ, zero_mul],
    Fintype.sum_sum_type]
  simp only [grad_at m c g b j r hβ hh x hp, kw_at, kc_at, lane_eq]
  rfl

end Cert.KernelIdeal.Gen

end
-- ==== Proof.Sums.lean ====
module

public import proofs.«01_k».proof.Proof.Steps

/-! # The accumulated gradients of keys and values

A row adds its queries' shares to its window's keys and to the context's. A query has no share in a key that it does not see, so that a row may be said to add to every key,
and the eight points of a sequence have added every query's. -/

@[expose] public section

noncomputable section

namespace Cert.KernelIdeal.Gen

open Idealize.ShloMosaic Cert.Attention

/-- A put over rows of a block, at an index. -/
theorem put_rows (X : Vec Ideal S1x2304x256 .f32) (o : ℕ) (s : Shape) (N : ℕ) (hs : s = ⟨3, ![1, N, 256]⟩) (w : Vec Ideal ⟨3, ![1, N, 256]⟩ .f32) (y : Fin 2304) (l : Fin 256) :
    VecWindow.put X ![0, o, 0] (⟨3, ![1, N, 256]⟩ : Shape).size w (ix3 0 y l) = if h : o ≤ y.val ∧ y.val < o + N then w (ix3 0 ⟨y.val - o, by omega⟩ l) else X (ix3 0 y l) := by
  unfold VecWindow.put
  by_cases h : o ≤ y.val ∧ y.val < o + N
  · rw [dif_pos h, dif_pos (fun a => by
      fin_cases a
      · exact ⟨Nat.zero_le _, by show (0 : ℕ) < 0 + 1; omega⟩
      · exact h
      · exact ⟨Nat.zero_le _, by show l.val < 0 + 256; omega⟩)]
    refine congrArg w (funext fun a => Fin.ext ?_)
    fin_cases a
    · rfl
    · rfl
    · rfl
  · rw [dif_neg h, dif_neg (fun hh => h (hh 1))]

theorem addW_at (X : Vec Ideal S1x2304x256 .f32) (o : ℕ) (h : o ≤ 1792) (w : FVec Ideal S512x256 .f32) (y : Fin 2304) (l : Fin 256) :
    addW X o h w (ix3 0 y l) = if hy : o ≤ y.val ∧ y.val < o + 512 then X (ix3 0 y l) + w (ix2 ⟨y.val - o, by omega⟩ l) else X (ix3 0 y l) := by
  unfold addW
  refine (put_rows X o _ 512 rfl _ y l).trans ?_
  by_cases hy : o ≤ y.val ∧ y.val < o + 512
  · rw [dif_pos hy, dif_pos hy]
    have e : slabW X o h (ix3 0 ⟨y.val - o, by omega⟩ l) = X (ix3 0 y l) :=
      (slabW_at X o h _ l).trans (congrArg (fun z => X (ix3 0 z l)) (Fin.ext (by show o + (y.val - o) = y.val; omega)))
    rw [← e]
    generalize slabW X o h = z
    unfold bumpW
    pointwise
  · rw [dif_neg hy, dif_neg hy]

theorem addC_at (X : Vec Ideal S1x2304x256 .f32) (w : FVec Ideal S256x256 .f32) (y : Fin 2304) (l : Fin 256) :
    addC X w (ix3 0 y l) = if hy : y.val < 256 then X (ix3 0 y l) + w (ix2 ⟨y.val, hy⟩ l) else X (ix3 0 y l) := by
  unfold addC
  refine (put_rows X 0 _ 256 rfl _ y l).trans ?_
  by_cases hy : y.val < 256
  · rw [dif_pos hy, dif_pos (by omega)]
    have e : slabC X (ix3 0 ⟨y.val - 0, by omega⟩ l) = X (ix3 0 y l) :=
      (slabC_at X _ l).trans (congrArg (fun z => X (ix3 0 z l)) (Fin.ext (by show y.val - 0 = y.val; omega)))
    rw [← e]
    generalize slabC X = z
    unfold bumpC
    pointwise
  · rw [dif_neg hy, dif_neg (by omega)]

/-- What a query gives a key. -/
abbrev Share := Fin 2048 → Key → EReal

variable (f : Share) (g b : Fin 2) (j : Fin 8) (r : Fin 4) (W : Fin 4 → FVec Ideal S512x256 .f32) (C : Fin 4 → FVec Ideal S256x256 .f32)
  (hf : ∀ qr x κ, κ ∉ Set.range (toKey qr) → f (query qr x) κ = 0) (l : Fin 256)
  (hW : ∀ r i, W r (ix2 i l) = ∑ x, f (query (rowOf j r) x) (.inl (winKey (rowOf j r) i)))
  (hC : ∀ r i, C r (ix2 i l) = ∑ x, f (query (rowOf j r) x) (.inr i))

include hf hW hC in
theorem addRow_at (X : Vec Ideal S1x2304x256 .f32) (κ : Key) :
    addRow (grid0.coords (pt g b j)) r W C X (ix3 0 (pos κ) l) = X (ix3 0 (pos κ) l) + ∑ x, f (query (rowOf j r) x) κ := by
  have h0 := row0_pt g b j r
  unfold addRow
  rw [addC_at, addW_at]
  rcases κ with κ | k
  · have hk : (pos (.inl κ)).val = 256 + κ.val := rfl
    rw [dif_neg (by omega)]
    by_cases hκ : 256 + 64 * row0 (grid0.coords (pt g b j)) r.val ≤ (pos (.inl κ)).val ∧ (pos (.inl κ)).val < 256 + 64 * row0 (grid0.coords (pt g b j)) r.val + 512
    · rw [dif_pos hκ, hW]
      refine congrArg (X (ix3 0 (pos (.inl κ)) l) + ·) (Finset.sum_congr rfl fun x _ => congrArg (fun z => f _ (.inl z)) (Fin.ext ?_))
      simp only [winKey]
      omega
    · rw [dif_neg hκ, Finset.sum_eq_zero, add_zero]
      refine fun x _ => hf _ x _ ?_
      rintro ⟨i | k, hi⟩
      · have hv := congrArg Fin.val (Sum.inl.inj hi)
        simp only [winKey] at hv
        omega
      · cases hi
  · have hk : (pos (.inr k)).val = k.val := rfl
    have hlt := k.isLt
    rw [dif_pos (by omega), dif_neg (by omega), hC]
    rfl

include hf hW hC in
theorem accum_at (X : Vec Ideal S1x2304x256 .f32) (κ : Key) : accum (grid0.coords (pt g b j)) W C X (ix3 0 (pos κ) l) =
    X (ix3 0 (pos κ) l) + ∑ x, f (query (rowOf j 0) x) κ + ∑ x, f (query (rowOf j 1) x) κ + ∑ x, f (query (rowOf j 2) x) κ + ∑ x, f (query (rowOf j 3) x) κ := by
  unfold accum
  rw [addRow_at f g b j 3 W C hf l hW hC, addRow_at f g b j 2 W C hf l hW hC, addRow_at f g b j 1 W C hf l hW hC, addRow_at f g b j 0 W C hf l hW hC]

/-- What the row `qr` of queries gives a key. -/
def part (κ : Key) (qr : ℕ) : EReal := if h : qr < 32 then ∑ x, f (query ⟨qr, h⟩ x) κ else 0

theorem part_row (κ : Key) (j : Fin 8) (r : Fin 4) : part f κ (4 * j.val + r.val) = ∑ x, f (query (rowOf j r) x) κ := by
  unfold part
  rw [dif_pos (by omega)]
  rfl

theorem sum_part (κ : Key) : ∑ qr ∈ Finset.range 32, part f κ qr = ∑ n, f n κ := by
  have e : ∀ p : Fin 32 × Fin 64, query p.1 p.2 = (finProdFinEquiv.trans (finCongr (by norm_num : 32 * 64 = 2048))) p := fun p =>
    Fin.ext (by simp [query, finProdFinEquiv]; omega)
  rw [← Equiv.sum_comp (finProdFinEquiv.trans (finCongr (by norm_num : 32 * 64 = 2048))) (fun n => f n κ), Fintype.sum_prod_type, Finset.sum_range]
  refine Finset.sum_congr rfl fun qr _ => ?_
  unfold part
  rw [dif_pos qr.isLt]
  exact Finset.sum_congr rfl fun x _ => congrArg (fun n => f n κ) (e (qr, x))

/-- Four more rows. -/
theorem sum_four (h : ℕ → EReal) (n : ℕ) : ∑ q ∈ Finset.range (4 * n + 4), h q = ∑ q ∈ Finset.range (4 * n), h q + h (4 * n + 0) + h (4 * n + 1) + h (4 * n + 2) + h (4 * n + 3) := by
  rw [Finset.sum_range_succ, Finset.sum_range_succ, Finset.sum_range_succ, Finset.sum_range_succ]
  rfl

variable (m : (ℓ : Loc nD τ sig) → Buf (Elt Ideal) ℓ) (c : Dev nD) {β : Fin 8 → Fin 2048 → Fin 2048 → EReal} (hβ : IsBias m c β)
  (hp : ∀ b h n, Proper ((args m c β).logit b h n)) (hh : Fin 4) (d : Fin 64)

/-- A query's share of a key's gradient, -/
def shareK (β : Fin 8 → Fin 2048 → Fin 2048 → EReal) : Share := fun n κ => (args m c β).gs b (head g hh) n κ * (args m c β).q b (pos (.inl n)) (lane (head g hh) d)
/-- and of a value's. -/
def shareV (β : Fin 8 → Fin 2048 → Fin 2048 → EReal) : Share := fun n κ => (args m c β).p b (head g hh) n κ * (args m c β).g b n (lane (head g hh) d)

include hβ hp in
theorem dkStep_at (X : Vec Ideal S1x2304x256 .f32) (κ : Key) : dkStep m c (pt g b j) X (ix3 0 (pos κ) (quarter hh d)) =
    X (ix3 0 (pos κ) (quarter hh d)) + part (shareK g b m c hh d β) κ (4 * j.val + 0) + part (shareK g b m c hh d β) κ (4 * j.val + 1)
      + part (shareK g b m c hh d β) κ (4 * j.val + 2) + part (shareK g b m c hh d β) κ (4 * j.val + 3) := by
  have e := accum_at (shareK g b m c hh d β) g b j (fun r => rowKW (rowsAt m c (pt g b j) r)) (fun r => rowKC (rowsAt m c (pt g b j) r))
    (fun qr x κ hκ => by
      unfold shareK
      rw [Args.gs, (hp _ _ _).grad_bot _ (logit_out m c b hβ x _ _ _ hκ), zero_mul]) (quarter hh d)
    (fun r i => by
      rw [rowKW_at _ hh (fun x => proper_at m c g b j r hβ hh x hp)]
      refine Finset.sum_congr rfl fun x _ => ?_
      rw [grad_at m c g b j r hβ hh x hp, q_at, lane_eq]
      rfl)
    (fun r i => by
      rw [rowKC_at _ hh (fun x => proper_at m c g b j r hβ hh x hp)]
      refine Finset.sum_congr rfl fun x _ => ?_
      rw [grad_at m c g b j r hβ hh x hp, q_at, lane_eq]
      rfl) X κ
  rw [← part_row, ← part_row, ← part_row, ← part_row] at e
  exact e

include hβ hp in
theorem dvStep_at (X : Vec Ideal S1x2304x256 .f32) (κ : Key) : dvStep m c (pt g b j) X (ix3 0 (pos κ) (quarter hh d)) =
    X (ix3 0 (pos κ) (quarter hh d)) + part (shareV g b m c hh d β) κ (4 * j.val + 0) + part (shareV g b m c hh d β) κ (4 * j.val + 1)
      + part (shareV g b m c hh d β) κ (4 * j.val + 2) + part (shareV g b m c hh d β) κ (4 * j.val + 3) := by
  have e := accum_at (shareV g b m c hh d β) g b j (fun r => rowVW (rowsAt m c (pt g b j) r)) (fun r => rowVC (rowsAt m c (pt g b j) r))
    (fun qr x κ hκ => by
      unfold shareV
      rw [Args.p, (hp _ _ _).prob_bot (logit_out m c b hβ x _ _ _ hκ), zero_mul]) (quarter hh d)
    (fun r i => by
      rw [rowVW_at _ hh (fun x => proper_at m c g b j r hβ hh x hp)]
      refine Finset.sum_congr rfl fun x _ => ?_
      rw [prob_at m c g b j r hβ hh x hp, g_at, lane_eq]
      rfl)
    (fun r i => by
      rw [rowVC_at _ hh (fun x => proper_at m c g b j r hβ hh x hp)]
      refine Finset.sum_congr rfl fun x _ => ?_
      rw [prob_at m c g b j r hβ hh x hp, g_at, lane_eq]
      rfl) X κ
  rw [← part_row, ← part_row, ← part_row, ← part_row] at e
  exact e

theorem pay5_at (i : S1x2304x256.Idx) : k0_pay5 (F := Ideal) i = 0 := by
  unfold k0_pay5
  pointwise
theorem pay6_at (i : S1x2304x256.Idx) : k0_pay6 (F := Ideal) i = 0 := by
  unfold k0_pay6
  pointwise

include hβ hp in
theorem dkAfter_at (κ : Key) : ∀ (n : ℕ) (hn : n < 8), dkAfter m c (pt g b ⟨n, hn⟩).val (ix3 0 (pos κ) (quarter hh d)) =
    ∑ qr ∈ Finset.range (4 * n + 4), part (shareK g b m c hh d β) κ qr
  | 0, hn => by
    rw [dkAfter_entry m c _ (by show (g.val * 16 + b.val * 8 + 0) % 8 = 0; omega), dkStep_at g b _ m c hβ hp, pay5_at, sum_four]
    simp
  | n + 1, hn => by
    rw [dkAfter_next m c _ (by show ¬ (g.val * 16 + b.val * 8 + (n + 1)) % 8 = 0; omega), dkStep_at g b _ m c hβ hp, sum_four,
      show (pt g b ⟨n + 1, hn⟩).val - 1 = (pt g b ⟨n, by omega⟩).val by show g.val * 16 + b.val * 8 + (n + 1) - 1 = g.val * 16 + b.val * 8 + n; omega,
      dkAfter_at κ n (by omega)]
    rfl

include hβ hp in
theorem dvAfter_at (κ : Key) : ∀ (n : ℕ) (hn : n < 8), dvAfter m c (pt g b ⟨n, hn⟩).val (ix3 0 (pos κ) (quarter hh d)) =
    ∑ qr ∈ Finset.range (4 * n + 4), part (shareV g b m c hh d β) κ qr
  | 0, hn => by
    rw [dvAfter_entry m c _ (by show (g.val * 16 + b.val * 8 + 0) % 8 = 0; omega), dvStep_at g b _ m c hβ hp, pay6_at, sum_four]
    simp
  | n + 1, hn => by
    rw [dvAfter_next m c _ (by show ¬ (g.val * 16 + b.val * 8 + (n + 1)) % 8 = 0; omega), dvStep_at g b _ m c hβ hp, sum_four,
      show (pt g b ⟨n + 1, hn⟩).val - 1 = (pt g b ⟨n, by omega⟩).val by show g.val * 16 + b.val * 8 + (n + 1) - 1 = g.val * 16 + b.val * 8 + n; omega,
      dvAfter_at κ n (by omega)]
    rfl

include hβ hp in
/-- The accumulator of gradients of keys after a sequence's last point, -/
theorem dk_at (κ : Key) : dkAfter m c (pt g b 7).val (ix3 0 (pos κ) (quarter hh d)) = (args m c β).dk b (head g hh) κ d :=
  (dkAfter_at g b m c hβ hp hh d κ 7 (by omega)).trans (sum_part _ κ)

include hβ hp in
/-- and of values. -/
theorem dv_at (κ : Key) : dvAfter m c (pt g b 7).val (ix3 0 (pos κ) (quarter hh d)) = (args m c β).dv b (head g hh) κ d :=
  (dvAfter_at g b m c hβ hp hh d κ 7 (by omega)).trans (sum_part _ κ)

end Cert.KernelIdeal.Gen

end
-- ==== Proof.Arrays.lean ====
module

public import proofs.«01_k».proof.Proof.Sums

/-! # The arrays that the launch leaves -/

@[expose] public section

noncomputable section

namespace Cert.KernelIdeal.Gen

open Idealize.ShloMosaic Cert.Attention

/-- A put of 64 rows over a block of 256, at an index. -/
theorem put_quarter (X : Vec Ideal S1x256x256 .f32) (o : ℕ) (Q : Vec Ideal S64x256 .f32) (y : Fin 256) (l : Fin 256) :
    VecWindow.put X ![0, o, 0] S1x64x256.size (shapeCast S1x64x256 Q shapeCasts_S64x256_S1x64x256) (ix3 0 y l) =
      if h : o ≤ y.val ∧ y.val < o + 64 then Q (ix2 ⟨y.val - o, by omega⟩ l) else X (ix3 0 y l) := by
  have e : ∀ x : Fin 64, shapeCast S1x64x256 Q shapeCasts_S64x256_S1x64x256 (ix3 0 x l) = Q (ix2 x l) := fun x => by pointwise
  unfold VecWindow.put
  by_cases h : o ≤ y.val ∧ y.val < o + 64
  · rw [dif_pos h, dif_pos (fun a => by
      fin_cases a
      · exact ⟨Nat.zero_le _, by show (0 : ℕ) < 0 + 1; omega⟩
      · exact h
      · exact ⟨Nat.zero_le _, by show l.val < 0 + 256; omega⟩)]
    rw [← e]
    refine congrArg _ (funext fun a => Fin.ext ?_)
    fin_cases a
    · rfl
    · rfl
    · rfl
  · rw [dif_neg h, dif_neg (fun hh => h (hh 1))]

/-- The block of the four rows' gradients, at an index. -/
theorem outQ_at (Q : Fin 4 → FVec Ideal S64x256 .f32) (r : Fin 4) (x : Fin 64) (l : Fin 256) :
    outQ Q (ix3 0 ⟨64 * r.val + x.val, by omega⟩ l) = Q r (ix2 x l) := by
  unfold outQ outQOver
  generalize (broadcast S1x256x256 (Scalar.ofBits (F := Ideal) .f32 0x00000000#32) : Vec Ideal S1x256x256 .f32) = X
  have hx := x.isLt
  fin_cases r
  · rw [put_quarter, dif_neg (by simp; omega), put_quarter, dif_neg (by simp; omega), put_quarter, dif_neg (by simp), put_quarter, dif_pos (by simp)]
    refine congrArg (fun z => Q 0 (ix2 z l)) (Fin.ext (by simp))
  · rw [put_quarter, dif_neg (by simp; omega), put_quarter, dif_neg (by simp; omega), put_quarter, dif_pos (by simp; omega)]
    refine congrArg (fun z => Q 1 (ix2 z l)) (Fin.ext (by simp))
  · rw [put_quarter, dif_neg (by simp; omega), put_quarter, dif_pos (by simp; omega)]
    refine congrArg (fun z => Q 2 (ix2 z l)) (Fin.ext (by simp))
  · rw [put_quarter, dif_pos (by simp; omega)]
    refine congrArg (fun z => Q 3 (ix2 z l)) (Fin.ext (by simp))

/-- A point of the grid. -/
theorem exists_pt (t : Fin cfg0.N) : ∃ (g b : Fin 2) (j : Fin 8), t = pt g b j := by
  have h : t.val < 32 := lt_of_lt_of_eq t.isLt N_0
  exact ⟨⟨t.val / 16, by omega⟩, ⟨t.val / 8 % 2, by omega⟩, ⟨t.val % 8, by omega⟩, Fin.ext (by dsimp only [pt]; omega)⟩

theorem exists_quarter (l : Fin 256) : ∃ hh d, l = quarter hh d :=
  ⟨⟨l.val / 64, by omega⟩, ⟨l.val % 64, by omega⟩, Fin.ext (by dsimp only [quarter]; omega)⟩

theorem exists_pos (y : Fin 2304) : ∃ κ, y = pos κ := by
  by_cases h : 256 ≤ y.val
  · exact ⟨.inl ⟨y.val - 256, by omega⟩, Fin.ext (by dsimp only [pos]; omega)⟩
  · exact ⟨.inr ⟨y.val, by omega⟩, rfl⟩

variable (m : (ℓ : Loc nD τ sig) → Buf (Elt Ideal) ℓ) (c : Dev nD)
variable {β : Fin 8 → Fin 2048 → Fin 2048 → EReal} (hβ : IsBias m c β) (hp : ∀ b h n, Proper ((args m c β).logit b h n))

include hβ hp in
/-- The gradients of the queries. -/
theorem array_dq (G : Vec Ideal S2x2048x512 .f32) (hG : ∀ b n h d, G (ix3 b n (lane h d)) = (args m c β).dq b h n d) :
    (dats m 0 c).arrAt 8 cfg0.N = G := by
  refine (dats m 0 c).arrAt_eq_of_covers 8 G (by decide +kernel) fun t hf y => ?_
  obtain ⟨g, b, j, rfl⟩ := exists_pt t
  obtain ⟨h0, h1, h2⟩ := index8 g b j
  blk_simp
  rw [after0_8]
  obtain ⟨y0, y1, y2, rfl⟩ : ∃ (y0 : Fin 1) (y1 y2 : Fin 256), y = ix3 y0 y1 y2 := ⟨y 0, y 1, y 2, funext fun a => by fin_cases a <;> rfl⟩
  obtain ⟨hh, d, rfl⟩ := exists_quarter y2
  obtain ⟨r, x, rfl⟩ : ∃ (r : Fin 4) (x : Fin 64), y1 = ⟨64 * r.val + x.val, by omega⟩ :=
    ⟨⟨y1.val / 64, by omega⟩, ⟨y1.val % 64, by omega⟩, Fin.ext (by dsimp only; omega)⟩
  obtain rfl : y0 = 0 := Subsingleton.elim _ _
  refine (outQ_at _ r x _).trans ((dq_at m c g b j r hβ hh x hp d).trans ((hG b (query (rowOf j r) x) (head g hh) d).symm.trans ?_))
  rw [← lane_eq]
  blk_ext [h0, h1, h2, wide, query, rowOf]

include hβ hp in
/-- The gradients of the keys. -/
theorem array_dk (G : Vec Ideal S2x2304x512 .f32) (hG : ∀ b κ h d, G (ix3 b (pos κ) (lane h d)) = (args m c β).dk b h κ d) :
    (dats m 0 c).arrAt 9 cfg0.N = G := by
  refine (dats m 0 c).arrAt_eq_of_covers 9 G (by decide +kernel) fun t hf y => ?_
  have h7 := (flush0_9 t).mp hf
  obtain ⟨g, b, j, rfl⟩ := exists_pt t
  obtain rfl : j = 7 := Fin.ext (by dsimp only [pt] at h7; show j.val = 7; omega)
  obtain ⟨h0, h1, h2⟩ := index9 g b 7
  blk_simp
  rw [after0_9]
  obtain ⟨y0, y1, y2, rfl⟩ : ∃ (y0 : Fin 1) (y1 : Fin 2304) (y2 : Fin 256), y = ix3 y0 y1 y2 := ⟨y 0, y 1, y 2, funext fun a => by fin_cases a <;> rfl⟩
  obtain ⟨hh, d, rfl⟩ := exists_quarter y2
  obtain ⟨κ, rfl⟩ := exists_pos y1
  obtain rfl : y0 = 0 := Subsingleton.elim _ _
  refine (dk_at g b m c hβ hp hh d κ).trans ((hG b κ (head g hh) d).symm.trans ?_)
  rw [← lane_eq]
  generalize pos κ = z
  blk_ext [h0, h1, h2, wide]

include hβ hp in
/-- The gradients of the values. -/
theorem array_dv (G : Vec Ideal S2x2304x512 .f32) (hG : ∀ b κ h d, G (ix3 b (pos κ) (lane h d)) = (args m c β).dv b h κ d) :
    (dats m 0 c).arrAt 10 cfg0.N = G := by
  refine (dats m 0 c).arrAt_eq_of_covers 10 G (by decide +kernel) fun t hf y => ?_
  have h7 := (flush0_10 t).mp hf
  obtain ⟨g, b, j, rfl⟩ := exists_pt t
  obtain rfl : j = 7 := Fin.ext (by dsimp only [pt] at h7; show j.val = 7; omega)
  obtain ⟨h0, h1, h2⟩ := index10 g b 7
  blk_simp
  rw [after0_10]
  obtain ⟨y0, y1, y2, rfl⟩ : ∃ (y0 : Fin 1) (y1 : Fin 2304) (y2 : Fin 256), y = ix3 y0 y1 y2 := ⟨y 0, y 1, y 2, funext fun a => by fin_cases a <;> rfl⟩
  obtain ⟨hh, d, rfl⟩ := exists_quarter y2
  obtain ⟨κ, rfl⟩ := exists_pos y1
  obtain rfl : y0 = 0 := Subsingleton.elim _ _
  refine (dv_at g b m c hβ hp hh d κ).trans ((hG b κ (head g hh) d).symm.trans ?_)
  rw [← lane_eq]
  generalize pos κ = z
  blk_ext [h0, h1, h2, wide]

end Cert.KernelIdeal.Gen

end
-- ==== Proof.RefValue.lean ====
module

public import proofs.«01_k».proof.Proof.Gen.ReferenceIdeal.Read
public import proofs.«01_k».proof.Proof.Spec
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select

/-! # The reference's results, as sums -/

@[expose] public section

noncomputable section

namespace Cert.ReferenceIdeal.Read

open Idealize.ShloMosaic Cert.Attention

variable (x0 x1 x2 : Vec Ideal S2x2304x512 .bf16) (x3 : Vec Ideal S8x15x31 .f32) (x4 : Vec Ideal S2x2048x512 .f32)

theorem v4_at (b : Fin 2) (n : Fin 2048) (h : Fin 8) (d : Fin 64) :
    val_main_v4 (F := Ideal) x0 (ix4 b n h d) = x0 (ix3 b (pos (.inl n)) (lane h d)) := by
  unfold val_main_v4 val_main_v1 val_main_v0
  pointwise
  rfl

theorem v5_at (b : Fin 2) (n : Fin 2304) (h : Fin 8) (d : Fin 64) :
    val_main_v5 (F := Ideal) x1 (ix4 b n h d) = x1 (ix3 b n (lane h d)) := by
  unfold val_main_v5 val_main_v2
  pointwise
  rfl

theorem v72_at (b : Fin 2) (h : Fin 8) (n : Fin 2048) (κ : Fin 2048) : val_main_v72 (F := Ideal) x0 x1 (ix4 b h n κ) =
    ∑ d, x0 (ix3 b (pos (.inl n)) (lane h d)) * x1 (ix3 b (pos (.inl κ)) (lane h d)) := by
  unfold val_main_v72 val_main_v71
  pointwise [v4_at, v5_at]
  rfl

theorem v79_at (b : Fin 2) (h : Fin 8) (n : Fin 2048) (c : Fin 256) : val_main_v79 (F := Ideal) x0 x1 (ix4 b h n c) =
    ∑ d, x0 (ix3 b (pos (.inl n)) (lane h d)) * x1 (ix3 b (pos (.inr c)) (lane h d)) := by
  unfold val_main_v79 val_main_v78
  pointwise [v4_at, v5_at]
  rfl

/-- The arguments as plain functions, the biases being the reference's own table. -/
def args : Args where
  q b y e := x0 (ix3 b y e)
  k b y e := x1 (ix3 b y e)
  v b y e := x2 (ix3 b y e)
  β h n κ := val_main_v70 (F := Ideal) x3 (ix3 h n κ)
  g b n e := x4 (ix3 b n e)

/-- A key's place among a query's 2304. -/
def keyEquiv : Key ≃ Fin 2304 := finSumFinEquiv.trans (finCongr (by norm_num))
abbrev key (κ : Key) : Fin 2304 := keyEquiv κ
theorem key_inl (κ : Fin 2048) : (key (.inl κ)).val = κ.val := by simp [key, keyEquiv, finSumFinEquiv]
theorem key_inr (c : Fin 256) : (key (.inr c)).val = 2048 + c.val := by simp [key, keyEquiv, finSumFinEquiv]

theorem sum_key (f : Fin 2304 → EReal) : ∑ k, f k = ∑ κ : Key, f (key κ) := (Equiv.sum_comp keyEquiv f).symm

theorem ofBits_bot : Ideal.ofBits .f32 0xFF800000#32 = (⊥ : EReal) := by simp [Ideal.ofBits, Ideal.ieee]

theorem fold_key (f : Fin 2304 → EReal) : Finset.univ.fold max (Ideal.ofBits .f32 0xFF800000#32) f = top fun κ => f (key κ) := by
  rw [ofBits_bot]
  have e := Finset.sup_map Finset.univ keyEquiv.toEmbedding f
  rw [Finset.map_univ_equiv] at e
  exact e

theorem v82_at (b : Fin 2) (h : Fin 8) (n : Fin 2048) (κ : Key) :
    val_main_v82 (F := Ideal) x0 x1 x3 (ix4 b h n (key κ)) = (args x0 x1 x2 x3 x4).logit b h n κ := by
  unfold val_main_v82
  rcases κ with κ | c
  · have hk : (key (.inl κ)).val < 2048 := by rw [key_inl]; exact κ.isLt
    have hc : (⟨(key (.inl κ)).val, hk⟩ : Fin 2048) = κ := Fin.ext (key_inl κ)
    pointwise
    rw [dif_pos hk]
    unfold val_main_v77 val_main_v76 val_main_v75 val_main_v74 val_main_v73
    pointwise [hc, v72_at]
    rfl
  · have hk : ¬ (key (.inr c)).val < 2048 := by rw [key_inr]; omega
    pointwise
    rw [dif_neg hk]
    unfold val_main_v81 val_main_v80
    have hc : (⟨(key (.inr c)).val - 2048, by have := (key (.inr c)).isLt; omega⟩ : Fin 256) = c := Fin.ext (by show (key (.inr c)).val - 2048 = _; rw [key_inr]; omega)
    pointwise [hc, v79_at]
    rfl

theorem v83_at (b : Fin 2) (h : Fin 8) (n : Fin 2048) :
    val_main_v83 (F := Ideal) x0 x1 x3 (ix3 b h n) = top ((args x0 x1 x2 x3 x4).logit b h n) := by
  unfold val_main_v83 val_main_cst_13
  pointwise
  rw [fold_key]
  simp only [v82_at x0 x1 x2 x3 x4]

theorem v101_at (b : Fin 2) (h : Fin 8) (n : Fin 2048) (k : Fin 2304) :
    val_main_v101 (F := Ideal) x0 x1 x3 (ix4 b h n k) = top ((args x0 x1 x2 x3 x4).logit b h n) := by
  have e : val_main_v101 (F := Ideal) x0 x1 x3 (ix4 b h n k) = max (Ideal.ofBits .f32 0xFF800000#32) (val_main_v83 (F := Ideal) x0 x1 x3 (ix3 b h n)) := by
    have e0 : ∀ i, val_main_v89 (F := Ideal) i = Ideal.ofBits .f32 0xFF800000#32 := fun i => (val_main_v89_apply i).trans (val_main_cst_15_apply _)
    unfold val_main_v101 val_main_v100
    have e1 : ∀ i, val_main_v90 (F := Ideal) x0 x1 x3 i = max (Ideal.ofBits .f32 0xFF800000#32) (val_main_v83 (F := Ideal) x0 x1 x3 i) :=
      fun i => (val_main_v90_apply x0 x1 x3 i).trans (congrArg (fun z => max z (val_main_v83 (F := Ideal) x0 x1 x3 i)) (e0 i))
    pointwise [e1]
  rw [e, ofBits_bot, max_eq_right bot_le, v83_at x0 x1 x2 x3 x4]

theorem v103_at (b : Fin 2) (h : Fin 8) (n : Fin 2048) (κ : Key) :
    val_main_v103 (F := Ideal) x0 x1 x3 (ix4 b h n (key κ)) = ex ((args x0 x1 x2 x3 x4).logit b h n) κ := by
  rw [val_main_v103_apply, val_main_v102_apply, v101_at x0 x1 x2 x3 x4, v82_at x0 x1 x2 x3 x4, ex]
  rfl

theorem v104_at (b : Fin 2) (h : Fin 8) (n : Fin 2048) :
    val_main_v104 (F := Ideal) x0 x1 x3 (ix3 b h n) = norm ((args x0 x1 x2 x3 x4).logit b h n) := by
  unfold val_main_v104 val_main_cst_21
  pointwise
  rw [sum_key]
  simp only [v103_at x0 x1 x2 x3 x4]
  rfl

theorem v107_at (b : Fin 2) (h : Fin 8) (n : Fin 2048) (κ : Key) :
    val_main_v107 (F := Ideal) x0 x1 x3 (ix4 b h n (key κ)) = (args x0 x1 x2 x3 x4).p b h n κ := by
  unfold val_main_v107 val_main_v106 val_main_v105
  pointwise [v103_at x0 x1 x2 x3 x4, v104_at x0 x1 x2 x3 x4]
  rfl

theorem v6_at (b : Fin 2) (n : Fin 2304) (h : Fin 8) (d : Fin 64) :
    val_main_v6 (F := Ideal) x2 (ix4 b n h d) = x2 (ix3 b n (lane h d)) := by
  unfold val_main_v6 val_main_v3
  pointwise
  rfl

theorem v124_at (b : Fin 2) (n : Fin 2048) (h : Fin 8) (d : Fin 64) :
    val_main_v124 (F := Ideal) x4 (ix4 b h d n) = x4 (ix3 b n (lane h d)) := by
  unfold val_main_v124 val_main_v123
  pointwise
  rfl

theorem v130_at (b : Fin 2) (n : Fin 2048) (h : Fin 8) (d : Fin 64) :
    val_main_v130 (F := Ideal) x4 (ix4 b h d n) = x4 (ix3 b n (lane h d)) := by
  unfold val_main_v130 val_main_v123
  pointwise
  rfl

theorem v125_at (b : Fin 2) (h : Fin 8) (n : Fin 2048) (c : Fin 256) :
    val_main_v125 (F := Ideal) x2 x4 (ix4 b h n c) = (args x0 x1 x2 x3 x4).gp b h n (.inr c) := by
  unfold val_main_v125 val_main_v118
  pointwise [v124_at, v6_at]
  rfl

theorem v131_at (b : Fin 2) (h : Fin 8) (n : Fin 2048) (κ : Fin 2048) :
    val_main_v131 (F := Ideal) x2 x4 (ix4 b h n κ) = (args x0 x1 x2 x3 x4).gp b h n (.inl κ) := by
  unfold val_main_v131 val_main_v114
  pointwise [v130_at, v6_at]
  rfl

theorem v137_at (b : Fin 2) (h : Fin 8) (n : Fin 2048) (κ : Key) :
    val_main_v137 (F := Ideal) x2 x4 (ix4 b h n (key κ)) = (args x0 x1 x2 x3 x4).gp b h n κ := by
  unfold val_main_v137 val_main_v129 val_main_v136 val_main_cst_24 val_main_cst_26
  pointwise
  rcases κ with κ | c
  · have hk : (key (.inl κ)).val < 2048 := by rw [key_inl]; exact κ.isLt
    have hc : (⟨(key (.inl κ)).val, hk⟩ : Fin 2048) = κ := Fin.ext (key_inl κ)
    rw [dif_neg (by omega), dif_pos hk, zero_add, hc, v131_at x0 x1 x2 x3 x4]
  · have hk := key_inr c
    have hc : (⟨(key (.inr c)).val - 2048, by omega⟩ : Fin 256) = c := Fin.ext (by show (key (.inr c)).val - 2048 = _; omega)
    rw [dif_pos (by omega), dif_neg (by omega), add_zero, hc, v125_at x0 x1 x2 x3 x4]

/-- One over the squared normaliser. -/
theorem v110_at (b : Fin 2) (h : Fin 8) (n : Fin 2048) (z : Fin 1) :
    val_main_v110 (F := Ideal) x0 x1 x3 (ix4 b h n z) =
      Ideal.div 1 (norm ((args x0 x1 x2 x3 x4).logit b h n) * norm ((args x0 x1 x2 x3 x4).logit b h n)) := by
  have e : val_main_v105 (F := Ideal) x0 x1 x3 (ix4 b h n z) = norm ((args x0 x1 x2 x3 x4).logit b h n) := by
    unfold val_main_v105
    pointwise [v104_at x0 x1 x2 x3 x4]
  have e1 : val_main_v109 (F := Ideal) (ix4 b h n z) = (1 : EReal) :=
    (val_main_v109_apply _).trans ((val_main_cst_22_apply _).trans Ideal.ofBits_one_f32)
  rw [val_main_v110_apply, val_main_v108_apply, e, e1]
  rfl

theorem v142_at (b : Fin 2) (h : Fin 8) (n : Fin 2048) (κ : Key) :
    val_main_v142 (F := Ideal) x0 x1 x2 x3 x4 (ix4 b h n (key κ)) =
      (args x0 x1 x2 x3 x4).gp b h n κ * Ideal.div 1 (norm ((args x0 x1 x2 x3 x4).logit b h n) * norm ((args x0 x1 x2 x3 x4).logit b h n))
        * ex ((args x0 x1 x2 x3 x4).logit b h n) κ := by
  unfold val_main_v142 val_main_v141 val_main_v140 val_main_v139 val_main_v138
  pointwise [v137_at x0 x1 x2 x3 x4, v103_at x0 x1 x2 x3 x4, v110_at x0 x1 x2 x3 x4]

theorem v149_at (b : Fin 2) (h : Fin 8) (n : Fin 2048) (k : Fin 2304) :
    val_main_v149 (F := Ideal) x0 x1 x2 x3 x4 (ix4 b h n k) =
      -(∑ κ, (args x0 x1 x2 x3 x4).gp b h n κ * Ideal.div 1 (norm ((args x0 x1 x2 x3 x4).logit b h n) * norm ((args x0 x1 x2 x3 x4).logit b h n))
        * ex ((args x0 x1 x2 x3 x4).logit b h n) κ) := by
  have e : val_main_v143 (F := Ideal) x0 x1 x2 x3 x4 (ix3 b h n) = ∑ κ, val_main_v142 (F := Ideal) x0 x1 x2 x3 x4 (ix4 b h n (key κ)) := by
    unfold val_main_v143 val_main_cst_27
    pointwise
    rw [sum_key]
  simp only [v142_at] at e
  rw [← e]
  unfold val_main_v149 val_main_v148 val_main_cst_28 val_main_v145 val_main_v144
  pointwise
  exact Fin.sum_univ_one _

theorem v151_at (b : Fin 2) (h : Fin 8) (n : Fin 2048) (κ : Key) (hp : Proper ((args x0 x1 x2 x3 x4).logit b h n)) :
    val_main_v151 (F := Ideal) x0 x1 x2 x3 x4 (ix4 b h n (key κ)) = (args x0 x1 x2 x3 x4).gs b h n κ := by
  have e : val_main_v146 (F := Ideal) x0 x1 x3 (ix4 b h n (key κ)) = norm ((args x0 x1 x2 x3 x4).logit b h n) := by
    unfold val_main_v146 val_main_v105
    pointwise [v104_at x0 x1 x2 x3 x4]
  unfold val_main_v151 val_main_v150 val_main_v147 val_main_v139 val_main_v138
  pointwise [v137_at x0 x1 x2 x3 x4, v103_at x0 x1 x2 x3 x4, v149_at, e]
  exact hp.ref_grad _ κ

theorem key_inl' (κ : Fin 2048) : (⟨κ.val, by omega⟩ : Fin 2304) = key (.inl κ) := Fin.ext (key_inl κ).symm
theorem key_inr' (c : Fin 256) : (⟨2048 + c.val, by omega⟩ : Fin 2304) = key (.inr c) := Fin.ext (key_inr c).symm

section Results

variable (hp : ∀ b h n, Proper ((args x0 x1 x2 x3 x4).logit b h n))

include hp in
theorem v162_at (b : Fin 2) (h : Fin 8) (n : Fin 2048) (κ : Fin 2048) :
    val_main_v162 (F := Ideal) x0 x1 x2 x3 x4 (ix4 b h n κ) = (args x0 x1 x2 x3 x4).gs b h n (.inl κ) := by
  rw [← v151_at x0 x1 x2 x3 x4 b h n _ (hp b h n), ← key_inl']
  unfold val_main_v162 val_main_v161 val_main_v152
  pointwise

include hp in
theorem v155_at (b : Fin 2) (h : Fin 8) (n : Fin 2048) (c : Fin 256) :
    val_main_v155 (F := Ideal) x0 x1 x2 x3 x4 (ix4 b h n c) = (args x0 x1 x2 x3 x4).gs b h n (.inr c) := by
  rw [← v151_at x0 x1 x2 x3 x4 b h n _ (hp b h n), ← key_inr']
  unfold val_main_v155 val_main_v154 val_main_v153
  pointwise

theorem v113_at (b : Fin 2) (h : Fin 8) (n : Fin 2048) (κ : Fin 2048) :
    val_main_v113 (F := Ideal) x0 x1 x3 (ix4 b h n κ) = (args x0 x1 x2 x3 x4).p b h n (.inl κ) := by
  rw [← v107_at x0 x1 x2 x3 x4 b h n _, ← key_inl']
  unfold val_main_v113 val_main_v112 val_main_v111
  pointwise

theorem v117_at (b : Fin 2) (h : Fin 8) (n : Fin 2048) (c : Fin 256) :
    val_main_v117 (F := Ideal) x0 x1 x3 (ix4 b h n c) = (args x0 x1 x2 x3 x4).p b h n (.inr c) := by
  rw [← v107_at x0 x1 x2 x3 x4 b h n _, ← key_inr']
  unfold val_main_v117 val_main_v112 val_main_v111
  pointwise

include hp in
/-- The gradient of the queries. -/
theorem v172_at (b : Fin 2) (n : Fin 2048) (h : Fin 8) (d : Fin 64) :
    val_main_v172 (F := Ideal) x0 x1 x2 x3 x4 (ix3 b n (lane h d)) = (args x0 x1 x2 x3 x4).dq b h n d := by
  have hh : (⟨(lane h d).val / 64, by omega⟩ : Fin 8) = h := Fin.ext (by show (h.val * 64 + d.val) / 64 = _; omega)
  have hd : (⟨(lane h d).val % 64, by omega⟩ : Fin 64) = d := Fin.ext (by show (h.val * 64 + d.val) % 64 = _; omega)
  unfold val_main_v172 val_main_v167 val_main_v166 val_main_v165 val_main_v159 val_main_v158 val_main_v71 val_main_v78
  pointwise [hh, hd, v162_at x0 x1 x2 x3 x4 hp, v155_at x0 x1 x2 x3 x4 hp, v5_at]
  rw [Args.dq, Fintype.sum_sum_type, add_comm]
  rfl

include hp in
/-- The gradient of the keys. -/
theorem v171_at (b : Fin 2) (κ : Key) (h : Fin 8) (d : Fin 64) :
    val_main_v171 (F := Ideal) x0 x1 x2 x3 x4 (ix3 b (pos κ) (lane h d)) = (args x0 x1 x2 x3 x4).dk b h κ d := by
  have hh : (⟨(lane h d).val / 64, by omega⟩ : Fin 8) = h := Fin.ext (by show (h.val * 64 + d.val) / 64 = _; omega)
  have hd : (⟨(lane h d).val % 64, by omega⟩ : Fin 64) = d := Fin.ext (by show (h.val * 64 + d.val) % 64 = _; omega)
  unfold val_main_v171 val_main_v169 val_main_v168 val_main_v160 val_main_v157 val_main_v164 val_main_v163 val_main_v156 val_main_cst_29 val_main_cst_30
  pointwise [hh, hd, v162_at x0 x1 x2 x3 x4 hp, v155_at x0 x1 x2 x3 x4 hp, v4_at]
  rcases κ with κ | c
  · have hk : (pos (.inl κ)).val = 256 + κ.val := rfl
    have hc : (⟨(pos (.inl κ)).val - 256, by omega⟩ : Fin 2048) = κ := Fin.ext (by show (pos (.inl κ)).val - 256 = _; omega)
    rw [dif_neg (by omega), dif_pos (by omega), zero_add, hc]
    rfl
  · have hk : (pos (.inr c)).val = c.val := rfl
    rw [dif_pos (by omega), dif_neg (by omega), add_zero]
    rfl

/-- The gradient of the values. -/
theorem v170_at (b : Fin 2) (κ : Key) (h : Fin 8) (d : Fin 64) :
    val_main_v170 (F := Ideal) x0 x1 x3 x4 (ix3 b (pos κ) (lane h d)) = (args x0 x1 x2 x3 x4).dv b h κ d := by
  have hh : (⟨(lane h d).val / 64, by omega⟩ : Fin 8) = h := Fin.ext (by show (h.val * 64 + d.val) / 64 = _; omega)
  have hd : (⟨(lane h d).val % 64, by omega⟩ : Fin 64) = d := Fin.ext (by show (h.val * 64 + d.val) % 64 = _; omega)
  unfold val_main_v170 val_main_v135 val_main_v134 val_main_v128 val_main_v127 val_main_v126 val_main_v133 val_main_v132 val_main_cst_23 val_main_cst_25
  pointwise [hh, hd, v113_at x0 x1 x2 x3 x4, v117_at x0 x1 x2 x3 x4, v124_at, v130_at]
  rcases κ with κ | c
  · have hk : (pos (.inl κ)).val = 256 + κ.val := rfl
    have hc : (⟨(pos (.inl κ)).val - 256, by omega⟩ : Fin 2048) = κ := Fin.ext (by show (pos (.inl κ)).val - 256 = _; omega)
    rw [dif_neg (by omega), dif_pos (by omega), zero_add, hc]
    exact Finset.sum_congr rfl fun n _ => mul_comm _ _
  · have hk : (pos (.inr c)).val = c.val := rfl
    rw [dif_pos (by omega), dif_neg (by omega), add_zero]
    exact Finset.sum_congr rfl fun n _ => mul_comm _ _

end Results

end Cert.ReferenceIdeal.Read

end
-- ==== Proof.Table.lean ====
module

public import proofs.«01_k».proof.Proof.Steps
public import Idealize.ShloMosaic.Lib.StableHlo.RunRead

/-! # The table of biases that the launch is given

The host lines before the launch, read at an index: the class of a query's row and a head's query column choose a row of the table, and a window's key its place there. -/

@[expose] public section
noncomputable section

namespace Cert.KernelIdeal.Gen

open Idealize.ShloMosaic Cert.Attention

/-- The columns in a query column's window. -/
def validCols : IVec S64x64 1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (minsi (maxsi (subi (broadcastInDim S64x1 ![0] bcast_S64_S64x1_0 (iotaInDim S64 32 0)) (broadcastInDim S64x1 ![] bcast_S_S64x1 (constantI S_ 32 8#32)))
          (broadcastInDim S64x1 ![] bcast_S_S64x1 (constantI S_ 32 0#32))) (broadcastInDim S64x1 ![] bcast_S_S64x1 (constantI S_ 32 48#32)))))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (minsi (maxsi (subi (broadcastInDim S64x1 ![0] bcast_S64_S64x1_0 (iotaInDim S64 32 0)) (broadcastInDim S64x1 ![] bcast_S_S64x1 (constantI S_ 32 8#32)))
          (broadcastInDim S64x1 ![] bcast_S_S64x1 (constantI S_ 32 0#32))) (broadcastInDim S64x1 ![] bcast_S_S64x1 (constantI S_ 32 48#32)))
          (broadcastInDim S64x1 ![] bcast_S_S64x1 (constantI S_ 32 16#32)))))

/-- The difference of two columns, clamped. -/
def relCols : IVec S64x64 32 :=
  minsi (maxsi (subi (addi (subi (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (iotaInDim S64 32 0))))
      (broadcastInDim S64x64 ![] bcast_S_S64x64 (constantI S_ 32 16#32))) (broadcastInDim S64x64 ![] bcast_S_S64x64 (constantI S_ 32 1#32)))
    (broadcastInDim S64x64 ![] bcast_S_S64x64 (constantI S_ 32 0#32))) (broadcastInDim S64x64 ![] bcast_S_S64x64 (constantI S_ 32 30#32))

/-- The biases of pairs of columns, and `−∞` outside a window. -/
def colsOf (x : Vec Ideal S8x15x31 .f32) : Vec Ideal S8x15x64x64 .f32 :=
  select (broadcastInDim S8x15x64x64 ![2, 3] bcast_S64x64_S8x15x64x64_2_3 validCols)
    (Host.gather gather_S8x15x31_S64x64x1_S8x15x64x64_01_2_n_n_2_2_8151 x (broadcastInDim S64x64x1 ![0, 1] bcast_S64x64_S64x64x1_0_1 relCols))
    (broadcastInDim S8x15x64x64 ![] bcast_S_S8x15x64x64 (constant (F := Ideal) S_ .f32 0xFF800000#32))

/-- A class's eight rows of biases, from its slice. -/
abbrev slab (x : Vec Ideal S8x8x64x64 .f32) : Vec Ideal S1x8x8x64x64 .f32 := broadcastInDim S1x8x8x64x64 ![1, 2, 3, 4] bcast_S8x8x64x64_S1x8x8x64x64_1_2_3_4 x

/-- The table, from the eight classes' rows. -/
def tableOf (u : Fin 8 → Vec Ideal S1x8x8x64x64 .f32) : Vec Ideal S8x2x256x512 .f32 :=
  shapeCast S8x2x256x512 (transpose S8x8x64x8x64 [0, 1, 3, 2, 4]
    (concatenate S8x8x8x64x64 0 [⟨S1x8x8x64x64, u 0⟩, ⟨S1x8x8x64x64, u 1⟩, ⟨S1x8x8x64x64, u 2⟩, ⟨S1x8x8x64x64, u 3⟩,
      ⟨S1x8x8x64x64, u 4⟩, ⟨S1x8x8x64x64, u 5⟩, ⟨S1x8x8x64x64, u 6⟩, ⟨S1x8x8x64x64, u 7⟩]
      concatenates_S1x8x8x64x64_S1x8x8x64x64_S1x8x8x64x64_S1x8x8x64x64_S1x8x8x64x64_S1x8x8x64x64_S1x8x8x64x64_S1x8x8x64x64_S8x8x8x64x64_d0)
    transposes_S8x8x8x64x64_S8x8x64x8x64_0_1_3_2_4) shapeCasts_S8x8x64x8x64_S8x2x256x512

/-- The classes' rows. -/
def slabs (X : Vec Ideal S8x15x64x64 .f32) : Fin 8 → Vec Ideal S1x8x8x64x64 .f32 :=
  ![slab (extractStridedSlice S8x8x64x64 ![0, 0, 0, 0] X slices_S8x15x64x64_S8x8x64x64_0_0_0_0),
    slab (extractStridedSlice S8x8x64x64 ![0, 1, 0, 0] X slices_S8x15x64x64_S8x8x64x64_0_1_0_0),
    slab (extractStridedSlice S8x8x64x64 ![0, 2, 0, 0] X slices_S8x15x64x64_S8x8x64x64_0_2_0_0),
    slab (extractStridedSlice S8x8x64x64 ![0, 3, 0, 0] X slices_S8x15x64x64_S8x8x64x64_0_3_0_0),
    slab (extractStridedSlice S8x8x64x64 ![0, 4, 0, 0] X slices_S8x15x64x64_S8x8x64x64_0_4_0_0),
    slab (extractStridedSlice S8x8x64x64 ![0, 5, 0, 0] X slices_S8x15x64x64_S8x8x64x64_0_5_0_0),
    slab (extractStridedSlice S8x8x64x64 ![0, 6, 0, 0] X slices_S8x15x64x64_S8x8x64x64_0_6_0_0),
    slab (extractStridedSlice S8x8x64x64 ![0, 7, 0, 0] X slices_S8x15x64x64_S8x8x64x64_0_7_0_0)]

variable (m : (ℓ : Loc nD τ sig) → Buf (Elt Ideal) ℓ) (c : Dev nD)

/-- The host lines before the launch. -/
abbrev lines : List (HloOp τ sig (Elt Ideal)) := List.flatten [hostOps0, hostOps0_1, hostOps0_2, hostOps0_3, hostOps0_4]

variable (σ : (b : DevRef τ sig) → b.ty.Contents (Elt Ideal))

set_option maxHeartbeats 1600000 in
theorem cols_eq : StableHlo.upto lines σ 45 (Proc.devRef .tc main_v31) = colsOf (σ (Proc.devRef .tc main_arg3)) := by
  after_reads_simp
  simp only [StableHlo.TRef.toBuf, StableHlo.TRef.ofBuf, cast_cast, cast_eq, id_eq]
  unfold colsOf
  rfl

set_option maxHeartbeats 1600000 in
theorem table_slabs (w : (b : DevRef τ sig) → b.ty.Contents (Elt Ideal)) (hw : StableHlo.upto lines σ 61 = w) : StableHlo.after lines σ (Proc.devRef .tc main_v50) =
    tableOf ![w (Proc.devRef .tc main_v40), w (Proc.devRef .tc main_v41), w (Proc.devRef .tc main_v42), w (Proc.devRef .tc main_v43),
      w (Proc.devRef .tc main_v44), w (Proc.devRef .tc main_v45), w (Proc.devRef .tc main_v46), w (Proc.devRef .tc main_v47)] := by
  after_reads_simp
  rw [hw]
  rfl

set_option maxHeartbeats 1600000 in
theorem table_eq : table m c = tableOf (slabs (colsOf (arg3 m c))) := by
  refine (table_slabs (fun b => m (c, b)) _ rfl).trans (congrArg tableOf (funext fun k => ?_))
  fin_cases k
  all_goals
    simp only [slabs]
    after_reads_simp
    simp only [StableHlo.TRef.toBuf, StableHlo.TRef.ofBuf, cast_cast, cast_eq, id_eq]
    rfl

theorem ix4_congr (X : Vec Ideal S8x15x64x64 .f32) {h h' : Fin 8} {r r' : Fin 15} {a a' b b' : Fin 64} (e0 : h.val = h'.val) (e1 : r.val = r'.val) (e2 : a.val = a'.val) (e3 : b.val = b'.val) :
    X (ix4 h r a b) = X (ix4 h' r' a' b') := by
  rw [Fin.ext e0, Fin.ext e1, Fin.ext e2, Fin.ext e3]

theorem tableOf_at (X : Vec Ideal S8x15x64x64 .f32) (k : Fin 8) (g : Fin 2) (hh : Fin 4) (x : Fin 64) (i : Fin 512) :
    tableOf (slabs X) (ix4 k g (quarter hh x) i) = X (ix4 (head g hh) ⟨k.val + i.val / 64, by omega⟩ x ⟨i.val % 64, by omega⟩) := by
  unfold tableOf slabs
  pointwise
  have e0 : g.val * 4 + (quarter hh x).val / 64 = (head g hh).val := by simp only [quarter, head]; omega
  have e2 : (quarter hh x).val % 64 = x.val := by simp only [quarter]; omega
  split_ifs <;> exact ix4_congr X e0 (by have := k.isLt; dsimp only; omega) e2 rfl

theorem colsOf_at (x : Vec Ideal S8x15x31 .f32) (h : Fin 8) (r : Fin 15) (a b : Fin 64) : colsOf x (ix4 h r a b) =
    if validCols (ix2 a b) = 1#1 then Host.gather gather_S8x15x31_S64x64x1_S8x15x64x64_01_2_n_n_2_2_8151 x (broadcastInDim S64x64x1 ![0, 1] bcast_S64x64_S64x64x1_0_1 relCols) (ix4 h r a b) else ⊥ := by
  unfold colsOf
  generalize validCols = v
  generalize Host.gather _ _ _ = G
  generalize hz : constant (F := Ideal) S_ .f32 0xFF800000#32 = z
  pointwise
  subst hz
  by_cases hv : v (ix2 a b) = 1#1
  · rw [if_pos hv, hv]
    rfl
  · rw [if_neg hv, (BitVec.eq_zero_or_eq_one _).resolve_right hv]
    exact show Ideal.ofBits .f32 0xFF800000#32 = (⊥ : EReal) by simp [Ideal.ofBits, Ideal.ieee]

end Cert.KernelIdeal.Gen
end
-- ==== Proof.RefBias.lean ====
module

public import proofs.«01_k».proof.Proof.RefValue

/-! # The reference's biases

The bias of a query and a key of the sequence, each given by its row and its column: the two rows choose a table of columns, and out of the window it is `−∞`. -/

@[expose] public section

noncomputable section

namespace Cert.ReferenceIdeal.Read

open Idealize.ShloMosaic Cert.Attention

/-- A place of the sequence, by its row and its column. -/
abbrev place (r : Fin 32) (c : Fin 64) : Fin 2048 := ⟨r.val * 64 + c.val, by omega⟩

/-- The first row of a query's window. -/
abbrev first (r : Fin 32) : ℕ := min 24 (r.val - 4)

/-- The difference of rows that chooses a key's table. -/
abbrev diff (r s : Fin 32) : Fin 15 := ⟨min (s.val + 7 - r.val) 14, by omega⟩

theorem row_words : ∀ r s : Fin 32,
    IntOp.andi (IntOp.cmpi .sge (BitVec.ofNat 32 s.val) (IntOp.minsi (IntOp.maxsi (IntOp.subi (BitVec.ofNat 32 r.val) 4#32) 0#32) 24#32))
      (IntOp.cmpi .slt (BitVec.ofNat 32 s.val) (IntOp.addi (IntOp.minsi (IntOp.maxsi (IntOp.subi (BitVec.ofNat 32 r.val) 4#32) 0#32) 24#32) 8#32)) =
    if first r ≤ s.val ∧ s.val < first r + 8 then 1#1 else 0#1 := by
  decide +kernel

theorem diff_words : ∀ r s : Fin 32,
    min (IntOp.minsi (IntOp.maxsi (IntOp.addi (IntOp.subi (BitVec.ofNat 32 s.val) (BitVec.ofNat 32 r.val)) 7#32) 0#32) 14#32).toInt.toNat 14 = (diff r s).val := by
  decide +kernel

theorem v33_at (r s : Fin 32) : val_main_v33 (F := Ideal) (ix2 r s) = if first r ≤ s.val ∧ s.val < first r + 8 then 1#1 else 0#1 := by
  rw [← row_words r s]
  simp only [val_main_v33_apply, val_main_v27_apply, val_main_v32_apply, val_main_v25_apply, val_main_v26_apply, val_main_v30_apply, val_main_v31_apply, val_main_v29_apply,
    val_main_v28_apply, val_main_v10_apply, val_main_v18_apply, val_main_v16_apply, val_main_v14_apply, val_main_v7_apply, val_main_v9_apply, val_main_v13_apply,
    val_main_v15_apply, val_main_v17_apply]
  rfl

theorem v51_at (r s : Fin 32) : val_main_v51 (F := Ideal) (ix2 r s) =
    IntOp.minsi (IntOp.maxsi (IntOp.addi (IntOp.subi (BitVec.ofNat 32 s.val) (BitVec.ofNat 32 r.val)) 7#32) 0#32) 14#32 := by
  simp only [val_main_v51_apply, val_main_v50_apply, val_main_v49_apply, val_main_v48_apply, val_main_v47_apply, val_main_v46_apply, val_main_v45_apply, val_main_v44_apply,
    val_main_v43_apply, val_main_v10_apply, val_main_v9_apply, val_main_v7_apply]
  rfl

/-- The dimension numbers of the choice of tables. -/
abbrev rowsDims := gather_S8x15x64x64_S32x32x1_S8x32x32x64x64_034_1_n_n_1_2_816464

theorem take_rows (w : IVec S32x32x1 32) (h : Fin 8) (r s : Fin 32) (a b : Fin 64) (e : Fin 15) (he : min (w (ix3 r s 0)).toInt.toNat 14 = e.val) :
    rowsDims.operandIdx (ix5 h r s a b) w = ix4 h e a b := by
  have hs : ∀ x : Fin 4, x ≠ 1 → rowsDims.start (ix5 h r s a b) w x = 0 := fun x hx => by
    unfold GatherDims.start
    exact dif_neg (by simpa [rowsDims, gather_S8x15x64x64_S32x32x1_S8x32x32x64x64_034_1_n_n_1_2_816464] using hx)
  have hb : ∀ x : Fin 4, rowsDims.batchCoord (ix5 h r s a b) x = 0 := fun x => rowsDims.batchCoord_eq_zero _ _ List.not_mem_nil
  have hk : ∀ x : Fin 4, x ≠ 1 → x ∈ rowsDims.sKept := fun x hx => (rowsDims.mem_sKept x).2 ⟨fun hh => hx (List.mem_singleton.mp hh), List.not_mem_nil⟩
  funext x
  refine Fin.ext ?_
  show rowsDims.start (ix5 h r s a b) w x + rowsDims.batchCoord (ix5 h r s a b) x + rowsDims.offCoord (ix5 h r s a b) x = _
  rw [hb]
  obtain rfl | rfl | rfl | rfl : x = 0 ∨ x = 1 ∨ x = 2 ∨ x = 3 := by
    match x with
    | ⟨0, _⟩ => exact .inl rfl
    | ⟨1, _⟩ => exact .inr (.inl rfl)
    | ⟨2, _⟩ => exact .inr (.inr (.inl rfl))
    | ⟨3, _⟩ => exact .inr (.inr (.inr rfl))
  · rw [hs 0 (by decide), Nat.zero_add]
    unfold GatherDims.offCoord
    rw [dif_pos (hk 0 (by decide))]
    rfl
  · rw [rowsDims.offCoord_eq_zero _ _ (fun hh => ((rowsDims.mem_sKept _).mp hh).1 (List.mem_singleton.mpr rfl))]
    unfold GatherDims.start
    rw [dif_pos (show (1 : Fin 4) ∈ rowsDims.startIndexMap from List.mem_singleton.mpr rfl)]
    have hi : rowsDims.siIdx (ix5 h r s a b) ⟨List.idxOf (1 : Fin 4) rowsDims.startIndexMap, List.idxOf_lt_length_iff.2 (List.mem_singleton.mpr rfl)⟩ = ix3 r s 0 := by
      funext z
      refine Fin.ext ?_
      match z with
      | ⟨0, _⟩ => rfl
      | ⟨1, _⟩ => rfl
      | ⟨2, _⟩ => rfl
    rw [hi]
    exact he
  · rw [hs 2 (by decide), Nat.zero_add]
    unfold GatherDims.offCoord
    rw [dif_pos (hk 2 (by decide))]
    rfl
  · rw [hs 3 (by decide), Nat.zero_add]
    unfold GatherDims.offCoord
    rw [dif_pos (hk 3 (by decide))]
    rfl

variable (x3 : Vec Ideal S8x15x31 .f32)

/-- The tables of columns that two rows choose. -/
theorem v62_at (h : Fin 8) (r s : Fin 32) (a b : Fin 64) : val_main_v62 (F := Ideal) x3 (ix5 h r s a b) = val_main_v61 (F := Ideal) x3 (ix4 h (diff r s) a b) := by
  have hd : ∀ i : S32x32x1.Idx, i = ix3 r s 0 → min (val_main_call1_v0 (F := Ideal) i).toInt.toNat 14 = (diff r s).val := by
    rintro i rfl
    rw [← diff_words r s, ← v51_at r s, val_main_call1_v0_apply]
    rfl
  unfold val_main_v62
  generalize val_main_v61 (F := Ideal) x3 = y
  generalize val_main_call1_v0 (F := Ideal) = w at hd
  exact congrArg y (take_rows w h r s a b _ (hd _ rfl))

theorem v70_at (h : Fin 8) (r s : Fin 32) (a b : Fin 64) : val_main_v70 (F := Ideal) x3 (ix3 h (place r a) (place s b)) =
    if (first r ≤ s.val ∧ s.val < first r + 8) ∧ val_main_v42 (F := Ideal) (ix2 a b) = 1#1 then val_main_v61 (F := Ideal) x3 (ix4 h (diff r s) a b) else ⊥ := by
  have e : val_main_v70 (F := Ideal) x3 (ix3 h (place r a) (place s b)) = val_main_v68 (F := Ideal) x3 (ix5 h r s a b) := by
    unfold val_main_v70 val_main_v69
    generalize val_main_v68 (F := Ideal) x3 = y
    pointwise
    exact congrArg y (by
      congr 1
      all_goals exact Fin.ext (by dsimp only [place]; omega))
  have e0 : val_main_call2_v1 (F := Ideal) (ix5 h r s a b) = IntOp.andi (val_main_v33 (F := Ideal) (ix2 r s)) (val_main_v42 (F := Ideal) (ix2 a b)) := by
    rw [val_main_call2_v1_apply, val_main_v67_apply, val_main_v65_apply, val_main_v66_apply, val_main_v63_apply, val_main_v64_apply]
    rfl
  have e1 : val_main_call2_v2 (F := Ideal) (ix5 h r s a b) = (⊥ : EReal) := by
    rw [val_main_call2_v2_apply, val_main_call2_v0_apply, val_main_cst_apply]
    exact ofBits_bot
  rw [e, val_main_v68_apply, e0, e1, v62_at, v33_at]
  by_cases hr : first r ≤ s.val ∧ s.val < first r + 8
  · rw [if_pos hr]
    by_cases hc : val_main_v42 (F := Ideal) (ix2 a b) = 1#1
    · rw [if_pos ⟨hr, hc⟩, hc]
      rfl
    · rw [if_neg (fun hh => hc hh.2), (BitVec.eq_zero_or_eq_one _).resolve_right hc]
      rfl
  · rw [if_neg hr, if_neg (fun hh => hr hh.1)]
    obtain hc | hc := BitVec.eq_zero_or_eq_one (val_main_v42 (F := Ideal) (ix2 a b))
    · rw [hc]
      rfl
    · rw [hc]
      rfl

/-- A taken bias is one of the biases. -/
theorem v61_mem (i : S8x15x64x64.Idx) : ∃ j, val_main_v61 (F := Ideal) x3 i = x3 j := ⟨_, rfl⟩

end Cert.ReferenceIdeal.Read

end
-- ==== Proof.Bias.lean ====
module

public import proofs.«01_k».proof.Proof.Table
public import proofs.«01_k».proof.Proof.RefBias

/-! # The launch's table of biases is the reference's -/

@[expose] public section

noncomputable section

namespace Cert.KernelIdeal.Gen

open Idealize.ShloMosaic Cert.Attention Cert.ReferenceIdeal.Read

theorem validCols_eq : validCols = (val_main_v42 (F := Ideal) : IVec S64x64 1) := rfl

theorem rel_word (u : BitVec 32) : u + 16#32 - 1#32 = u + 15#32 := by
  rw [BitVec.sub_eq_add_neg, BitVec.add_assoc]
  rfl

theorem relCols_eq : relCols = (val_main_v60 (F := Ideal) : IVec S64x64 32) := by
  refine funext fun i => ?_
  have e : addi (val_main_v54 (F := Ideal)) (val_main_v55 (F := Ideal)) i = subi (addi (val_main_v54 (F := Ideal)) (broadcastInDim S64x64 ![] bcast_S_S64x64 (constantI S_ 32 16#32)))
      (broadcastInDim S64x64 ![] bcast_S_S64x64 (constantI S_ 32 1#32)) i := (rel_word _).symm
  exact congrArg (fun z => IntOp.minsi (IntOp.maxsi z _) _) e.symm

variable (x : Vec Ideal S8x15x31 .f32)

theorem taken_eq : (Host.gather gather_S8x15x31_S64x64x1_S8x15x64x64_01_2_n_n_2_2_8151 x (broadcastInDim S64x64x1 ![0, 1] bcast_S64x64_S64x64x1_0_1 relCols) : Vec Ideal S8x15x64x64 .f32) =
    val_main_v61 (F := Ideal) x := by
  rw [relCols_eq]
  rfl

/-- The reference's biases. -/
def biases (h : Fin 8) (n κ : Fin 2048) : EReal := val_main_v70 (F := Ideal) x (ix3 h n κ)

/-- A bias is `−∞` or one of the given ones. -/
theorem biases_mem (h : Fin 8) (n κ : Fin 2048) : biases x h n κ = ⊥ ∨ ∃ j, biases x h n κ = x j := by
  have hn : n = place ⟨n.val / 64, by omega⟩ ⟨n.val % 64, by omega⟩ := Fin.ext (by dsimp only [place]; omega)
  have hκ : κ = place ⟨κ.val / 64, by omega⟩ ⟨κ.val % 64, by omega⟩ := Fin.ext (by dsimp only [place]; omega)
  unfold biases
  rw [hn, hκ, v70_at]
  split_ifs
  · exact .inr (v61_mem x _)
  · exact .inl rfl

variable (m : (ℓ : Loc nD τ sig) → Buf (Elt Ideal) ℓ) (c : Dev nD)

theorem isBias : IsBias m c (biases (arg3 m c)) where
  win g hh qr x i := by
    have hq : winKey qr i = place ⟨min 24 (qr.val - 4) + i.val / 64, by omega⟩ ⟨i.val % 64, by omega⟩ := Fin.ext (by dsimp only [place, winKey]; omega)
    have hd : diff qr ⟨min 24 (qr.val - 4) + i.val / 64, by omega⟩ = ⟨cls qr.val + i.val / 64, by have := cls_lt qr; omega⟩ :=
      Fin.ext (by dsimp only [diff, cls]; omega)
    rw [table_eq, tableOf_at, colsOf_at, validCols_eq, taken_eq]
    unfold biases
    rw [hq]
    refine Eq.trans ?_ (v70_at (arg3 m c) (head g hh) qr ⟨min 24 (qr.val - 4) + i.val / 64, by omega⟩ x ⟨i.val % 64, by omega⟩).symm
    rw [hd]
    refine if_congr ⟨fun hh => ⟨⟨by dsimp only [first]; omega, by dsimp only [first]; omega⟩, hh⟩, fun hh => hh.2⟩ rfl rfl
  out h qr x κ hκ := by
    have e : κ = place ⟨κ.val / 64, by omega⟩ ⟨κ.val % 64, by omega⟩ := Fin.ext (by dsimp only [place]; omega)
    unfold biases
    rw [e]
    refine (v70_at (arg3 m c) h qr _ x _).trans (if_neg fun hh => hκ ?_)
    obtain ⟨⟨h0, h1⟩, -⟩ := hh
    dsimp only [first] at h0 h1
    exact ⟨⟨κ.val - 64 * min 24 (qr.val - 4), by omega⟩, Fin.ext (by dsimp only [winKey]; omega)⟩

end Cert.KernelIdeal.Gen

end
-- ==== Proof.Finite.lean ====
module

public import proofs.«01_k».proof.Defs
public import proofs.«01_k».proof.Proof.Bias

/-! # Finite queries, keys and biases have proper logits -/

@[expose] public section

noncomputable section

namespace Cert.Attention

open Idealize.ShloMosaic

/-- A value whose absolute value is below infinity is real. -/
theorem real_of_finite {x : EReal} (h : BitVec.ofBool (decide (max x (-x) < Ideal.ofBits .f32 0x7F800000#32)) = 1#1) : ∃ r : ℝ, x = r := by
  have e : Ideal.ofBits .f32 0x7F800000#32 = (⊤ : EReal) := by simp [Ideal.ofBits, Ideal.ieee]
  rw [e] at h
  have hd : decide (max x (-x) < ⊤) = true := by
    cases hb : decide (max x (-x) < ⊤)
    · rw [hb] at h; exact absurd h (by decide)
    · rfl
  obtain ⟨h0, h1⟩ := max_lt_iff.1 (of_decide_eq_true hd)
  refine ⟨x.toReal, (EReal.coe_toReal h0.ne fun hx => ?_).symm⟩
  rw [hx, EReal.neg_bot] at h1
  exact h1.ne rfl

theorem sum_real {ι : Type} [Fintype ι] (f : ι → EReal) (hf : ∀ i, ∃ r : ℝ, f i = r) : ∃ r : ℝ, ∑ i, f i = r := by
  choose r hr using hf
  exact ⟨∑ i, r i, by simp only [hr, coe_sum]⟩

/-- Real queries and keys, and biases below `∞`, have proper logits. -/
theorem Args.proper (A : Args) (hq : ∀ b y e, ∃ r : ℝ, A.q b y e = r) (hk : ∀ b y e, ∃ r : ℝ, A.k b y e = r) (hβ : ∀ h n κ, A.β h n κ ≠ ⊤)
    (b : Fin 2) (h : Fin 8) (n : Fin 2048) : Proper (A.logit b h n) := by
  have hs : ∀ y, ∃ r : ℝ, A.score b h n y = r := fun y => sum_real _ fun d => by
    obtain ⟨r, hr⟩ := hq b (pos (.inl n)) (lane h d)
    obtain ⟨s, hs⟩ := hk b y (lane h d)
    exact ⟨r * s, by rw [hr, hs, EReal.coe_mul]⟩
  refine ⟨fun κ => ?_, .inr 0, ?_⟩
  · rcases κ with κ | κ
    · obtain ⟨r, hr⟩ := hs (pos (.inl κ))
      show A.score b h n (pos (.inl κ)) + A.β h n κ ≠ ⊤
      rw [hr]
      exact EReal.add_ne_top (EReal.coe_ne_top r) (hβ h n κ)
    · obtain ⟨r, hr⟩ := hs (pos (.inr κ))
      show A.score b h n (pos (.inr κ)) ≠ ⊤
      rw [hr]
      exact EReal.coe_ne_top r
  · obtain ⟨r, hr⟩ := hs (pos (.inr 0))
    show A.score b h n (pos (.inr 0)) ≠ ⊥
    rw [hr]
    exact EReal.coe_ne_bot r

end Cert.Attention

namespace Cert.KernelIdeal.Gen

open Idealize.ShloMosaic Cert.Attention

/-- The side conditions of the precondition. -/
theorem finiteFacts : Cert.Pre_finite.Facts where
  bitsLt_bf16_f32 := by decide
  bcast_S_S2x2304x512 := by decide
  bcast_S_S8x15x31 := by decide

variable (m : (ℓ : Loc nD τ sig) → Buf (Elt Ideal) ℓ) (c : Dev nD)

/-- Under the precondition the logits are proper. -/
theorem proper_of_finite (h : Cert.Pre_KernelIdeal_finite (hPre_finite := finiteFacts) m) (b : Fin 2) (hd : Fin 8) (n : Fin 2048) :
    Proper ((args m c (biases (arg3 m c))).logit b hd n) := by
  obtain ⟨h0, h1, h2⟩ := h c
  refine Args.proper (args m c (biases (arg3 m c))) (fun b y e => real_of_finite (x := arg0 m c (ix3 b y e)) (congrFun h0 (ix3 b y e)))
    (fun b y e => real_of_finite (x := arg1 m c (ix3 b y e)) (congrFun h1 (ix3 b y e))) (fun hd n κ => ?_) b hd n
  show biases (arg3 m c) hd n κ ≠ ⊤
  rcases biases_mem (arg3 m c) hd n κ with e | ⟨j, e⟩
  · rw [e]
    exact bot_ne_top
  · obtain ⟨r, hr⟩ := real_of_finite (x := arg3 m c j) (congrFun h2 j)
    rw [e]
    exact fun ht => EReal.coe_ne_top r (hr.symm.trans ht)

end Cert.KernelIdeal.Gen

end
-- ==== Proof.Tiles.lean ====
module

public import Idealize.ShloMosaic.Lib.Pipeline.ValueKit
public import Idealize.ShloMosaic.Lib.Pointwise.Tactic
public import Idealize.ShloMosaic.Lib.Pointwise.Contract

/-! # Sums over rows, a tile of rows at a time -/

@[expose] public section

noncomputable section

namespace Cert.Tiles

open Idealize.ShloMosaic

theorem zero2 : (![0, 0] : Fin 2 → Nat) = fun _ => 0 := funext fun a => by fin_cases a <;> rfl
theorem zero3 : (![0, 0, 0] : Fin 3 → Nat) = fun _ => 0 := funext fun a => by fin_cases a <;> rfl

/-- A function of the first `N` rows, continued by zero. -/
def extend {N : ℕ} (f : Fin N → EReal) (y : ℕ) : EReal := if h : y < N then f ⟨y, h⟩ else 0

/-- The sum over the first `n` rows. -/
def upto {N : ℕ} (f : Fin N → EReal) (n : ℕ) : EReal := ∑ y ∈ Finset.range n, extend f y

variable {N : ℕ} (f : Fin N → EReal)

/-- The first tile of `w` rows. -/
theorem upto_first (w : ℕ) (hw : w ≤ N) : ∑ y : Fin w, f ⟨y.val, by omega⟩ = upto f w := by
  rw [upto, Finset.sum_range]
  exact Finset.sum_congr rfl fun y _ => by rw [extend, dif_pos (by omega)]

/-- One more tile of `w` rows. -/
theorem upto_next (n w : ℕ) (hw : n + w ≤ N) : upto f n + ∑ y : Fin w, f ⟨n + y.val, by omega⟩ = upto f (n + w) := by
  rw [upto, upto, Finset.sum_range_add, Finset.sum_range (fun y => extend f (n + y))]
  exact congrArg _ (Finset.sum_congr rfl fun y _ => by rw [extend, dif_pos (by omega)])

/-- All the rows. -/
theorem upto_all : upto f N = ∑ y, f y := by
  rw [upto, Finset.sum_range]
  exact Finset.sum_congr rfl fun y _ => by rw [extend, dif_pos y.isLt]

end Cert.Tiles

end
-- ==== Proof.FfnIn.lean ====
module

public import proofs.«01_k».proof.Proof.Tiles
public import proofs.«01_k».proof.Proof.Gen.Kernel2Ideal.Frame
public import Idealize.ShloMosaic.Lib.Pointwise.Reshape

/-! # The gradient of the weights of gate and up: the kernel

Point `4 * q + k` of the grid adds, to the accumulator of block `q` of columns, the products of the rows `1024 * k … 1024 * k + 1023`. -/

@[expose] public section

noncomputable section

namespace Cert.Kernel2Ideal.Gen

open Idealize.ShloMosaic Cert.Tiles

section Cases

variable {F : FTy → Type} [FloatOps F] (c : Dev nD) (i : grid0.Coords)
  (a3 : Memref sig .tc .vmem S1024x1024 .bf16) (h3 : a3.IsWhole) (a4 : Memref sig .tc .vmem S1x1024x1408 .bf16) (h4 : a4.IsWhole)
  (a5 : Memref sig .tc .vmem S1x1024x1408 .bf16) (h5 : a5.IsWhole) (a6 : Memref sig .tc .vmem S1024x1408 .f32) (h6 : a6.IsWhole)
  (x : Vec F S1024x1024 .bf16) (y : Vec F S1x1024x1408 .bf16) (s : Vec F S1024x1408 .f32)

/-- The first tile of rows is added to zero. -/
theorem scratch_first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1408) zero2]
  simp only [View.readCov_unit_zero (S := S1024x1408) _ zero2, View.readAt_eq_ld, h3.read_unread, h4.read_unread, View.ld_unit_zero (S := S1024x1024) zero2,
    View.ld_unit_zero (S := S1x1024x1408) zero3]

/-- A later tile is added to what the scratch held. -/
theorem scratch_next (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1024) zero2,
    View.ld_unit_zero (S := S1x1024x1408) zero3, View.ld_unit_zero (S := S1024x1408) zero2]

/-- The last tile is added, and the sum is the output. -/
theorem out_last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero3]
  simp only [View.readCov_unit_zero (S := S1024x1408) _ zero2, View.readAt_eq_ld, h3.read_unread, h4.read_unread, h6.read_unread, View.ld_unit_zero (S := S1024x1024) zero2,
    View.ld_unit_zero (S := S1x1024x1408) zero3, View.ld_unit_zero (S := S1024x1408) zero2]

end Cases

/-! ## Over the extended reals -/

theorem zero_at (j : Fin 1024) (l : Fin 1408) : k0_pay1 (F := Ideal) (ix2 j l) = 0 := by
  unfold k0_pay1
  pointwise

theorem added_at (s : Vec Ideal S1024x1408 .f32) (x : Vec Ideal S1024x1024 .bf16) (y : Vec Ideal S1x1024x1408 .bf16) (j : Fin 1024) (l : Fin 1408) :
    k0_pay2 s x y (ix2 j l) = s (ix2 j l) + ∑ r : Fin 1024, x (ix2 r j) * y (ix3 0 r l) := by
  unfold k0_pay2
  pointwise

theorem out_at (s : Vec Ideal S1024x1408 .f32) (j : Fin 1024) (l : Fin 1408) : k0_pay3 s (ix3 0 j l) = s (ix2 j l) := by
  unfold k0_pay3
  pointwise

/-- The point of a block of columns and a tile of rows. -/
def pt (q k : Fin 4) : Fin cfg0.N := ⟨q.val * 4 + k.val, by rw [show cfg0.N = 16 from N_0]; omega⟩

theorem index0 : ∀ q k, (cfg0.win 0).index (pt q k) 0 = k.val ∧ (cfg0.win 0).index (pt q k) 1 = 0 := by decide +kernel
theorem index1 : ∀ q k, (cfg0.win 1).index (pt q k) 0 = q.val / 2 ∧ (cfg0.win 1).index (pt q k) 1 = k.val ∧ (cfg0.win 1).index (pt q k) 2 = q.val % 2 := by decide +kernel
theorem index2 : ∀ q k, (cfg0.win 2).index (pt q k) 0 = q.val ∧ (cfg0.win 2).index (pt q k) 1 = 0 ∧ (cfg0.win 2).index (pt q k) 2 = 0 := by decide +kernel

variable (m : (ℓ : Loc nD τ sig) → Buf (Elt Ideal) ℓ) (c : Dev nD)

/-- The arguments as launched: the normalised rows, and the gradients of gate and up. -/
abbrev arg0 : Vec Ideal S4096x1024 .bf16 := m ((c.tc : Thread nD τ).loc main_arg0)
abbrev arg1 : Vec Ideal S2x4096x2816 .bf16 := m ((c.tc : Thread nD τ).loc main_arg1)

/-- Which of gate and up, and which of its columns, column `l` of block `q` is. -/
def side (q : Fin 4) : Fin 2 := ⟨q.val / 2, by omega⟩
def column (q : Fin 4) (l : Fin 1408) : Fin 2816 := ⟨q.val % 2 * 1408 + l.val, by omega⟩

theorem rows_at (q k : Fin 4) (r : Fin 1024) (j : Fin 1024) : iblk m c 0 (pt q k) (ix2 r j) = arg0 m c (ix2 ⟨k.val * 1024 + r.val, by omega⟩ j) := by
  obtain ⟨h0, h1⟩ := index0 q k
  refine Eq.trans ?_ (congrFun (V_main_arg0 m c) _)
  unfold iblk
  blk_ext [h0, h1]

theorem grads_at (q k : Fin 4) (r : Fin 1024) (l : Fin 1408) :
    iblk m c 1 (pt q k) (ix3 0 r l) = arg1 m c (ix3 (side q) ⟨k.val * 1024 + r.val, by omega⟩ (column q l)) := by
  obtain ⟨h0, h1, h2⟩ := index1 q k
  refine Eq.trans ?_ (congrFun (V_main_arg1 m c) _)
  unfold iblk
  blk_ext [h0, h1, h2, side, column]

/-- A row's product. -/
def term (q : Fin 4) (j : Fin 1024) (l : Fin 1408) (y : Fin 4096) : EReal := arg0 m c (ix2 y j) * arg1 m c (ix3 (side q) y (column q l))

/-- What a point adds to what the scratch holds. -/
theorem step_at (q k : Fin 4) (s : Vec Ideal S1024x1408 .f32) (j : Fin 1024) (l : Fin 1408) :
    k0_pay2 s (iblk m c 0 (pt q k)) (iblk m c 1 (pt q k)) (ix2 j l) = s (ix2 j l) + ∑ r : Fin 1024, term m c q j l ⟨k.val * 1024 + r.val, by omega⟩ := by
  rw [added_at]
  exact congrArg _ (Finset.sum_congr rfl fun r _ => by rw [rows_at, grads_at]; rfl)

/-- After tile `k < 3` the scratch holds the sum over the rows so far. -/
theorem scratch_at (q : Fin 4) (j : Fin 1024) (l : Fin 1408) : ∀ (k : ℕ) (hk : k < 3),
    (outsAt0 m c (pt q ⟨k, by omega⟩).val (pt q ⟨k, by omega⟩).isLt).2 (ix2 j l) = upto (term m c q j l) ((k + 1) * 1024)
  | 0, hk => by
    rw [outsAt0_A m c (pt q ⟨0, by omega⟩) (by show (q.val * 4 + 0) % 4 = 0; omega) (by show ¬(q.val * 4 + 0) % 4 = 3; omega)]
    dsimp only
    rw [scratch_first, step_at, zero_at, zero_add]
    refine Eq.trans ?_ (upto_first (term m c q j l) 1024 (by omega))
    exact Finset.sum_congr rfl fun r _ => congrArg _ (Fin.ext (by show 0 * 1024 + r.val = r.val; omega))
  | k + 1, hk => by
    rw [outsAt0_B m c (pt q ⟨k + 1, by omega⟩) (by show ¬(q.val * 4 + (k + 1)) % 4 = 0; omega) (by show ¬(q.val * 4 + (k + 1)) % 4 = 3; omega)]
    dsimp only
    rw [scratch_next, step_at]
    refine Eq.trans (congrArg (· + _) (scratch_at q j l k (by omega))) ?_
    refine Eq.trans (upto_next (term m c q j l) ((k + 1) * 1024) 1024 (by omega)) ?_
    exact congrArg _ (by omega)

/-- After the last tile the output holds the sum over all the rows. -/
theorem block_at (q : Fin 4) (j : Fin 1024) (l : Fin 1408) :
    (outsAt0 m c (pt q 3).val (pt q 3).isLt).1 (ix3 0 j l) = ∑ y, term m c q j l y := by
  rw [outsAt0_C m c (pt q 3) (by show ¬(q.val * 4 + 3) % 4 = 0; omega) (by show (q.val * 4 + 3) % 4 = 3; omega)]
  dsimp only
  rw [out_last, out_at, step_at]
  refine Eq.trans (congrArg (· + _) (scratch_at m c q j l 2 (by omega))) ?_
  exact Eq.trans (upto_next (term m c q j l) 3072 1024 (by omega)) (upto_all _)

/-- The result. -/
theorem array (G : Vec Ideal S4x1024x1408 .bf16) (hG : ∀ q j l, G (ix3 q j l) = ∑ y, term m c q j l y) : (dats m 0 c).arrAt 2 cfg0.N = G := by
  refine (dats m 0 c).arrAt_eq_of_covers 2 G (by decide +kernel) fun t hf y => ?_
  have ht := (flush0_2 t).mp hf
  have hN : t.val < 16 := lt_of_lt_of_eq t.isLt (show cfg0.N = 16 from N_0)
  obtain ⟨q, rfl⟩ : ∃ q, t = pt q 3 := ⟨⟨t.val / 4, by omega⟩, Fin.ext (by show t.val = t.val / 4 * 4 + 3; omega)⟩
  obtain ⟨i, j, l, rfl⟩ : ∃ (i : Fin 1) (j : Fin 1024) (l : Fin 1408), y = ix3 i j l := ⟨y 0, y 1, y 2, by funext a; fin_cases a <;> rfl⟩
  obtain rfl : i = 0 := Subsingleton.elim _ _
  obtain ⟨h0, h1, h2⟩ := index2 q 3
  blk_simp
  rw [after0_2]
  refine (block_at m c q j l).trans ((hG q j l).symm.trans (congrArg G ?_))
  funext a
  refine Fin.ext ?_
  fin_cases a <;> simp [h0, h1, h2]

end Cert.Kernel2Ideal.Gen

end
-- ==== Proof.FfnInRef.lean ====
module

public import proofs.«01_k».proof.Proof.Gen.Reference2Ideal.Read
public import Idealize.ShloMosaic.Lib.Pointwise.Tactic
public import Idealize.ShloMosaic.Lib.Pointwise.Contract
public import Idealize.ShloMosaic.Lib.Pointwise.Reshape

/-! # The gradient of the weights of gate and up: the reference -/

@[expose] public section

noncomputable section

namespace Cert.Reference2Ideal.Read

open Idealize.ShloMosaic

variable (x0 : Vec Ideal S4096x1024 .bf16) (x1 : Vec Ideal S2x4096x2816 .bf16)

/-- An entry is the sum, over the rows, of a row's entry times the gradient of its gate or up. -/
theorem result_at (q : Fin 4) (j : Fin 1024) (l : Fin 1408) : val_main_v14 (F := Ideal) x0 x1 (ix3 q j l) =
    ∑ y : Fin 4096, x0 (ix2 y j) * x1 (ix3 ⟨q.val / 2, by omega⟩ y ⟨q.val % 2 * 1408 + l.val, by omega⟩) := by
  rw [val_main_v14_apply, val_main_v13_apply, val_main_v12_apply, val_main_v11_apply, val_main_v10_apply]
  refine Finset.sum_congr rfl fun y _ => ?_
  rw [val_main_v9_apply, val_main_v8_apply, mul_comm]
  refine congrArg₂ (fun a b : EReal => a * b) (congrArg x0 ?_) (congrArg x1 ?_)
  · funext a
    refine Fin.ext ?_
    fin_cases a <;> dsimp <;> omega
  · funext a
    refine Fin.ext ?_
    fin_cases a <;> dsimp <;> omega

end Cert.Reference2Ideal.Read

end
-- ==== Proof.InProj.lean ====
module

public import proofs.«01_k».proof.Proof.Tiles
public import proofs.«01_k».proof.Proof.Gen.Kernel3Ideal.Frame

/-! # The gradient of the in-projection's weights: the kernel

Point `k` of the grid adds the products of the rows `512 * k … 512 * k + 511`. -/

@[expose] public section

noncomputable section

namespace Cert.Kernel3Ideal.Gen

open Idealize.ShloMosaic Cert.Tiles

section Cases

variable {F : FTy → Type} [FloatOps F] (c : Dev nD) (i : grid0.Coords)
  (a3 : Memref sig .tc .vmem S512x3712 .bf16) (h3 : a3.IsWhole) (a4 : Memref sig .tc .vmem S512x1024 .bf16) (h4 : a4.IsWhole)
  (a5 : Memref sig .tc .vmem S3712x1024 .bf16) (h5 : a5.IsWhole) (a6 : Memref sig .tc .vmem S3712x1024 .f32) (h6 : a6.IsWhole)
  (x : Vec F S512x3712 .bf16) (y : Vec F S512x1024 .bf16) (s : Vec F S3712x1024 .f32)

/-- The first tile of rows is added to zero. -/
theorem scratch_first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S3712x1024) zero2]
  simp only [View.readCov_unit_zero (S := S3712x1024) _ zero2, View.readAt_eq_ld, h3.read_unread, h4.read_unread, View.ld_unit_zero (S := S512x3712) zero2, View.ld_unit_zero (S := S512x1024) zero2]

/-- A later tile is added to what the scratch held. -/
theorem scratch_next (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S512x3712) zero2, View.ld_unit_zero (S := S512x1024) zero2, View.ld_unit_zero (S := S3712x1024) zero2]

/-- The last tile is added, and the sum is the output. -/
theorem out_last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readCov_unit_zero (S := S3712x1024) _ zero2, View.readAt_eq_ld, h3.read_unread, h4.read_unread, h6.read_unread, View.ld_unit_zero (S := S512x3712) zero2, View.ld_unit_zero (S := S512x1024) zero2, View.ld_unit_zero (S := S3712x1024) zero2]

end Cases

/-! ## Over the extended reals -/

theorem zero_at (j : Fin 3712) (l : Fin 1024) : k0_pay1 (F := Ideal) (ix2 j l) = 0 := by
  unfold k0_pay1
  pointwise

theorem added_at (s : Vec Ideal S3712x1024 .f32) (x : Vec Ideal S512x3712 .bf16) (y : Vec Ideal S512x1024 .bf16) (j : Fin 3712) (l : Fin 1024) :
    k0_pay2 s x y (ix2 j l) = s (ix2 j l) + ∑ r : Fin 512, x (ix2 r j) * y (ix2 r l) := by
  unfold k0_pay2
  pointwise

theorem out_at (s : Vec Ideal S3712x1024 .f32) (j : Fin 3712) (l : Fin 1024) : k0_pay3 s (ix2 j l) = s (ix2 j l) := by
  unfold k0_pay3
  pointwise

/-- The point of a tile of rows. -/
def pt (k : Fin 9) : Fin cfg0.N := ⟨k.val, by rw [show cfg0.N = 9 from N_0]; omega⟩

theorem index0 : ∀ k, (cfg0.win 0).index (pt k) 0 = k.val ∧ (cfg0.win 0).index (pt k) 1 = 0 := by decide +kernel
theorem index1 : ∀ k, (cfg0.win 1).index (pt k) 0 = k.val ∧ (cfg0.win 1).index (pt k) 1 = 0 := by decide +kernel
theorem index2 : ∀ k, (cfg0.win 2).index (pt k) 0 = 0 ∧ (cfg0.win 2).index (pt k) 1 = 0 := by decide +kernel

variable (m : (ℓ : Loc nD τ sig) → Buf (Elt Ideal) ℓ) (c : Dev nD)

/-- The arguments as launched: the gradient of the projection's output, and the rows it took. -/
abbrev arg0 : Vec Ideal S4608x3712 .bf16 := m ((c.tc : Thread nD τ).loc main_arg0)
abbrev arg1 : Vec Ideal S4608x1024 .bf16 := m ((c.tc : Thread nD τ).loc main_arg1)

theorem grads_at (k : Fin 9) (r : Fin 512) (j : Fin 3712) : iblk m c 0 (pt k) (ix2 r j) = arg0 m c (ix2 ⟨k.val * 512 + r.val, by omega⟩ j) := by
  obtain ⟨h0, h1⟩ := index0 k
  refine Eq.trans ?_ (congrFun (V_main_arg0 m c) _)
  unfold iblk
  blk_ext [h0, h1]

theorem rows_at (k : Fin 9) (r : Fin 512) (l : Fin 1024) : iblk m c 1 (pt k) (ix2 r l) = arg1 m c (ix2 ⟨k.val * 512 + r.val, by omega⟩ l) := by
  obtain ⟨h0, h1⟩ := index1 k
  refine Eq.trans ?_ (congrFun (V_main_arg1 m c) _)
  unfold iblk
  blk_ext [h0, h1]

/-- A row's product. -/
def term (j : Fin 3712) (l : Fin 1024) (y : Fin 4608) : EReal := arg0 m c (ix2 y j) * arg1 m c (ix2 y l)

/-- What a point adds to what the scratch holds. -/
theorem step_at (k : Fin 9) (s : Vec Ideal S3712x1024 .f32) (j : Fin 3712) (l : Fin 1024) :
    k0_pay2 s (iblk m c 0 (pt k)) (iblk m c 1 (pt k)) (ix2 j l) = s (ix2 j l) + ∑ r : Fin 512, term m c j l ⟨k.val * 512 + r.val, by omega⟩ := by
  rw [added_at]
  exact congrArg _ (Finset.sum_congr rfl fun r _ => by rw [grads_at, rows_at]; rfl)

/-- After tile `k < 8` the scratch holds the sum over the rows so far. -/
theorem scratch_at (j : Fin 3712) (l : Fin 1024) : ∀ (k : ℕ) (hk : k < 8),
    (outsAt0 m c (pt ⟨k, by omega⟩).val (pt ⟨k, by omega⟩).isLt).2 (ix2 j l) = upto (term m c j l) ((k + 1) * 512)
  | 0, hk => by
    rw [outsAt0_A m c (pt ⟨0, by omega⟩) rfl (by show ¬0 % 9 = 8; omega)]
    dsimp only
    rw [scratch_first, step_at, zero_at, zero_add]
    refine Eq.trans ?_ (upto_first (term m c j l) 512 (by omega))
    exact Finset.sum_congr rfl fun r _ => congrArg _ (Fin.ext (by show 0 * 512 + r.val = r.val; omega))
  | k + 1, hk => by
    rw [outsAt0_B m c (pt ⟨k + 1, by omega⟩) (by show ¬(k + 1) % 9 = 0; omega) (by show ¬(k + 1) % 9 = 8; omega)]
    dsimp only
    rw [scratch_next, step_at]
    refine Eq.trans (congrArg (· + _) (scratch_at j l k (by omega))) ?_
    refine Eq.trans (upto_next (term m c j l) ((k + 1) * 512) 512 (by omega)) ?_
    exact congrArg _ (by omega)

/-- What the scratch holds depends on the point alone. -/
theorem same {n n' : ℕ} (h : n < cfg0.N) (h' : n' < cfg0.N) (e : n = n') (j : Fin 3712) (l : Fin 1024) :
    (outsAt0 m c n h).2 (ix2 j l) = (outsAt0 m c n' h').2 (ix2 j l) := by
  subst e
  rfl

/-- After the last tile the output holds the sum over all the rows. -/
theorem block_at (j : Fin 3712) (l : Fin 1024) : (outsAt0 m c (pt 8).val (pt 8).isLt).1 (ix2 j l) = ∑ y, term m c j l y := by
  rw [outsAt0_C m c (pt 8) (by show ¬8 % 9 = 0; omega) rfl]
  dsimp only
  rw [out_last, out_at, step_at]
  have e : (pt 8).val - 1 = (pt ⟨7, by omega⟩).val := by decide +kernel
  rw [same m c _ (pt ⟨7, by omega⟩).isLt e j l, scratch_at m c j l 7 (by omega)]
  exact Eq.trans (upto_next (term m c j l) 4096 512 (by omega)) (upto_all _)

/-- The result. -/
theorem array (G : Vec Ideal S3712x1024 .bf16) (hG : ∀ j l, G (ix2 j l) = ∑ y, term m c j l y) : (dats m 0 c).arrAt 2 cfg0.N = G := by
  refine (dats m 0 c).arrAt_eq_of_covers 2 G (by decide +kernel) fun t hf y => ?_
  have ht := (flush0_2 t).mp hf
  have hN : t.val < 9 := lt_of_lt_of_eq t.isLt (show cfg0.N = 9 from N_0)
  obtain rfl : t = pt 8 := Fin.ext (by show t.val = 8; omega)
  obtain ⟨j, l, rfl⟩ : ∃ (j : Fin 3712) (l : Fin 1024), y = ix2 j l := ⟨y 0, y 1, by funext a; fin_cases a <;> rfl⟩
  obtain ⟨h0, h1⟩ := index2 8
  blk_simp
  rw [after0_2]
  refine (block_at m c j l).trans ((hG j l).symm.trans (congrArg G ?_))
  funext a
  refine Fin.ext ?_
  fin_cases a <;> simp [h0, h1]

end Cert.Kernel3Ideal.Gen

end
-- ==== Proof.InProjRef.lean ====
module

public import proofs.«01_k».proof.Proof.Gen.Reference3Ideal.Read
public import Idealize.ShloMosaic.Lib.Pointwise.Tactic

/-! # The gradient of the in-projection's weights: the reference -/

@[expose] public section

noncomputable section

namespace Cert.Reference3Ideal.Read

open Idealize.ShloMosaic

variable (x0 : Vec Ideal S4608x3712 .bf16) (x1 : Vec Ideal S4608x1024 .bf16)

/-- An entry is the sum, over the rows, of the gradient of the row's output times the row's entry. -/
theorem result_at (j : Fin 3712) (l : Fin 1024) : val_main_v8 (F := Ideal) x0 x1 (ix2 j l) = ∑ y : Fin 4608, x0 (ix2 y j) * x1 (ix2 y l) := by
  rw [val_main_v8_apply, val_main_v7_apply, val_main_v6_apply, val_main_v5_apply]
  refine Finset.sum_congr rfl fun y _ => congrArg₂ (fun a b : EReal => a * b) (congrArg x0 ?_) (congrArg x1 ?_)
  · funext a
    refine Fin.ext ?_
    fin_cases a <;> rfl
  · funext a
    refine Fin.ext ?_
    fin_cases a <;> rfl

end Cert.Reference3Ideal.Read

end
-- ==== Proof.FfnOut.lean ====
module

public import proofs.«01_k».proof.Proof.Tiles
public import proofs.«01_k».proof.Proof.Gen.Kernel4Ideal.Frame

/-! # The gradient of the weights of the feed-forward's second product: the kernel

Point `8 * q + k` of the grid adds, to the accumulator of block `q` of the result's rows, the products of the rows `512 * k … 512 * k + 511`. -/

@[expose] public section

noncomputable section

namespace Cert.Kernel4Ideal.Gen

open Idealize.ShloMosaic Cert.Tiles

section Cases

variable {F : FTy → Type} [FloatOps F] (c : Dev nD) (i : grid0.Coords)
  (a3 : Memref sig .tc .vmem S512x1408 .bf16) (h3 : a3.IsWhole) (a4 : Memref sig .tc .vmem S512x1024 .bf16) (h4 : a4.IsWhole)
  (a5 : Memref sig .tc .vmem S1408x1024 .bf16) (h5 : a5.IsWhole) (a6 : Memref sig .tc .vmem S1408x1024 .f32) (h6 : a6.IsWhole)
  (x : Vec F S512x1408 .bf16) (y : Vec F S512x1024 .bf16) (s : Vec F S1408x1024 .f32)

/-- The first tile of rows is added to zero. -/
theorem scratch_first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) zero2]
  simp only [View.readCov_unit_zero (S := S1408x1024) _ zero2, View.readAt_eq_ld, h3.read_unread, h4.read_unread, View.ld_unit_zero (S := S512x1408) zero2, View.ld_unit_zero (S := S512x1024) zero2]

/-- A later tile is added to what the scratch held. -/
theorem scratch_next (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S512x1408) zero2, View.ld_unit_zero (S := S512x1024) zero2, View.ld_unit_zero (S := S1408x1024) zero2]

/-- The last tile is added, and the sum is the output. -/
theorem out_last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readCov_unit_zero (S := S1408x1024) _ zero2, View.readAt_eq_ld, h3.read_unread, h4.read_unread, h6.read_unread, View.ld_unit_zero (S := S512x1408) zero2, View.ld_unit_zero (S := S512x1024) zero2, View.ld_unit_zero (S := S1408x1024) zero2]

end Cases

/-! ## Over the extended reals -/

theorem zero_at (j : Fin 1408) (l : Fin 1024) : k0_pay1 (F := Ideal) (ix2 j l) = 0 := by
  unfold k0_pay1
  pointwise

theorem added_at (s : Vec Ideal S1408x1024 .f32) (x : Vec Ideal S512x1408 .bf16) (y : Vec Ideal S512x1024 .bf16) (j : Fin 1408) (l : Fin 1024) :
    k0_pay2 s x y (ix2 j l) = s (ix2 j l) + ∑ r : Fin 512, x (ix2 r j) * y (ix2 r l) := by
  unfold k0_pay2
  pointwise

theorem out_at (s : Vec Ideal S1408x1024 .f32) (j : Fin 1408) (l : Fin 1024) : k0_pay3 s (ix2 j l) = s (ix2 j l) := by
  unfold k0_pay3
  pointwise

/-- The point of a block of the result's rows and a tile of rows. -/
def pt (q : Fin 2) (k : Fin 8) : Fin cfg0.N := ⟨q.val * 8 + k.val, by rw [show cfg0.N = 16 from N_0]; omega⟩

theorem index0 : ∀ q k, (cfg0.win 0).index (pt q k) 0 = k.val ∧ (cfg0.win 0).index (pt q k) 1 = q.val := by decide +kernel
theorem index1 : ∀ q k, (cfg0.win 1).index (pt q k) 0 = k.val ∧ (cfg0.win 1).index (pt q k) 1 = 0 := by decide +kernel
theorem index2 : ∀ q k, (cfg0.win 2).index (pt q k) 0 = q.val ∧ (cfg0.win 2).index (pt q k) 1 = 0 := by decide +kernel

variable (m : (ℓ : Loc nD τ sig) → Buf (Elt Ideal) ℓ) (c : Dev nD)

/-- The arguments as launched: the rows the product took, and the gradient of its output, with the rows of another gradient after it. -/
abbrev arg0 : Vec Ideal S4096x2816 .bf16 := m ((c.tc : Thread nD τ).loc main_arg0)
abbrev arg1 : Vec Ideal S4608x1024 .bf16 := m ((c.tc : Thread nD τ).loc main_arg1)

/-- Row `j` of block `q`. -/
def place (q : Fin 2) (j : Fin 1408) : Fin 2816 := ⟨q.val * 1408 + j.val, by omega⟩

theorem rows_at (q : Fin 2) (k : Fin 8) (r : Fin 512) (j : Fin 1408) :
    iblk m c 0 (pt q k) (ix2 r j) = arg0 m c (ix2 ⟨k.val * 512 + r.val, by omega⟩ (place q j)) := by
  obtain ⟨h0, h1⟩ := index0 q k
  refine Eq.trans ?_ (congrFun (V_main_arg0 m c) _)
  unfold iblk
  blk_ext [h0, h1, place]

theorem grads_at (q : Fin 2) (k : Fin 8) (r : Fin 512) (l : Fin 1024) :
    iblk m c 1 (pt q k) (ix2 r l) = arg1 m c (ix2 ⟨k.val * 512 + r.val, by omega⟩ l) := by
  obtain ⟨h0, h1⟩ := index1 q k
  refine Eq.trans ?_ (congrFun (V_main_arg1 m c) _)
  unfold iblk
  blk_ext [h0, h1]

/-- A row's product. -/
def term (i : Fin 2816) (l : Fin 1024) (y : Fin 4096) : EReal := arg0 m c (ix2 y i) * arg1 m c (ix2 ⟨y.val, by omega⟩ l)

/-- What a point adds to what the scratch holds. -/
theorem step_at (q : Fin 2) (k : Fin 8) (s : Vec Ideal S1408x1024 .f32) (j : Fin 1408) (l : Fin 1024) :
    k0_pay2 s (iblk m c 0 (pt q k)) (iblk m c 1 (pt q k)) (ix2 j l) = s (ix2 j l) + ∑ r : Fin 512, term m c (place q j) l ⟨k.val * 512 + r.val, by omega⟩ := by
  rw [added_at]
  exact congrArg _ (Finset.sum_congr rfl fun r _ => by rw [rows_at, grads_at]; rfl)

/-- After tile `k < 7` the scratch holds the sum over the rows so far. -/
theorem scratch_at (q : Fin 2) (j : Fin 1408) (l : Fin 1024) : ∀ (k : ℕ) (hk : k < 7),
    (outsAt0 m c (pt q ⟨k, by omega⟩).val (pt q ⟨k, by omega⟩).isLt).2 (ix2 j l) = upto (term m c (place q j) l) ((k + 1) * 512)
  | 0, hk => by
    rw [outsAt0_A m c (pt q ⟨0, by omega⟩) (by show (q.val * 8 + 0) % 8 = 0; omega) (by show ¬(q.val * 8 + 0) % 8 = 7; omega)]
    dsimp only
    rw [scratch_first, step_at, zero_at, zero_add]
    refine Eq.trans ?_ (upto_first (term m c (place q j) l) 512 (by omega))
    exact Finset.sum_congr rfl fun r _ => congrArg _ (Fin.ext (by show 0 * 512 + r.val = r.val; omega))
  | k + 1, hk => by
    rw [outsAt0_B m c (pt q ⟨k + 1, by omega⟩) (by show ¬(q.val * 8 + (k + 1)) % 8 = 0; omega) (by show ¬(q.val * 8 + (k + 1)) % 8 = 7; omega)]
    dsimp only
    rw [scratch_next, step_at]
    refine Eq.trans (congrArg (· + _) (scratch_at q j l k (by omega))) ?_
    refine Eq.trans (upto_next (term m c (place q j) l) ((k + 1) * 512) 512 (by omega)) ?_
    exact congrArg _ (by omega)

/-- After the last tile the output holds the sum over all the rows. -/
theorem block_at (q : Fin 2) (j : Fin 1408) (l : Fin 1024) :
    (outsAt0 m c (pt q 7).val (pt q 7).isLt).1 (ix2 j l) = ∑ y, term m c (place q j) l y := by
  rw [outsAt0_C m c (pt q 7) (by show ¬(q.val * 8 + 7) % 8 = 0; omega) (by show (q.val * 8 + 7) % 8 = 7; omega)]
  dsimp only
  rw [out_last, out_at, step_at]
  refine Eq.trans (congrArg (· + _) (scratch_at m c q j l 6 (by omega))) ?_
  exact Eq.trans (upto_next (term m c (place q j) l) 3584 512 (by omega)) (upto_all _)

/-- The result. -/
theorem array (G : Vec Ideal S2816x1024 .bf16) (hG : ∀ i l, G (ix2 i l) = ∑ y, term m c i l y) : (dats m 0 c).arrAt 2 cfg0.N = G := by
  refine (dats m 0 c).arrAt_eq_of_covers 2 G (by decide +kernel) fun t hf y => ?_
  have ht := (flush0_2 t).mp hf
  have hN : t.val < 16 := lt_of_lt_of_eq t.isLt (show cfg0.N = 16 from N_0)
  obtain ⟨q, rfl⟩ : ∃ q, t = pt q 7 := ⟨⟨t.val / 8, by omega⟩, Fin.ext (by show t.val = t.val / 8 * 8 + 7; omega)⟩
  obtain ⟨j, l, rfl⟩ : ∃ (j : Fin 1408) (l : Fin 1024), y = ix2 j l := ⟨y 0, y 1, by funext a; fin_cases a <;> rfl⟩
  obtain ⟨h0, h1⟩ := index2 q 7
  blk_simp
  rw [after0_2]
  refine (block_at m c q j l).trans ((hG (place q j) l).symm.trans (congrArg G ?_))
  funext a
  refine Fin.ext ?_
  fin_cases a <;> simp [h0, h1, place]

end Cert.Kernel4Ideal.Gen

end
-- ==== Proof.FfnOutRef.lean ====
module

public import proofs.«01_k».proof.Proof.Gen.Reference4Ideal.Read
public import Idealize.ShloMosaic.Lib.Pointwise.Tactic

/-! # The gradient of the weights of the feed-forward's second product: the reference -/

@[expose] public section

noncomputable section

namespace Cert.Reference4Ideal.Read

open Idealize.ShloMosaic

variable (x0 : Vec Ideal S4096x2816 .bf16) (x1 : Vec Ideal S4608x1024 .bf16)

/-- An entry is the sum, over the rows, of a row's entry times the gradient of its output. -/
theorem result_at (i : Fin 2816) (l : Fin 1024) : val_main_v7 (F := Ideal) x0 x1 (ix2 i l) = ∑ y : Fin 4096, x0 (ix2 y i) * x1 (ix2 ⟨y.val, by omega⟩ l) := by
  rw [val_main_v7_apply, val_main_v6_apply, val_main_v5_apply]
  refine Finset.sum_congr rfl fun y _ => ?_
  rw [val_main_v4_apply, val_main_v3_apply, mul_comm]
  refine congrArg₂ (fun a b : EReal => a * b) (congrArg x0 ?_) (congrArg x1 ?_)
  · funext a
    refine Fin.ext ?_
    fin_cases a <;> rfl
  · funext a
    refine Fin.ext ?_
    fin_cases a <;> simp

end Cert.Reference4Ideal.Read

end
-- ==== Proof.OutProj.lean ====
module

public import proofs.«01_k».proof.Proof.Tiles
public import proofs.«01_k».proof.Proof.Gen.Kernel5Ideal.Frame

/-! # The gradient of the out-projection's weights: the kernel

Point `k` of the grid adds the products of the rows `1024 * k … 1024 * k + 1023`. -/

@[expose] public section

noncomputable section

namespace Cert.Kernel5Ideal.Gen

open Idealize.ShloMosaic Cert.Tiles

section Cases

variable {F : FTy → Type} [FloatOps F] (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1024x1024 .bf16) (s : Vec F S1024x1024 .f32)

/-- The first tile of rows is added to zero. -/
theorem scratch_first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zero2]
  simp only [View.readCov_unit_zero (S := S1024x1024) _ zero2, View.readAt_eq_ld, h3.read_unread, h4.read_unread, View.ld_unit_zero (S := S1024x1024) zero2]

/-- A later tile is added to what the scratch held. -/
theorem scratch_next (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1024) zero2]

/-- The last tile is added, and the sum is the output. -/
theorem out_last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readCov_unit_zero (S := S1024x1024) _ zero2, View.readAt_eq_ld, h3.read_unread, h4.read_unread, h6.read_unread, View.ld_unit_zero (S := S1024x1024) zero2]

end Cases

/-! ## Over the extended reals -/

theorem zero_at (j : Fin 1024) (l : Fin 1024) : k0_pay1 (F := Ideal) (ix2 j l) = 0 := by
  unfold k0_pay1
  pointwise

theorem added_at (s : Vec Ideal S1024x1024 .f32) (x : Vec Ideal S1024x1024 .bf16) (y : Vec Ideal S1024x1024 .bf16) (j : Fin 1024) (l : Fin 1024) :
    k0_pay2 s x y (ix2 j l) = s (ix2 j l) + ∑ r : Fin 1024, x (ix2 r j) * y (ix2 r l) := by
  unfold k0_pay2
  pointwise

theorem out_at (s : Vec Ideal S1024x1024 .f32) (j : Fin 1024) (l : Fin 1024) : k0_pay3 s (ix2 j l) = s (ix2 j l) := by
  unfold k0_pay3
  pointwise

/-- The point of a tile of rows. -/
def pt (k : Fin 4) : Fin cfg0.N := ⟨k.val, by rw [show cfg0.N = 4 from N_0]; omega⟩

theorem index0 : ∀ k, (cfg0.win 0).index (pt k) 0 = k.val ∧ (cfg0.win 0).index (pt k) 1 = 0 := by decide +kernel
theorem index1 : ∀ k, (cfg0.win 1).index (pt k) 0 = k.val ∧ (cfg0.win 1).index (pt k) 1 = 0 := by decide +kernel
theorem index2 : ∀ k, (cfg0.win 2).index (pt k) 0 = 0 ∧ (cfg0.win 2).index (pt k) 1 = 0 := by decide +kernel

variable (m : (ℓ : Loc nD τ sig) → Buf (Elt Ideal) ℓ) (c : Dev nD)

/-- The arguments as launched: the rows the projection took, and the gradient of its output. -/
abbrev arg0 : Vec Ideal S4096x1024 .bf16 := m ((c.tc : Thread nD τ).loc main_arg0)
abbrev arg1 : Vec Ideal S4096x1024 .bf16 := m ((c.tc : Thread nD τ).loc main_arg1)

theorem rows_at (k : Fin 4) (r : Fin 1024) (j : Fin 1024) : iblk m c 0 (pt k) (ix2 r j) = arg0 m c (ix2 ⟨k.val * 1024 + r.val, by omega⟩ j) := by
  obtain ⟨h0, h1⟩ := index0 k
  refine Eq.trans ?_ (congrFun (V_main_arg0 m c) _)
  unfold iblk
  blk_ext [h0, h1]

theorem grads_at (k : Fin 4) (r : Fin 1024) (l : Fin 1024) : iblk m c 1 (pt k) (ix2 r l) = arg1 m c (ix2 ⟨k.val * 1024 + r.val, by omega⟩ l) := by
  obtain ⟨h0, h1⟩ := index1 k
  refine Eq.trans ?_ (congrFun (V_main_arg1 m c) _)
  unfold iblk
  blk_ext [h0, h1]

/-- A row's product. -/
def term (j : Fin 1024) (l : Fin 1024) (y : Fin 4096) : EReal := arg0 m c (ix2 y j) * arg1 m c (ix2 y l)

/-- What a point adds to what the scratch holds. -/
theorem step_at (k : Fin 4) (s : Vec Ideal S1024x1024 .f32) (j : Fin 1024) (l : Fin 1024) :
    k0_pay2 s (iblk m c 0 (pt k)) (iblk m c 1 (pt k)) (ix2 j l) = s (ix2 j l) + ∑ r : Fin 1024, term m c j l ⟨k.val * 1024 + r.val, by omega⟩ := by
  rw [added_at]
  exact congrArg _ (Finset.sum_congr rfl fun r _ => by rw [rows_at, grads_at]; rfl)

/-- After tile `k < 3` the scratch holds the sum over the rows so far. -/
theorem scratch_at (j : Fin 1024) (l : Fin 1024) : ∀ (k : ℕ) (hk : k < 3),
    (outsAt0 m c (pt ⟨k, by omega⟩).val (pt ⟨k, by omega⟩).isLt).2 (ix2 j l) = upto (term m c j l) ((k + 1) * 1024)
  | 0, hk => by
    rw [outsAt0_A m c (pt ⟨0, by omega⟩) rfl (by show ¬0 % 4 = 3; omega)]
    dsimp only
    rw [scratch_first, step_at, zero_at, zero_add]
    refine Eq.trans ?_ (upto_first (term m c j l) 1024 (by omega))
    exact Finset.sum_congr rfl fun r _ => congrArg _ (Fin.ext (by show 0 * 1024 + r.val = r.val; omega))
  | k + 1, hk => by
    rw [outsAt0_B m c (pt ⟨k + 1, by omega⟩) (by show ¬(k + 1) % 4 = 0; omega) (by show ¬(k + 1) % 4 = 3; omega)]
    dsimp only
    rw [scratch_next, step_at]
    refine Eq.trans (congrArg (· + _) (scratch_at j l k (by omega))) ?_
    refine Eq.trans (upto_next (term m c j l) ((k + 1) * 1024) 1024 (by omega)) ?_
    exact congrArg _ (by omega)

/-- What the scratch holds depends on the point alone. -/
theorem same {n n' : ℕ} (h : n < cfg0.N) (h' : n' < cfg0.N) (e : n = n') (j : Fin 1024) (l : Fin 1024) :
    (outsAt0 m c n h).2 (ix2 j l) = (outsAt0 m c n' h').2 (ix2 j l) := by
  subst e
  rfl

/-- After the last tile the output holds the sum over all the rows. -/
theorem block_at (j : Fin 1024) (l : Fin 1024) : (outsAt0 m c (pt 3).val (pt 3).isLt).1 (ix2 j l) = ∑ y, term m c j l y := by
  rw [outsAt0_C m c (pt 3) (by show ¬3 % 4 = 0; omega) rfl]
  dsimp only
  rw [out_last, out_at, step_at]
  have e : (pt 3).val - 1 = (pt ⟨2, by omega⟩).val := by decide +kernel
  rw [same m c _ (pt ⟨2, by omega⟩).isLt e j l, scratch_at m c j l 2 (by omega)]
  exact Eq.trans (upto_next (term m c j l) 3072 1024 (by omega)) (upto_all _)

/-- The result. -/
theorem array (G : Vec Ideal S1024x1024 .bf16) (hG : ∀ j l, G (ix2 j l) = ∑ y, term m c j l y) : (dats m 0 c).arrAt 2 cfg0.N = G := by
  refine (dats m 0 c).arrAt_eq_of_covers 2 G (by decide +kernel) fun t hf y => ?_
  have ht := (flush0_2 t).mp hf
  have hN : t.val < 4 := lt_of_lt_of_eq t.isLt (show cfg0.N = 4 from N_0)
  obtain rfl : t = pt 3 := Fin.ext (by show t.val = 3; omega)
  obtain ⟨j, l, rfl⟩ : ∃ (j : Fin 1024) (l : Fin 1024), y = ix2 j l := ⟨y 0, y 1, by funext a; fin_cases a <;> rfl⟩
  obtain ⟨h0, h1⟩ := index2 3
  blk_simp
  rw [after0_2]
  refine (block_at m c j l).trans ((hG j l).symm.trans (congrArg G ?_))
  funext a
  refine Fin.ext ?_
  fin_cases a <;> simp [h0, h1]

end Cert.Kernel5Ideal.Gen

end
-- ==== Proof.OutProjRef.lean ====
module

public import proofs.«01_k».proof.Proof.Gen.Reference5Ideal.Read
public import Idealize.ShloMosaic.Lib.Pointwise.Tactic

/-! # The gradient of the out-projection's weights: the reference -/

@[expose] public section

noncomputable section

namespace Cert.Reference5Ideal.Read

open Idealize.ShloMosaic

variable (x0 : Vec Ideal S4096x1024 .bf16) (x1 : Vec Ideal S4096x1024 .bf16)

/-- An entry is the sum, over the rows, of a row's entry times the gradient of its output. -/
theorem result_at (j l : Fin 1024) : val_main_v6 (F := Ideal) x0 x1 (ix2 j l) = ∑ y : Fin 4096, x0 (ix2 y j) * x1 (ix2 y l) := by
  rw [val_main_v6_apply, val_main_v5_apply, val_main_v4_apply]
  refine Finset.sum_congr rfl fun y _ => ?_
  rw [mul_comm]
  refine congrArg₂ (fun a b : EReal => a * b) (congrArg x0 ?_) (congrArg x1 ?_)
  · funext a
    refine Fin.ext ?_
    fin_cases a <;> rfl
  · funext a
    refine Fin.ext ?_
    fin_cases a <;> rfl

end Cert.Reference5Ideal.Read

end
-- ==== Proof.Products.lean ====
module

public import proofs.«01_k».proof.Defs
public import proofs.«01_k».proof.Proof.FfnIn
public import proofs.«01_k».proof.Proof.FfnInRef
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Reference2Ideal.Run
public import proofs.«01_k».proof.Proof.InProj
public import proofs.«01_k».proof.Proof.InProjRef
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Reference3Ideal.Run
public import proofs.«01_k».proof.Proof.FfnOut
public import proofs.«01_k».proof.Proof.FfnOutRef
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Reference4Ideal.Run
public import proofs.«01_k».proof.Proof.OutProj
public import proofs.«01_k».proof.Proof.OutProjRef
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Reference5Ideal.Run
public import Idealize.ShloMosaic.Adequacy
public import Idealize.ShloMosaic.Init

/-! # The weights' gradients: the claims -/

@[expose] public section

noncomputable section

namespace Cert.Proof

open Idealize.ShloMosaic Idealize.SL.Sem

theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The gradient of the weights of gate and up is the reference's. -/
theorem algebraic2 : Cert.algebraic_Kernel2Ideal_Reference2Ideal := by
  intro m ρ m' ρ' _ hagree
  refine ⟨fun c => Cert.Reference2Ideal.Read.val_main_v14 (F := Ideal) (Cert.Kernel2Ideal.Gen.arg0 m c) (Cert.Kernel2Ideal.Gen.arg1 m c), ?_, ?_⟩
  · exact (θ_run Cert.Kernel2Ideal.defs _ _).mono (fun r h c => ⟨((h.1 c).1 2).trans (Cert.Kernel2Ideal.Gen.array m c _ fun q j l => Cert.Reference2Ideal.Read.result_at _ _ q j l), h.2 c⟩)
      (θ_run_and (Cert.Kernel2Ideal.Gen.run_main (F := Ideal) m ρ) (Cert.Kernel2Ideal.Gen.unchanged (F := Ideal) m ρ))
  · refine (θ_run Cert.Reference2Ideal.defs _ _).mono (fun r h c => ?_) (Cert.Reference2Ideal.Value.run (F := Ideal) m' ρ')
    obtain ⟨e0, e1⟩ := hagree c
    exact ⟨(h c).1.trans ((Cert.Reference2Ideal.Read.val_main_v14_eq (F := Ideal) _ _).trans (by rw [e0, e1])), (h c).2⟩

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The gradient of the in-projection's weights is the reference's. -/
theorem algebraic3 : Cert.algebraic_Kernel3Ideal_Reference3Ideal := by
  intro m ρ m' ρ' _ hagree
  refine ⟨fun c => Cert.Reference3Ideal.Read.val_main_v8 (F := Ideal) (Cert.Kernel3Ideal.Gen.arg0 m c) (Cert.Kernel3Ideal.Gen.arg1 m c), ?_, ?_⟩
  · exact (θ_run Cert.Kernel3Ideal.defs _ _).mono (fun r h c => ⟨((h.1 c).1 2).trans (Cert.Kernel3Ideal.Gen.array m c _ fun j l => Cert.Reference3Ideal.Read.result_at _ _ j l), h.2 c⟩)
      (θ_run_and (Cert.Kernel3Ideal.Gen.run_main (F := Ideal) m ρ) (Cert.Kernel3Ideal.Gen.unchanged (F := Ideal) m ρ))
  · refine (θ_run Cert.Reference3Ideal.defs _ _).mono (fun r h c => ?_) (Cert.Reference3Ideal.Value.run (F := Ideal) m' ρ')
    obtain ⟨e0, e1⟩ := hagree c
    exact ⟨(h c).1.trans ((Cert.Reference3Ideal.Read.val_main_v8_eq (F := Ideal) _ _).trans (by rw [e0, e1])), (h c).2⟩

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The gradient of the weights of the feed-forward's second product is the reference's. -/
theorem algebraic4 : Cert.algebraic_Kernel4Ideal_Reference4Ideal := by
  intro m ρ m' ρ' _ hagree
  refine ⟨fun c => Cert.Reference4Ideal.Read.val_main_v7 (F := Ideal) (Cert.Kernel4Ideal.Gen.arg0 m c) (Cert.Kernel4Ideal.Gen.arg1 m c), ?_, ?_⟩
  · exact (θ_run Cert.Kernel4Ideal.defs _ _).mono (fun r h c => ⟨((h.1 c).1 2).trans (Cert.Kernel4Ideal.Gen.array m c _ fun i l => Cert.Reference4Ideal.Read.result_at _ _ i l), h.2 c⟩)
      (θ_run_and (Cert.Kernel4Ideal.Gen.run_main (F := Ideal) m ρ) (Cert.Kernel4Ideal.Gen.unchanged (F := Ideal) m ρ))
  · refine (θ_run Cert.Reference4Ideal.defs _ _).mono (fun r h c => ?_) (Cert.Reference4Ideal.Value.run (F := Ideal) m' ρ')
    obtain ⟨e0, e1⟩ := hagree c
    exact ⟨(h c).1.trans ((Cert.Reference4Ideal.Read.val_main_v7_eq (F := Ideal) _ _).trans (by rw [e0, e1])), (h c).2⟩

theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The gradient of the out-projection's weights is the reference's. -/
theorem algebraic5 : Cert.algebraic_Kernel5Ideal_Reference5Ideal := by
  intro m ρ m' ρ' _ hagree
  refine ⟨fun c => Cert.Reference5Ideal.Read.val_main_v6 (F := Ideal) (Cert.Kernel5Ideal.Gen.arg0 m c) (Cert.Kernel5Ideal.Gen.arg1 m c), ?_, ?_⟩
  · exact (θ_run Cert.Kernel5Ideal.defs _ _).mono (fun r h c => ⟨((h.1 c).1 2).trans (Cert.Kernel5Ideal.Gen.array m c _ fun j l => Cert.Reference5Ideal.Read.result_at _ _ j l), h.2 c⟩)
      (θ_run_and (Cert.Kernel5Ideal.Gen.run_main (F := Ideal) m ρ) (Cert.Kernel5Ideal.Gen.unchanged (F := Ideal) m ρ))
  · refine (θ_run Cert.Reference5Ideal.defs _ _).mono (fun r h c => ?_) (Cert.Reference5Ideal.Value.run (F := Ideal) m' ρ')
    obtain ⟨e0, e1⟩ := hagree c
    exact ⟨(h c).1.trans ((Cert.Reference5Ideal.Read.val_main_v6_eq (F := Ideal) _ _).trans (by rw [e0, e1])), (h c).2⟩

end Cert.Proof

end
-- ==== Proof.Norm.lean ====
module

public import Idealize.ShloMosaic.Lib.Pipeline.ValueKit
public import Idealize.ShloMosaic.Lib.Pointwise.Tactic

/-! # A row, normalised and modulated -/

@[expose] public section

noncomputable section

namespace Cert.Tiles

open Idealize.ShloMosaic

/-- Entry `l` of a row over its root mean square, weighted, scaled and shifted. -/
def normed (x w sh sc : Fin 1024 → EReal) (l : Fin 1024) : EReal :=
  x l * Ideal.rsqrt (Ideal.div (∑ y, x y * x y) (Ideal.ofBits FTy.f32 1149239296#32) + Ideal.ofBits FTy.f32 897988541#32) * w l * (1 + sc l) + sh l

end Cert.Tiles

end
-- ==== Proof.InProjFwd.lean ====
module

public import proofs.«01_k».proof.Proof.Tiles
public import proofs.«01_k».proof.Proof.Norm
public import proofs.«01_k».proof.Proof.Gen.Kernel6Ideal.Frame
public import Idealize.ShloMosaic.Lib.StableHlo.RunRead

/-! # The in-projection: the kernel

Point `(b, j)` of the grid projects 256 rows of example `b`: the context's for `j = 0`, else latent rows `256 * (j - 1) …`. -/

@[expose] public section

noncomputable section

namespace Cert.Kernel6Ideal.Gen

open Idealize.ShloMosaic Cert.Tiles

section Body

variable (i : grid0.Coords) (x0 x1 : Vec Ideal S1x256x1024 .f32) (x2 x3 x4 x5 : Vec Ideal S1x1x1024 .f32) (x6 : Vec Ideal S1x1024 .f32)
  (x7 : Vec Ideal S3712x1024 .bf16)

/-- A row of the context's tile. -/
theorem scaled_ctx (h : Scalar.cmpi .eq (BitVec.ofNat 32 (i 1).val) 0#32 = 1#1) (r : Fin 256) (l : Fin 1024) :
    k0_pay5 i x1 x0 x5 x3 x6 (ix2 r l) + k0_pay4 i x4 x2 (ix2 0 l)
      = normed (fun y => x1 (ix3 0 r y)) (fun y => x6 (ix2 0 y)) (fun y => x4 (ix3 0 0 y)) (fun y => x5 (ix3 0 0 y)) l := by
  unfold k0_pay5 k0_pay4 normed
  pointwise
  simp only [h]
  rfl

/-- A row of a latent tile. -/
theorem scaled_lat (h : Scalar.cmpi .eq (BitVec.ofNat 32 (i 1).val) 0#32 = 0#1) (r : Fin 256) (l : Fin 1024) :
    k0_pay5 i x1 x0 x5 x3 x6 (ix2 r l) + k0_pay4 i x4 x2 (ix2 0 l)
      = normed (fun y => x0 (ix3 0 r y)) (fun y => x6 (ix2 0 y)) (fun y => x2 (ix3 0 0 y)) (fun y => x3 (ix3 0 0 y)) l := by
  unfold k0_pay5 k0_pay4 normed
  pointwise
  simp only [h]
  rfl

/-- The rows written. -/
theorem rows_out (r : Fin 256) (l : Fin 1024) :
    (out0_9 i x0 x1 x2 x3 x4 x5 x6 x7 (ix3 0 r l) : EReal) = k0_pay5 i x1 x0 x5 x3 x6 (ix2 r l) + k0_pay4 i x4 x2 (ix2 0 l) := by
  unfold_out out0_9
  rw [View.canon_unit_zero zero3]
  simp only [View.ld_unit_zero (S := S1x256x1024) zero3, View.ld_unit_zero (S := S1x1x1024) zero3, View.ld_unit_zero (S := S1x1024) zero2]
  unfold k0_pay2 k0_pay1
  pointwise

/-- The products written. -/
theorem prods_out (r : Fin 256) (q : Fin 3712) :
    out0_8 i x0 x1 x2 x3 x4 x5 x6 x7 (ix3 0 r q)
      = ∑ l : Fin 1024, (k0_pay5 i x1 x0 x5 x3 x6 (ix2 r l) + k0_pay4 i x4 x2 (ix2 0 l)) * x7 (ix2 q l) := by
  unfold_out out0_8
  rw [View.canon_unit_zero zero3]
  simp only [View.ld_unit_zero (S := S1x256x1024) zero3, View.ld_unit_zero (S := S1x1x1024) zero3, View.ld_unit_zero (S := S1x1024) zero2,
    View.ld_unit_zero (S := S3712x1024) zero2]
  unfold k0_pay3 k0_pay1
  pointwise

end Body

/-! ## The blocks -/

/-- The point of an example and a tile. -/
def pt (b : Fin 2) (j : Fin 9) : Fin cfg0.N := ⟨b.val * 9 + j.val, by rw [show cfg0.N = 18 from N_0]; omega⟩

theorem index0 : ∀ b j, (cfg0.win 0).index (pt b j) 0 = b.val ∧ (cfg0.win 0).index (pt b j) 1 = j.val - 1 ∧ (cfg0.win 0).index (pt b j) 2 = 0 := by decide +kernel
theorem index1 : ∀ b j, (cfg0.win 1).index (pt b j) 0 = b.val ∧ (cfg0.win 1).index (pt b j) 1 = 0 ∧ (cfg0.win 1).index (pt b j) 2 = 0 := by decide +kernel
theorem index2 : ∀ b j, (cfg0.win 2).index (pt b j) 0 = b.val ∧ (cfg0.win 2).index (pt b j) 1 = 0 ∧ (cfg0.win 2).index (pt b j) 2 = 0 := by decide +kernel
theorem index3 : ∀ b j, (cfg0.win 3).index (pt b j) 0 = b.val ∧ (cfg0.win 3).index (pt b j) 1 = 0 ∧ (cfg0.win 3).index (pt b j) 2 = 0 := by decide +kernel
theorem index4 : ∀ b j, (cfg0.win 4).index (pt b j) 0 = 0 ∧ (cfg0.win 4).index (pt b j) 1 = 0 ∧ (cfg0.win 4).index (pt b j) 2 = 0 := by decide +kernel
theorem index5 : ∀ b j, (cfg0.win 5).index (pt b j) 0 = 0 ∧ (cfg0.win 5).index (pt b j) 1 = 0 ∧ (cfg0.win 5).index (pt b j) 2 = 0 := by decide +kernel
theorem index6 : ∀ b j, (cfg0.win 6).index (pt b j) 0 = 0 ∧ (cfg0.win 6).index (pt b j) 1 = 0 := by decide +kernel
theorem index7 : ∀ b j, (cfg0.win 7).index (pt b j) 0 = 0 ∧ (cfg0.win 7).index (pt b j) 1 = 0 := by decide +kernel
theorem index8 : ∀ b j, (cfg0.win 8).index (pt b j) 0 = b.val ∧ (cfg0.win 8).index (pt b j) 1 = j.val ∧ (cfg0.win 8).index (pt b j) 2 = 0 := by decide +kernel
theorem index9 : ∀ b j, (cfg0.win 9).index (pt b j) 0 = b.val ∧ (cfg0.win 9).index (pt b j) 1 = j.val ∧ (cfg0.win 9).index (pt b j) 2 = 0 := by decide +kernel

/-- Which tile is the context's. -/
theorem tile_ctx : ∀ b, Scalar.cmpi .eq (BitVec.ofNat 32 (grid0.coords (pt b 0) 1).val) 0#32 = 1#1 := by decide +kernel
theorem tile_lat : ∀ b (j : Fin 8), Scalar.cmpi .eq (BitVec.ofNat 32 (grid0.coords (pt b j.succ) 1).val) 0#32 = 0#1 := by decide +kernel

variable (m : (ℓ : Loc nD τ sig) → Buf (Elt Ideal) ℓ) (c : Dev nD)

/-- The arguments as launched. -/
abbrev arg0 : Vec Ideal S2x2048x1024 .f32 := m ((c.tc : Thread nD τ).loc main_arg0)
abbrev arg1 : Vec Ideal S2x256x1024 .f32 := m ((c.tc : Thread nD τ).loc main_arg1)
abbrev arg2 : Vec Ideal S2x1x1024 .f32 := m ((c.tc : Thread nD τ).loc main_arg2)
abbrev arg3 : Vec Ideal S2x1x1024 .f32 := m ((c.tc : Thread nD τ).loc main_arg3)
abbrev arg4 : Vec Ideal S1024 .f32 := m ((c.tc : Thread nD τ).loc main_arg4)
abbrev arg5 : Vec Ideal S1024 .f32 := m ((c.tc : Thread nD τ).loc main_arg5)
abbrev arg6 : Vec Ideal S1x1024 .f32 := m ((c.tc : Thread nD τ).loc main_arg6)
abbrev arg7 : Vec Ideal S3712x1024 .bf16 := m ((c.tc : Thread nD τ).loc main_arg7)

theorem latent_at (b : Fin 2) (j : Fin 8) (r : Fin 256) (l : Fin 1024) :
    iblk m c 0 (pt b j.succ) (ix3 0 r l) = arg0 m c (ix3 b ⟨j.val * 256 + r.val, by omega⟩ l) := by
  obtain ⟨h0, h1, h2⟩ := index0 b j.succ
  rw [Fin.val_succ, Nat.add_sub_cancel] at h1
  refine Eq.trans ?_ (congrFun (V_main_arg0 m c) _)
  unfold iblk
  blk_ext [h0, h1, h2]

theorem context_at (b : Fin 2) (j : Fin 9) (r : Fin 256) (l : Fin 1024) : iblk m c 1 (pt b j) (ix3 0 r l) = arg1 m c (ix3 b r l) := by
  obtain ⟨h0, h1, h2⟩ := index1 b j
  refine Eq.trans ?_ (congrFun (V_main_arg1 m c) _)
  unfold iblk
  blk_ext [h0, h1, h2]

theorem shift_at (b : Fin 2) (j : Fin 9) (l : Fin 1024) : iblk m c 2 (pt b j) (ix3 0 0 l) = arg2 m c (ix3 b 0 l) := by
  obtain ⟨h0, h1, h2⟩ := index2 b j
  refine Eq.trans ?_ (congrFun (V_main_arg2 m c) _)
  unfold iblk
  blk_ext [h0, h1, h2]

theorem scale_at (b : Fin 2) (j : Fin 9) (l : Fin 1024) : iblk m c 3 (pt b j) (ix3 0 0 l) = arg3 m c (ix3 b 0 l) := by
  obtain ⟨h0, h1, h2⟩ := index3 b j
  refine Eq.trans ?_ (congrFun (V_main_arg3 m c) _)
  unfold iblk
  blk_ext [h0, h1, h2]

theorem laid_shift (l : Fin 1024) : V m c main_v0 (ix3 0 0 l) = arg4 m c (ix1 l) := by
  after_reads_simp
  pointwise

theorem laid_scale (l : Fin 1024) : V m c main_v1 (ix3 0 0 l) = arg5 m c (ix1 l) := by
  after_reads_simp
  pointwise

theorem ctx_shift_at (b : Fin 2) (j : Fin 9) (l : Fin 1024) : iblk m c 4 (pt b j) (ix3 0 0 l) = arg4 m c (ix1 l) := by
  obtain ⟨h0, h1, h2⟩ := index4 b j
  refine Eq.trans ?_ (laid_shift m c l)
  unfold iblk
  blk_ext [h0, h1, h2]

theorem ctx_scale_at (b : Fin 2) (j : Fin 9) (l : Fin 1024) : iblk m c 5 (pt b j) (ix3 0 0 l) = arg5 m c (ix1 l) := by
  obtain ⟨h0, h1, h2⟩ := index5 b j
  refine Eq.trans ?_ (laid_scale m c l)
  unfold iblk
  blk_ext [h0, h1, h2]

theorem weight_at (b : Fin 2) (j : Fin 9) (l : Fin 1024) : iblk m c 6 (pt b j) (ix2 0 l) = arg6 m c (ix2 0 l) := by
  obtain ⟨h0, h1⟩ := index6 b j
  refine Eq.trans ?_ (congrFun (V_main_arg6 m c) _)
  unfold iblk
  blk_ext [h0, h1]

theorem proj_at (b : Fin 2) (j : Fin 9) (q : Fin 3712) (l : Fin 1024) : iblk m c 7 (pt b j) (ix2 q l) = arg7 m c (ix2 q l) := by
  obtain ⟨h0, h1⟩ := index7 b j
  refine Eq.trans ?_ (congrFun (V_main_arg7 m c) _)
  unfold iblk
  blk_ext [h0, h1]

/-! ## The results -/

/-- A context row and a latent row, normalised and modulated. -/
def ctxRow (b : Fin 2) (r : Fin 256) (l : Fin 1024) : EReal :=
  normed (fun y => arg1 m c (ix3 b r y)) (fun y => arg6 m c (ix2 0 y)) (fun y => arg4 m c (ix1 y)) (fun y => arg5 m c (ix1 y)) l
def latRow (b : Fin 2) (r : Fin 2048) (l : Fin 1024) : EReal :=
  normed (fun y => arg0 m c (ix3 b r y)) (fun y => arg6 m c (ix2 0 y)) (fun y => arg2 m c (ix3 b 0 y)) (fun y => arg3 m c (ix3 b 0 y)) l

/-- The context's rows come first. -/
def row (b : Fin 2) (r : Fin 2304) (l : Fin 1024) : EReal :=
  if h : r.val < 256 then ctxRow m c b ⟨r.val, h⟩ l else latRow m c b ⟨r.val - 256, by omega⟩ l

/-- A row of a tile. -/
theorem tile_row (b : Fin 2) (j : Fin 9) (r : Fin 256) (l : Fin 1024) :
    k0_pay5 (grid0.coords (pt b j)) (iblk m c 1 (pt b j)) (iblk m c 0 (pt b j)) (iblk m c 5 (pt b j)) (iblk m c 3 (pt b j)) (iblk m c 6 (pt b j)) (ix2 r l)
      + k0_pay4 (grid0.coords (pt b j)) (iblk m c 4 (pt b j)) (iblk m c 2 (pt b j)) (ix2 0 l) = row m c b ⟨j.val * 256 + r.val, by omega⟩ l := by
  refine Fin.cases ?_ (fun j => ?_) j
  · rw [scaled_ctx _ _ _ _ _ _ _ _ (tile_ctx b)]
    simp only [context_at, weight_at, ctx_shift_at, ctx_scale_at]
    rw [row, dif_pos (by show 0 * 256 + r.val < 256; omega)]
    exact congrArg (fun z => ctxRow m c b z l) (Fin.ext (by show r.val = 0 * 256 + r.val; omega))
  · rw [scaled_lat _ _ _ _ _ _ _ _ (tile_lat b j)]
    simp only [latent_at, weight_at, shift_at, scale_at]
    rw [row, dif_neg (by show ¬(j.val + 1) * 256 + r.val < 256; omega)]
    exact congrArg (fun z => latRow m c b z l) (Fin.ext (by show j.val * 256 + r.val = (j.val + 1) * 256 + r.val - 256; omega))

theorem exists_pt (t : Fin cfg0.N) : ∃ b j, t = pt b j := by
  have hN : t.val < 18 := lt_of_lt_of_eq t.isLt (show cfg0.N = 18 from N_0)
  exact ⟨⟨t.val / 9, by omega⟩, ⟨t.val % 9, by omega⟩, Fin.ext (by show t.val = t.val / 9 * 9 + t.val % 9; omega)⟩

/-- The rows. -/
theorem array_rows (G : Vec Ideal S2x2304x1024 .bf16) (hG : ∀ b r l, (G (ix3 b r l) : EReal) = row m c b r l) : (dats m 0 c).arrAt 9 cfg0.N = G := by
  refine (dats m 0 c).arrAt_eq_of_covers 9 G (by decide +kernel) fun t hf y => ?_
  obtain ⟨b, j, rfl⟩ := exists_pt t
  obtain ⟨r, l, rfl⟩ : ∃ (r : Fin 256) (l : Fin 1024), y = ix3 0 r l := ⟨y 1, y 2, by funext a; fin_cases a <;> first | rfl | exact Subsingleton.elim (α := Fin 1) _ _⟩
  obtain ⟨h0, h1, h2⟩ := index9 b j
  blk_simp
  rw [after0_9]
  refine ((rows_out _ _ _ _ _ _ _ _ _ r l).trans (tile_row m c b j r l)).trans ((hG b _ l).symm.trans (congrArg G ?_))
  funext a
  refine Fin.ext ?_
  fin_cases a <;> simp [h0, h1, h2]

/-- The products. -/
theorem array_prods (G : Vec Ideal S2x2304x3712 .f32) (hG : ∀ b r q, G (ix3 b r q) = ∑ l, row m c b r l * arg7 m c (ix2 q l)) : (dats m 0 c).arrAt 8 cfg0.N = G := by
  refine (dats m 0 c).arrAt_eq_of_covers 8 G (by decide +kernel) fun t hf y => ?_
  obtain ⟨b, j, rfl⟩ := exists_pt t
  obtain ⟨r, q, rfl⟩ : ∃ (r : Fin 256) (q : Fin 3712), y = ix3 0 r q := ⟨y 1, y 2, by funext a; fin_cases a <;> first | rfl | exact Subsingleton.elim (α := Fin 1) _ _⟩
  obtain ⟨h0, h1, h2⟩ := index8 b j
  blk_simp
  rw [after0_8]
  refine ((prods_out _ _ _ _ _ _ _ _ _ r q).trans (Finset.sum_congr rfl fun l _ => by rw [tile_row, proj_at])).trans ((hG b _ q).symm.trans (congrArg G ?_))
  funext a
  refine Fin.ext ?_
  fin_cases a <;> simp [h0, h1, h2]

end Cert.Kernel6Ideal.Gen

end
-- ==== Proof.InProjFwdRef.lean ====
module

public import proofs.«01_k».proof.Proof.Norm
public import proofs.«01_k».proof.Proof.Gen.Reference6Ideal.Read
public import Idealize.ShloMosaic.Lib.Pointwise.Tactic

/-! # The in-projection: the reference -/

@[expose] public section

noncomputable section

namespace Cert.Reference6Ideal.Read

open Idealize.ShloMosaic Cert.Tiles

variable (x0 : Vec Ideal S2x2048x1024 .f32) (x1 : Vec Ideal S2x256x1024 .f32) (x2 x3 : Vec Ideal S2x1x1024 .f32) (x4 x5 : Vec Ideal S1024 .f32)
  (x6 : Vec Ideal S1x1024 .f32) (x7 : Vec Ideal S3712x1024 .bf16)

/-- A latent row. -/
theorem latent_row (b : Fin 2) (r : Fin 2048) (l : Fin 1024) : val_main_v21 (F := Ideal) x0 x2 x3 x6 (ix3 b r l)
    = normed (fun y => x0 (ix3 b r y)) (fun y => x6 (ix2 0 y)) (fun y => x2 (ix3 b 0 y)) (fun y => x3 (ix3 b 0 y)) l := by
  unfold val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_cst val_main_cst_0 val_main_cst_1
    val_main_cst_2 normed
  pointwise

/-- A context row. -/
theorem context_row (b : Fin 2) (r : Fin 256) (l : Fin 1024) : val_main_v43 (F := Ideal) x1 x4 x5 x6 (ix3 b r l)
    = normed (fun y => x1 (ix3 b r y)) (fun y => x6 (ix2 0 y)) (fun y => x4 (ix1 y)) (fun y => x5 (ix1 y)) l := by
  unfold val_main_v43 val_main_v42 val_main_v41 val_main_v40 val_main_v39 val_main_v38 val_main_v37 val_main_v36 val_main_v35 val_main_v34 val_main_v33
    val_main_v32 val_main_v31 val_main_v30 val_main_v29 val_main_v28 val_main_v27 val_main_v26 val_main_v25 val_main_v24 val_main_v23 val_main_v22
    val_main_cst_3 val_main_cst_4 val_main_cst_5 val_main_cst_6 normed
  pointwise

/-- The rows, the context's first. -/
theorem rows_at (b : Fin 2) (r : Fin 2304) (l : Fin 1024) : (val_main_v48 (F := Ideal) x0 x1 x2 x3 x4 x5 x6 (ix3 b r l) : EReal)
    = if h : r.val < 256 then val_main_v43 (F := Ideal) x1 x4 x5 x6 (ix3 b ⟨r.val, h⟩ l)
      else val_main_v21 (F := Ideal) x0 x2 x3 x6 (ix3 b ⟨r.val - 256, by omega⟩ l) := by
  rw [val_main_v48_apply]
  unfold val_main_v47
  generalize val_main_v43 (F := Ideal) x1 x4 x5 x6 = u
  generalize val_main_v21 (F := Ideal) x0 x2 x3 x6 = v
  pointwise

/-- The products. -/
theorem prods_at (b : Fin 2) (r : Fin 2304) (q : Fin 3712) : val_main_v46 (F := Ideal) x0 x1 x2 x3 x4 x5 x6 x7 (ix3 b r q)
    = ∑ l, (val_main_v48 (F := Ideal) x0 x1 x2 x3 x4 x5 x6 (ix3 b r l) : EReal) * x7 (ix2 q l) := by
  simp only [rows_at]
  unfold val_main_v46 val_main_v45 val_main_v44 val_main_v1 val_main_v0
  generalize val_main_v43 (F := Ideal) x1 x4 x5 x6 = u
  generalize val_main_v21 (F := Ideal) x0 x2 x3 x6 = v
  pointwise
  split <;> rfl

end Cert.Reference6Ideal.Read

end
-- ==== Proof.Forward.lean ====
module

public import proofs.«01_k».proof.Defs
public import proofs.«01_k».proof.Proof.InProjFwd
public import proofs.«01_k».proof.Proof.InProjFwdRef
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Reference6Ideal.Run
public import Idealize.ShloMosaic.Adequacy
public import Idealize.ShloMosaic.Init

/-! # The forward products: the claims -/

@[expose] public section

noncomputable section

namespace Cert.Proof

open Idealize.ShloMosaic Idealize.SL.Sem

theorem frame_reference6 : Cert.quiescent_Reference6Ideal := fun m ρ _ =>
  (θ_run Cert.Reference6Ideal.defs _ _).mono (fun r h => ⟨fun c => (h c).2.2, sem_eq_zero_of_no_sems (by decide) r.2⟩) (Cert.Reference6Ideal.Value.run (F := Ideal) m ρ)

section InProj

open Cert.Kernel6Ideal.Gen Cert.Reference6Ideal.Read

variable (m : (ℓ : Loc Cert.Kernel6Ideal.nD Cert.Kernel6Ideal.τ Cert.Kernel6Ideal.sig) → Buf (Elt Ideal) ℓ) (c : Dev Cert.Kernel6Ideal.nD)

/-- The reference's rows are the kernel's. -/
theorem proj_rows (b : Fin 2) (r : Fin 2304) (l : Fin 1024) :
    (val_main_v48 (F := Ideal) (arg0 m c) (arg1 m c) (arg2 m c) (arg3 m c) (arg4 m c) (arg5 m c) (arg6 m c) (ix3 b r l) : EReal) = row m c b r l := by
  rw [rows_at, row]
  split
  · rw [context_row]; rfl
  · rw [latent_row]; rfl

theorem proj_prods (b : Fin 2) (r : Fin 2304) (q : Fin 3712) :
    val_main_v46 (F := Ideal) (arg0 m c) (arg1 m c) (arg2 m c) (arg3 m c) (arg4 m c) (arg5 m c) (arg6 m c) (arg7 m c) (ix3 b r q)
      = ∑ l, row m c b r l * arg7 m c (ix2 q l) := by
  rw [prods_at]
  exact Finset.sum_congr rfl fun l _ => by rw [proj_rows]

end InProj

/-- The in-projection and the rows it projects are the reference's. -/
theorem algebraic6 : Cert.algebraic_Kernel6Ideal_Reference6Ideal := by
  intro m ρ m' ρ' _ hagree
  refine ⟨fun c => Cert.Reference6Ideal.Read.val_main_v46 (F := Ideal) (Cert.Kernel6Ideal.Gen.arg0 m c) (Cert.Kernel6Ideal.Gen.arg1 m c)
      (Cert.Kernel6Ideal.Gen.arg2 m c) (Cert.Kernel6Ideal.Gen.arg3 m c) (Cert.Kernel6Ideal.Gen.arg4 m c) (Cert.Kernel6Ideal.Gen.arg5 m c)
      (Cert.Kernel6Ideal.Gen.arg6 m c) (Cert.Kernel6Ideal.Gen.arg7 m c),
    fun c => Cert.Reference6Ideal.Read.val_main_v48 (F := Ideal) (Cert.Kernel6Ideal.Gen.arg0 m c) (Cert.Kernel6Ideal.Gen.arg1 m c)
      (Cert.Kernel6Ideal.Gen.arg2 m c) (Cert.Kernel6Ideal.Gen.arg3 m c) (Cert.Kernel6Ideal.Gen.arg4 m c) (Cert.Kernel6Ideal.Gen.arg5 m c)
      (Cert.Kernel6Ideal.Gen.arg6 m c), ?_, ?_⟩
  · exact (θ_run Cert.Kernel6Ideal.defs _ _).mono (fun r h c => ⟨((h.1 c).1 8).trans (Cert.Kernel6Ideal.Gen.array_prods m c _ fun b r q => proj_prods m c b r q),
        ((h.1 c).1 9).trans (Cert.Kernel6Ideal.Gen.array_rows m c _ fun b r l => proj_rows m c b r l), h.2 c⟩)
      (θ_run_and (Cert.Kernel6Ideal.Gen.run_main (F := Ideal) m ρ) (Cert.Kernel6Ideal.Gen.unchanged (F := Ideal) m ρ))
  · refine (θ_run Cert.Reference6Ideal.defs _ _).mono (fun r h c => ?_) (Cert.Reference6Ideal.Value.run (F := Ideal) m' ρ')
    obtain ⟨e0, e1, e2, e3, e4, e5, e6, e7⟩ := hagree c
    exact ⟨(h c).1.trans ((Cert.Reference6Ideal.Read.val_main_v46_eq (F := Ideal) _ _ _ _ _ _ _ _).trans (by rw [e0, e1, e2, e3, e4, e5, e6, e7])),
      (h c).2.1.trans ((Cert.Reference6Ideal.Read.val_main_v48_eq (F := Ideal) _ _ _ _ _ _ _).trans (by rw [e0, e1, e2, e3, e4, e5, e6])), (h c).2.2⟩

end Cert.Proof

end
-- ==== Proof.FfnSpec.lean ====
module

public import proofs.«01_k».proof.Proof.Norm

/-! # The feed-forward and the loss, said plainly -/

@[expose] public section

noncomputable section

namespace Cert.Ffn

open Idealize.ShloMosaic Cert.Tiles

/-- The arguments: rows, shifts, scales and gates, the norm's weight, the four blocks of the weights of gate and up, the second weights, the target. -/
structure Args where
  x : Fin 4096 → Fin 1024 → EReal
  sh : Fin 2 → Fin 1024 → EReal
  sc : Fin 2 → Fin 1024 → EReal
  g : Fin 2 → Fin 1024 → EReal
  w : Fin 1024 → EReal
  win : Fin 4 → Fin 1024 → Fin 1408 → EReal
  wout : Fin 2816 → Fin 1024 → EReal
  tgt : Fin 4096 → Fin 1024 → EReal

/-- `z` times its logistic. -/
def silu (z : EReal) : EReal := z * Ideal.div 1 (1 + Ideal.exp (0 - z))

/-- The batch entry of a row. -/
def entry (r : Fin 4096) : Fin 2 := ⟨r.val / 2048, by omega⟩

variable (A : Args)

/-- A normalised, modulated row. -/
def row (r : Fin 4096) (l : Fin 1024) : EReal := normed (A.x r) A.w (A.sh (entry r)) (A.sc (entry r)) l

/-- Its product with a block of the first weights, -/
def prod (k : Fin 4) (r : Fin 4096) (q : Fin 1408) : EReal := ∑ l, row A r l * A.win k l q

/-- what a half of the hidden columns adds to the output, -/
def half (f : Fin 2) (r : Fin 4096) (d : Fin 1024) : EReal :=
  ∑ q : Fin 1408, silu (prod A ⟨f.val, by omega⟩ r q) * prod A ⟨2 + f.val, by omega⟩ r q * A.wout ⟨f.val * 1408 + q.val, by omega⟩ d

/-- the output, -/
def out (r : Fin 4096) (d : Fin 1024) : EReal := half A 0 r d + half A 1 r d

/-- and how far the gated sum is from the target. -/
def err (r : Fin 4096) (d : Fin 1024) : EReal := A.x r d + A.g (entry r) d * out A r d - A.tgt r d

/-- The loss' gradient. -/
def dy (r : Fin 4096) (d : Fin 1024) : EReal := err A r d * Ideal.ofBits FTy.f32 981467136#32

/-- The gradient of a gate. -/
def dg (b : Fin 2) (d : Fin 1024) : EReal :=
  ∑ n : Fin 2048, dy A ⟨b.val * 2048 + n.val, by omega⟩ d * out A ⟨b.val * 2048 + n.val, by omega⟩ d

/-- The loss, as the sum of the tiles' losses. -/
def loss : EReal := ∑ i : Fin 8, (∑ r : Fin 512, ∑ d : Fin 1024, err A ⟨i.val * 512 + r.val, by omega⟩ d * err A ⟨i.val * 512 + r.val, by omega⟩ d) * Ideal.ofBits FTy.f32 973078528#32

/-! ## Sums by tiles -/

/-- A sum over all rows is the sum of the tiles' sums. -/
theorem sum_tiles {N : ℕ} (a w : ℕ) (h : N = a * w) (f : Fin N → EReal) :
    ∑ i : Fin a, ∑ r : Fin w, f ⟨i.val * w + r.val, by rw [h]; exact Nat.lt_of_lt_of_le (Nat.add_lt_add_left r.isLt _) (by rw [← Nat.succ_mul]; exact Nat.mul_le_mul_right _ i.isLt)⟩ = ∑ n, f n := by
  rw [← Equiv.sum_comp (finProdFinEquiv.trans (finCongr h.symm)) f, Fintype.sum_prod_type]
  refine Finset.sum_congr rfl fun i _ => Finset.sum_congr rfl fun r _ => congrArg f (Fin.ext ?_)
  show i.val * w + r.val = r.val + w * i.val
  rw [Nat.mul_comm, Nat.add_comm]

/-- A factor that is neither negative nor infinite passes through a sum. -/
theorem mul_sum {ι : Type} (s : Finset ι) (k : EReal) (h0 : 0 ≤ k) (h1 : k ≠ ⊤) (f : ι → EReal) : k * ∑ x ∈ s, f x = ∑ x ∈ s, k * f x := by
  classical
  induction s using Finset.induction_on with
  | empty => simp
  | insert x s hx ih => rw [Finset.sum_insert hx, Finset.sum_insert hx, EReal.left_distrib_of_nonneg_of_ne_top h0 h1, ih]

/-! ## The constants -/

theorem two_val : Ideal.ofBits FTy.f32 1073741824#32 = ((2 : ℝ) : EReal) := by simp [Ideal.ofBits, Ideal.ieee, -EReal.coe_mul]; norm_num
theorem half_val : Ideal.ofBits FTy.f32 1056964608#32 = ((1 / 2 : ℝ) : EReal) := by simp [Ideal.ofBits, Ideal.ieee, -EReal.coe_mul]; norm_num
theorem width_val : Ideal.ofBits FTy.f32 1149239296#32 = ((1024 : ℝ) : EReal) := by simp [Ideal.ofBits, Ideal.ieee, -EReal.coe_mul]; norm_num
theorem inv_val : Ideal.ofBits FTy.f32 981467136#32 = ((1 / 1024 : ℝ) : EReal) := by simp [Ideal.ofBits, Ideal.ieee, -EReal.coe_mul]; norm_num
theorem half_inv_val : Ideal.ofBits FTy.f32 973078528#32 = ((1 / 2048 : ℝ) : EReal) := by simp [Ideal.ofBits, Ideal.ieee, -EReal.coe_mul]; norm_num

theorem div_width (z : EReal) : Ideal.div z (Ideal.ofBits FTy.f32 1149239296#32) = ((1 / 1024 : ℝ) : EReal) * z := by
  rw [width_val, Ideal.div, if_neg (by exact_mod_cast (by norm_num : (1024 : ℝ) ≠ 0)), ← EReal.coe_inv, mul_comm, one_div]

end Cert.Ffn

end
-- ==== Proof.FfnRun.lean ====
module

public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic

/-! # The feed-forward's body

What the body leaves in the windows it writes, at a block of rows' first and second half of the hidden columns: the normalised rows, gate and up, the accumulated output, and at the
second half what the loss makes of it. -/

@[expose] public section

set_option maxRecDepth 65536

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of a whole buffer leaves what was stored. -/
theorem read_store {sp : Space} {S : Shape} {e : EltTy} (v : View sig .tc sp S e) (f : v.ty.Contents (Elt F)) {off : Fin S.rank → ℕ} (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  have h : off = fun _ => 0 := funext fun a => by have := inb a; omega
  rw [View.read_writes_eq_canon v f _ fun y => ⟨_, List.mem_cons_self, View.mem_set_unit_zero h inb y⟩]
  exact View.canon_cons_unit_zero h inb w L

/-- A load of a whole argument reads what it holds, -/
theorem load_arg {sp : Space} {S : Shape} {e : EltTy} {r : Memref sig .tc sp S e} (h : r.IsWhole) (x : S.Idx → Elt F e) {off : Fin S.rank → ℕ} (inb : ∀ a, off a + S.size a ≤ S.size a) :
    r.view.readAt (Elt F) (Rect.unit off S.size inb).toLoadRect (h.unread x) = x :=
  (View.readAt_full _ _ inb).trans (h.read_unread x)

/-- and one after a store of the whole buffer what was stored. -/
theorem load_store {sp : Space} {S : Shape} {e : EltTy} (v : View sig .tc sp S e) {off off' : Fin S.rank → ℕ} (inb : ∀ a, off a + S.size a ≤ S.size a)
    (inb' : ∀ a, off' a + S.size a ≤ S.size a) {w w' : S.Idx → Elt F e} (L : List (View.Piece (Elt F) S e)) (h : w = w') :
    v.readCov ((⟨Rect.unit off' S.size inb', w⟩ : View.Piece (Elt F) S e) :: L) (Rect.unit off S.size inb).toLoadRect = w' :=
  (View.readCov_full v inb inb' w L).trans h

/-- The normalised, modulated rows of a block. -/
abbrev rows (x0 : Vec F S512x1024 .f32) (x1 x2 : Vec F S1x1x1024 .f32) (x4 : Vec F S1x1024 .f32) : Vec F S512x1024 .bf16 := k0_pay9 x0 x4 x1 x2

/-- An accumulator with one half of the hidden columns added. -/
abbrev added (h : Vec F S512x1024 .bf16) (x5 x6 : Vec F S1x1024x1408 .bf16) (x7 : Vec F S1408x1024 .bf16) (acc : Vec F S512x1024 .f32) : Vec F S512x1024 .f32 :=
  k0_pay1 (k0_pay16 h x5 x6 acc x7)

set_option maxHeartbeats 2000000 in
/-- At a block of rows' first half of the hidden columns. -/
theorem run_first (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1024 .f32) (harg14 : arg14.IsWhole) (arg15 : Memref sig .tc .vmem S1x1x1024 .f32) (harg15 : arg15.IsWhole) (arg16 : Memref sig .tc .vmem S8x128 .f32) (harg16 : arg16.IsWhole) (arg17 : Memref sig .tc .vmem S512x1024 .f32) (harg17 : arg17.IsWhole)
    (hc1 : k0_cond1 i = 1#1) (hc3 : ¬ k0_cond3 i = 1#1)
    (x0 : Vec F S512x1024 .f32) (x1 : Vec F S1x1x1024 .f32) (x2 : Vec F S1x1x1024 .f32) (x3 : Vec F S1x1x1024 .f32) (x4 : Vec F S1x1024 .f32) (x5 : Vec F S1x1024x1408 .bf16) (x6 : Vec F S1x1024x1408 .bf16) (x7 : Vec F S1408x1024 .bf16) (x8 : Vec F S512x1024 .f32) (y12 : Vec F S512x1024 .f32) (y13 : Vec F S1x1x1024 .f32) (y14 : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
          ∗ owns (c : Thread nD τ) arg11 fullShare (rows x0 x1 x2 x4)
          ∗ owns (c : Thread nD τ) arg12 fullShare (k0_pay14 (rows x0 x1 x2 x4) x5)
          ∗ owns (c : Thread nD τ) arg13 fullShare (k0_pay15 (rows x0 x1 x2 x4) x6)
          ∗ owns (c : Thread nD τ) arg14 fullShare y12
          ∗ owns (c : Thread nD τ) arg15 fullShare y13
          ∗ owns (c : Thread nD τ) arg16 fullShare (if k0_cond2 i = 1#1 then k0_pay2 else y14)
          ∗ owns (c : Thread nD τ) arg17 fullShare (added (rows x0 x1 x2 x4) x5 x6 x7 k0_pay10)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc2 : k0_cond2 i = 1#1
  all_goals
    first | rw [if_pos hc2] | rw [if_neg hc2]
    simp only [cc0_ffn_fwd_eq_skeleton]; unfold cc0_ffn_fwd_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hf13; obtain rfl := harg16.eq_unread hf14
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; exact (read_store _ _ _ _ _).trans (congr (congr (congr (congrArg k0_pay9 (load_arg _ _ _)) (load_arg _ _ _)) (load_arg _ _ _)) (load_arg _ _ _))
    isplitl [H10]
    · iexists _; isplitr; swap; · iexact H10
      ipureintro; exact (read_store _ _ _ _ _).trans (congr (congrArg k0_pay14 (load_store _ _ _ _ (congr (congr (congr (congrArg k0_pay9 (load_arg _ _ _)) (load_arg _ _ _)) (load_arg _ _ _)) (load_arg _ _ _)))) (load_arg _ _ _))
    isplitl [H11]
    · iexists _; isplitr; swap; · iexact H11
      ipureintro; exact (read_store _ _ _ _ _).trans (congr (congrArg k0_pay15 (load_store _ _ _ _ (congr (congr (congr (congrArg k0_pay9 (load_arg _ _ _)) (load_arg _ _ _)) (load_arg _ _ _)) (load_arg _ _ _)))) (load_arg _ _ _))
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro; first | exact harg16.read_unread _ | exact (read_store _ _ _ _ _).trans rfl
    iexists _; isplitr; swap; · iexact H15
    ipureintro; exact (read_store _ _ _ _ _).trans (congrArg k0_pay1 (congr (congr (congr (congr (congrArg k0_pay16 (load_store _ _ _ _ (congr (congr (congr (congrArg k0_pay9 (load_arg _ _ _)) (load_arg _ _ _)) (load_arg _ _ _)) (load_arg _ _ _)))) (load_arg _ _ _)) (load_arg _ _ _)) (load_store _ _ _ _ rfl)) (load_arg _ _ _)))

set_option maxHeartbeats 2000000 in
/-- At a block of rows' second half of the hidden columns. -/
theorem run_second (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1024 .f32) (harg14 : arg14.IsWhole) (arg15 : Memref sig .tc .vmem S1x1x1024 .f32) (harg15 : arg15.IsWhole) (arg16 : Memref sig .tc .vmem S8x128 .f32) (harg16 : arg16.IsWhole) (arg17 : Memref sig .tc .vmem S512x1024 .f32) (harg17 : arg17.IsWhole)
    (hc1 : ¬ k0_cond1 i = 1#1) (hc2 : ¬ k0_cond2 i = 1#1) (hc3 : k0_cond3 i = 1#1) (hc5 : k0_cond5 i = 1#1 ↔ ¬ k0_cond4 i = 1#1)
    (x0 : Vec F S512x1024 .f32) (x1 : Vec F S1x1x1024 .f32) (x2 : Vec F S1x1x1024 .f32) (x3 : Vec F S1x1x1024 .f32) (x4 : Vec F S1x1024 .f32) (x5 : Vec F S1x1024x1408 .bf16) (x6 : Vec F S1x1024x1408 .bf16) (x7 : Vec F S1408x1024 .bf16) (x8 : Vec F S512x1024 .f32) (y9 : Vec F S512x1024 .bf16) (y13 : Vec F S1x1x1024 .f32) (y14 : Vec F S8x128 .f32) (y15 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y13 ∗ owns (c : Thread nD τ) arg16 fullShare y14 ∗ owns (c : Thread nD τ) arg17 fullShare y15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
          ∗ owns (c : Thread nD τ) arg11 fullShare y9
          ∗ owns (c : Thread nD τ) arg12 fullShare (k0_pay14 y9 x5)
          ∗ owns (c : Thread nD τ) arg13 fullShare (k0_pay15 y9 x6)
          ∗ owns (c : Thread nD τ) arg14 fullShare (k0_pay6 (added y9 x5 x6 x7 y15) x0 x3 x8)
          ∗ owns (c : Thread nD τ) arg15 fullShare (if k0_cond4 i = 1#1 then k0_pay3 (k0_pay7 (added y9 x5 x6 x7 y15) x0 x3 x8) else k0_pay4 (k0_pay7 (added y9 x5 x6 x7 y15) x0 x3 x8) y13)
          ∗ owns (c : Thread nD τ) arg16 fullShare (k0_pay8 (added y9 x5 x6 x7 y15) x0 x3 x8 y14)
          ∗ owns (c : Thread nD τ) arg17 fullShare (added y9 x5 x6 x7 y15)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc4 : k0_cond4 i = 1#1
  all_goals
    first | rw [if_pos hc4] | rw [if_neg hc4]
    simp only [cc0_ffn_fwd_eq_skeleton]; unfold cc0_ffn_fwd_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13; obtain rfl := harg16.eq_unread hf14; obtain rfl := harg17.eq_unread hf15
    sl_exec (disch := first | sl_exact hc1 | sl_exact hc2 | sl_exact hc3 | sl_exact hc4 | sl_exact hc5.mpr hc4 | sl_exact fun h => hc5.mp h hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; exact (read_store _ _ _ _ _).trans (congr (congrArg k0_pay14 (load_arg _ _ _)) (load_arg _ _ _))
    isplitl [H11]
    · iexists _; isplitr; swap; · iexact H11
      ipureintro; exact (read_store _ _ _ _ _).trans (congr (congrArg k0_pay15 (load_arg _ _ _)) (load_arg _ _ _))
    isplitl [H12]
    · iexists _; isplitr; swap; · iexact H12
      ipureintro; exact (read_store _ _ _ _ _).trans (congr (congr (congr (congrArg k0_pay6 (load_store _ _ _ _ (congrArg k0_pay1 (congr (congr (congr (congr (congrArg k0_pay16 (load_arg _ _ _)) (load_arg _ _ _)) (load_arg _ _ _)) (load_arg _ _ _)) (load_arg _ _ _))))) (load_arg _ _ _)) (load_arg _ _ _)) (load_arg _ _ _))
    isplitl [H13]
    · iexists _; isplitr; swap; · iexact H13
      ipureintro; refine (read_store _ _ _ _ _).trans ?_; first | exact (congrArg k0_pay3 (congr (congr (congr (congrArg k0_pay7 (load_store _ _ _ _ (congrArg k0_pay1 (congr (congr (congr (congr (congrArg k0_pay16 (load_arg _ _ _)) (load_arg _ _ _)) (load_arg _ _ _)) (load_arg _ _ _)) (load_arg _ _ _))))) (load_arg _ _ _)) (load_arg _ _ _)) (load_arg _ _ _))) | exact (congr (congrArg k0_pay4 (congr (congr (congr (congrArg k0_pay7 (load_store _ _ _ _ (congrArg k0_pay1 (congr (congr (congr (congr (congrArg k0_pay16 (load_arg _ _ _)) (load_arg _ _ _)) (load_arg _ _ _)) (load_arg _ _ _)) (load_arg _ _ _))))) (load_arg _ _ _)) (load_arg _ _ _)) (load_arg _ _ _))) (load_arg _ _ _))
    isplitl [H14]
    · iexists _; isplitr; swap; · iexact H14
      ipureintro; exact (read_store _ _ _ _ _).trans (congr (congr (congr (congr (congrArg k0_pay8 (load_store _ _ _ _ (congrArg k0_pay1 (congr (congr (congr (congr (congrArg k0_pay16 (load_arg _ _ _)) (load_arg _ _ _)) (load_arg _ _ _)) (load_arg _ _ _)) (load_arg _ _ _))))) (load_arg _ _ _)) (load_arg _ _ _)) (load_arg _ _ _)) (load_arg _ _ _))
    iexists _; isplitr; swap; · iexact H15
    ipureintro; exact (read_store _ _ _ _ _).trans (congrArg k0_pay1 (congr (congr (congr (congr (congrArg k0_pay16 (load_arg _ _ _)) (load_arg _ _ _)) (load_arg _ _ _)) (load_arg _ _ _)) (load_arg _ _ _)))

end Cert.Kernel7Ideal.Gen

end
-- ==== Proof.FfnBody.lean ====
module

public import proofs.«01_k».proof.Proof.Tiles
public import proofs.«01_k».proof.Proof.FfnSpec
public import proofs.«01_k».proof.Proof.FfnRun

/-! # The feed-forward's body: its values -/

@[expose] public section

noncomputable section

namespace Cert.Kernel7Ideal.Gen

open Idealize.ShloMosaic Cert.Tiles Cert.Ffn

variable (h : Vec Ideal S512x1024 .bf16) (x0 x8 acc : Vec Ideal S512x1024 .f32) (x1 x2 x3 : Vec Ideal S1x1x1024 .f32) (x4 : Vec Ideal S1x1024 .f32)
  (x5 x6 : Vec Ideal S1x1024x1408 .bf16) (x7 : Vec Ideal S1408x1024 .bf16)

theorem rows_val (r : Fin 512) (l : Fin 1024) : (rows x0 x1 x2 x4 (ix2 r l) : EReal)
    = normed (fun y => x0 (ix2 r y)) (fun y => x4 (ix2 0 y)) (fun y => x1 (ix3 0 0 y)) (fun y => x2 (ix3 0 0 y)) l := by
  unfold rows k0_pay9 normed
  pointwise

theorem gate_val (r : Fin 512) (q : Fin 1408) : k0_pay12 h x5 (ix2 r q) = ∑ l : Fin 1024, (h (ix2 r l) : EReal) * x5 (ix3 0 l q) := by
  unfold k0_pay12 k0_pay11
  pointwise

theorem up_val (r : Fin 512) (q : Fin 1408) : k0_pay13 h x6 (ix2 r q) = ∑ l : Fin 1024, (h (ix2 r l) : EReal) * x6 (ix3 0 l q) := by
  unfold k0_pay13 k0_pay11
  pointwise

theorem gate_out (r : Fin 512) (q : Fin 1408) : (k0_pay14 h x5 (ix2 r q) : EReal) = k0_pay12 h x5 (ix2 r q) := by
  unfold k0_pay14
  generalize k0_pay12 h x5 = u
  pointwise

theorem up_out (r : Fin 512) (q : Fin 1408) : (k0_pay15 h x6 (ix2 r q) : EReal) = k0_pay13 h x6 (ix2 r q) := by
  unfold k0_pay15
  generalize k0_pay13 h x6 = u
  pointwise

theorem added_val (r : Fin 512) (d : Fin 1024) : added h x5 x6 x7 acc (ix2 r d)
    = acc (ix2 r d) + ∑ q : Fin 1408, silu (k0_pay12 h x5 (ix2 r q)) * k0_pay13 h x6 (ix2 r q) * x7 (ix2 q d) := by
  unfold added k0_pay1 k0_pay16 silu
  generalize k0_pay12 h x5 = u
  generalize k0_pay13 h x6 = v
  pointwise

theorem zero_val (r : Fin 512) (d : Fin 1024) : k0_pay10 (F := Ideal) (ix2 r d) = (0 : EReal) := by
  unfold k0_pay10
  pointwise

theorem err_val (r : Fin 512) (d : Fin 1024) : k0_pay5 acc x0 x3 x8 (ix2 r d) = x0 (ix2 r d) + x3 (ix3 0 0 d) * acc (ix2 r d) - x8 (ix2 r d) := by
  unfold k0_pay5
  pointwise

theorem dy_val (r : Fin 512) (d : Fin 1024) : k0_pay6 acc x0 x3 x8 (ix2 r d) = k0_pay5 acc x0 x3 x8 (ix2 r d) * Ideal.ofBits FTy.f32 981467136#32 := by
  unfold k0_pay6
  generalize k0_pay5 acc x0 x3 x8 = u
  pointwise

theorem part_val (d : Fin 1024) : k0_pay7 acc x0 x3 x8 (ix2 0 d) = ∑ r : Fin 512, k0_pay6 acc x0 x3 x8 (ix2 r d) * acc (ix2 r d) := by
  unfold k0_pay7
  generalize k0_pay6 acc x0 x3 x8 = u
  pointwise

theorem dg_first (p : FVec Ideal S1x1024 .f32) (d : Fin 1024) : k0_pay3 p (ix3 0 0 d) = p (ix2 0 d) := by
  unfold k0_pay3
  pointwise

theorem dg_next (p : FVec Ideal S1x1024 .f32) (y : Vec Ideal S1x1x1024 .f32) (d : Fin 1024) : k0_pay4 p y (ix3 0 0 d) = y (ix3 0 0 d) + p (ix2 0 d) := by
  unfold k0_pay4
  pointwise

theorem loss_first (a : Fin 8) (b : Fin 128) : k0_pay2 (F := Ideal) (ix2 a b) = (0 : EReal) := by
  unfold k0_pay2
  pointwise

theorem loss_next (y : Vec Ideal S8x128 .f32) (a : Fin 8) (b : Fin 128) : k0_pay8 acc x0 x3 x8 y (ix2 a b)
    = y (ix2 a b) + (∑ r : Fin 512, ∑ d : Fin 1024, k0_pay5 acc x0 x3 x8 (ix2 r d) * k0_pay5 acc x0 x3 x8 (ix2 r d)) * Ideal.ofBits FTy.f32 973078528#32 := by
  unfold k0_pay8
  generalize k0_pay5 acc x0 x3 x8 = u
  pointwise

end Cert.Kernel7Ideal.Gen

end
-- ==== Proof.FfnSweep.lean ====
module

public import proofs.«01_k».proof.Proof.FfnRun
public import Idealize.ShloMosaic.Lib.Pipeline.TableIdle
public import Idealize.ShloMosaic.Lib.Claim

/-! # The sweep over the feed-forward's grid

What the windows and the accumulator hold after each point, and the run of the whole launch. -/

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)
theorem cond4_iff : ∀ t : Fin cfg0.N, k0_cond4 (grid0.coords t) = 1#1 ↔ t.val % 8 < 2 :=
  (by decide +kernel : ∀ t : Fin grid0.N, k0_cond4 (grid0.coords t) = 1#1 ↔ t.val % 8 < 2)
theorem cond5_iff : ∀ t : Fin cfg0.N, k0_cond5 (grid0.coords t) = 1#1 ↔ ¬ k0_cond4 (grid0.coords t) = 1#1 :=
  (by decide +kernel : ∀ t : Fin grid0.N, k0_cond5 (grid0.coords t) = 1#1 ↔ ¬ k0_cond4 (grid0.coords t) = 1#1)

/-- The `n`-th point. -/
def point (n : ℕ) : Fin cfg0.N := ⟨n % 16, by rw [show cfg0.N = 16 from N_0]; exact Nat.mod_lt _ (by decide)⟩

theorem point_val (t : Fin cfg0.N) : point t.val = t :=
  Fin.ext (Nat.mod_eq_of_lt (lt_of_lt_of_eq t.isLt (show cfg0.N = 16 from N_0)))

variable (m : (ℓ : Loc nD τ sig) → Buf (Elt F) ℓ) (ρ : Dev nD → PrngReg)

/-! ## What the points leave -/

/-- The rows of the block of rows of point `n`, made at its first half. -/
def rowsAt (c : Dev nD) (n : ℕ) : Vec F S512x1024 .bf16 :=
  rows (iblk m c 0 (point (n - n % 2))) (iblk m c 1 (point (n - n % 2))) (iblk m c 2 (point (n - n % 2))) (iblk m c 4 (point (n - n % 2)))

/-- Point `n`'s half of the hidden columns added to an accumulator. -/
def halfAt (c : Dev nD) (n : ℕ) (acc : Vec F S512x1024 .f32) : Vec F S512x1024 .f32 :=
  added (rowsAt m c n) (iblk m c 5 (point n)) (iblk m c 6 (point n)) (iblk m c 7 (point n)) acc

/-- The accumulator after point `n`. -/
def accAt (c : Dev nD) (n : ℕ) : Vec F S512x1024 .f32 :=
  if n % 2 = 0 then halfAt m c n k0_pay10 else halfAt m c n (halfAt m c (n - 1) k0_pay10)

/-- The gradient of the output over a block of rows, -/
def dyAt (c : Dev nD) (n : ℕ) : Vec F S512x1024 .f32 :=
  k0_pay6 (accAt m c n) (iblk m c 0 (point n)) (iblk m c 3 (point n)) (iblk m c 8 (point n))
/-- the block's share of the gradient of the gate, -/
def partAt (c : Dev nD) (n : ℕ) : FVec F S1x1024 .f32 :=
  k0_pay7 (accAt m c n) (iblk m c 0 (point n)) (iblk m c 3 (point n)) (iblk m c 8 (point n))

/-- that gradient over the blocks of a batch entry so far, -/
def gateAt (c : Dev nD) : ℕ → Vec F S1x1x1024 .f32
  | 0 => k0_pay3 (partAt m c 0)
  | n + 1 => if (n + 1) % 2 = 0 then gateAt c n else
      if (n + 1) % 8 < 2 then k0_pay3 (partAt m c (n + 1)) else k0_pay4 (partAt m c (n + 1)) (gateAt c n)

/-- and the loss over the blocks so far. -/
def lossAt (c : Dev nD) : ℕ → Vec F S8x128 .f32
  | 0 => k0_pay2
  | n + 1 => if (n + 1) % 2 = 0 then lossAt c n else
      k0_pay8 (accAt m c (n + 1)) (iblk m c 0 (point (n + 1))) (iblk m c 3 (point (n + 1))) (iblk m c 8 (point (n + 1))) (lossAt c n)

theorem rowsAt_even (c : Dev nD) (t : Fin cfg0.N) (h : t.val % 2 = 0) : rowsAt m c t.val = rows (iblk m c 0 t) (iblk m c 1 t) (iblk m c 2 t) (iblk m c 4 t) := by
  unfold rowsAt; rw [h, Nat.sub_zero, point_val]
theorem rowsAt_odd (c : Dev nD) (n : ℕ) (h : n % 2 = 1) : rowsAt m c n = rowsAt m c (n - 1) := by
  unfold rowsAt; rw [show n - n % 2 = n - 1 - (n - 1) % 2 by omega]
theorem accAt_even (c : Dev nD) (t : Fin cfg0.N) (h : t.val % 2 = 0) :
    accAt m c t.val = added (rows (iblk m c 0 t) (iblk m c 1 t) (iblk m c 2 t) (iblk m c 4 t)) (iblk m c 5 t) (iblk m c 6 t) (iblk m c 7 t) k0_pay10 := by
  unfold accAt halfAt; rw [if_pos h, rowsAt_even m c t h, point_val]
theorem accAt_odd (c : Dev nD) (t : Fin cfg0.N) (h : ¬ t.val % 2 = 0) :
    accAt m c t.val = added (rowsAt m c t.val) (iblk m c 5 t) (iblk m c 6 t) (iblk m c 7 t) (accAt m c (t.val - 1)) := by
  conv_rhs => unfold accAt
  rw [if_pos (by omega : (t.val - 1) % 2 = 0)]
  have e : ∀ a, halfAt m c t.val a = added (rowsAt m c t.val) (iblk m c 5 t) (iblk m c 6 t) (iblk m c 7 t) a := fun a => by
    unfold halfAt; rw [point_val]
  unfold accAt; rw [if_neg h, e]
theorem dyAt_val (c : Dev nD) (t : Fin cfg0.N) : dyAt m c t.val = k0_pay6 (accAt m c t.val) (iblk m c 0 t) (iblk m c 3 t) (iblk m c 8 t) := by
  unfold dyAt; rw [point_val]
theorem gateAt_even (c : Dev nD) (n : ℕ) (h0 : n ≠ 0) (h : n % 2 = 0) : gateAt m c n = gateAt m c (n - 1) := by
  obtain ⟨k, rfl⟩ : ∃ k, n = k + 1 := ⟨n - 1, by omega⟩
  rw [gateAt, if_pos h, Nat.add_sub_cancel]
theorem gateAt_odd (c : Dev nD) (t : Fin cfg0.N) (h : ¬ t.val % 2 = 0) :
    gateAt m c t.val = if t.val % 8 < 2 then k0_pay3 (k0_pay7 (accAt m c t.val) (iblk m c 0 t) (iblk m c 3 t) (iblk m c 8 t))
      else k0_pay4 (k0_pay7 (accAt m c t.val) (iblk m c 0 t) (iblk m c 3 t) (iblk m c 8 t)) (gateAt m c (t.val - 1)) := by
  have e : partAt m c t.val = k0_pay7 (accAt m c t.val) (iblk m c 0 t) (iblk m c 3 t) (iblk m c 8 t) := by unfold partAt; rw [point_val]
  rw [← e]
  obtain ⟨k, hk⟩ : ∃ k, t.val = k + 1 := ⟨t.val - 1, by omega⟩
  rw [hk] at h ⊢
  rw [gateAt, if_neg h, Nat.add_sub_cancel]
theorem lossAt_even (c : Dev nD) (n : ℕ) (h0 : n ≠ 0) (h : n % 2 = 0) : lossAt m c n = lossAt m c (n - 1) := by
  obtain ⟨k, rfl⟩ : ∃ k, n = k + 1 := ⟨n - 1, by omega⟩
  rw [lossAt, if_pos h, Nat.add_sub_cancel]
theorem lossAt_odd (c : Dev nD) (t : Fin cfg0.N) (h : ¬ t.val % 2 = 0) :
    lossAt m c t.val = k0_pay8 (accAt m c t.val) (iblk m c 0 t) (iblk m c 3 t) (iblk m c 8 t) (lossAt m c (t.val - 1)) := by
  have e : lossAt m c t.val = k0_pay8 (accAt m c t.val) (iblk m c 0 (point t.val)) (iblk m c 3 (point t.val)) (iblk m c 8 (point t.val)) (lossAt m c (t.val - 1)) := by
    obtain ⟨k, hk⟩ : ∃ k, t.val = k + 1 := ⟨t.val - 1, by omega⟩
    rw [hk] at h ⊢
    rw [lossAt, if_neg h, Nat.add_sub_cancel]
  rw [e, point_val]

/-! ## The accumulator between points -/

/-- The accumulator's buffer. -/
abbrev accM : Memref sig .tc .vmem S512x1024 .f32 := Memref.whole cc0_scratch0

/-- Before position `n`: the accumulator at what the point before left. -/
def PhiS (c : Dev nD) : (n : ℕ) → n ≤ cfg0.N → sProp 𝕄
  | 0, _ => Pipeline.ΦA spec0 c
  | n + 1, _ => iprop(owns (c : Thread nD τ) accM fullShare (accAt m c n) ∗ (∃ r, prngReg c r))

theorem PhiA_eq (c : Dev nD) :
    (Pipeline.ΦA spec0 c : sProp 𝕄) = iprop((∃ d, owns (c : Thread nD τ) accM fullShare d) ∗ (∃ r, prngReg c r)) := by
  unfold Pipeline.ΦA; rw [scopedRest0_eq]; simp only [accM, owns_whole]; try rfl

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(owns (c : Thread nD τ) accM fullShare (accAt m c (n - 1)) ∗ (∃ r, prngReg c r)) := by
  cases n with
  | zero => exact absurd rfl hz
  | succ n => rfl

/-! ## The pipeline's proof data -/

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsAt m c t.val
    | ⟨10, _⟩ => k0_pay14 (rowsAt m c t.val) (iblk m c 5 t)
    | ⟨11, _⟩ => k0_pay15 (rowsAt m c t.val) (iblk m c 6 t)
    | ⟨12, _⟩ => dyAt m c t.val
    | ⟨13, _⟩ => gateAt m c t.val
    | ⟨14, _⟩ => lossAt m c t.val
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = rowsAt m c t.val := by dsimp only [dats]
theorem after0_10 (c : Dev nD) (t : Fin cfg0.N) : (dats m 0 c).after 10 t = k0_pay14 (rowsAt m c t.val) (iblk m c 5 t) := by dsimp only [dats]
theorem after0_11 (c : Dev nD) (t : Fin cfg0.N) : (dats m 0 c).after 11 t = k0_pay15 (rowsAt m c t.val) (iblk m c 6 t) := by dsimp only [dats]
theorem after0_12 (c : Dev nD) (t : Fin cfg0.N) : (dats m 0 c).after 12 t = dyAt m c t.val := by dsimp only [dats]
theorem after0_13 (c : Dev nD) (t : Fin cfg0.N) : (dats m 0 c).after 13 t = gateAt m c t.val := by dsimp only [dats]
theorem after0_14 (c : Dev nD) (t : Fin cfg0.N) : (dats m 0 c).after 14 t = lossAt m c t.val := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem fresh9 : ∀ t : Fin cfg0.N, ¬ t.val % 2 = 0 → cfg0.fresh 9 t.val = false :=
  (by decide +kernel : ∀ t : Fin grid0.N, ¬ t.val % 2 = 0 → cfg0.fresh 9 t.val = false)
theorem fresh13 : ∀ t : Fin cfg0.N, ¬ t.val % 2 = 0 → ¬ t.val % 8 < 2 → cfg0.fresh 13 t.val = false :=
  (by decide +kernel : ∀ t : Fin grid0.N, ¬ t.val % 2 = 0 → ¬ t.val % 8 < 2 → cfg0.fresh 13 t.val = false)
theorem fresh14 : ∀ t : Fin cfg0.N, ¬ t.val = 0 → cfg0.fresh 14 t.val = false :=
  (by decide +kernel : ∀ t : Fin grid0.N, ¬ t.val = 0 → cfg0.fresh 14 t.val = false)

theorem idle9 : ∀ t : Fin cfg0.N, cfg0.idle 9 (grid0.coords t) = !(decide (t.val % 2 = 0)) :=
  (by decide +kernel : ∀ t : Fin grid0.N, cfg0.idle 9 (grid0.coords t) = !(decide (t.val % 2 = 0)))
theorem idle12 : ∀ t : Fin cfg0.N, cfg0.idle 12 (grid0.coords t) = decide (t.val % 2 = 0) :=
  (by decide +kernel : ∀ t : Fin grid0.N, cfg0.idle 12 (grid0.coords t) = decide (t.val % 2 = 0))
theorem idle13 : ∀ t : Fin cfg0.N, cfg0.idle 13 (grid0.coords t) = decide (t.val % 2 = 0) :=
  (by decide +kernel : ∀ t : Fin grid0.N, cfg0.idle 13 (grid0.coords t) = decide (t.val % 2 = 0))
theorem idle14 : ∀ t : Fin cfg0.N, cfg0.idle 14 (grid0.coords t) = decide (t.val % 2 = 0 ∧ t.val ≠ 0) :=
  (by decide +kernel : ∀ t : Fin grid0.N, cfg0.idle 14 (grid0.coords t) = decide (t.val % 2 = 0 ∧ t.val ≠ 0))

/-- At the second half the buffer of rows holds the first half's, -/
theorem before0_9 (c : Dev nD) (t : Fin cfg0.N) (h : ¬ t.val % 2 = 0) (d) : (dats m 0 c).before 9 t d = rowsAt m c t.val := by
  rw [(dats m 0 c).before_out_traj 9 rfl (fun _ _ => rfl) (fun s h0 hi _ => by
    rw [idle9] at hi
    have hs : ¬ s.val % 2 = 0 := by simpa using hi
    rw [after0_9, after0_9]; exact rowsAt_odd m c s.val (by omega)) t.val t rfl d, fresh9 t h, if_neg Bool.false_ne_true, after0_9]
  exact (rowsAt_odd m c t.val (by omega)).symm
/-- past a batch entry's first block the gate's gradient what the block before left, -/
theorem before0_13 (c : Dev nD) (t : Fin cfg0.N) (h : ¬ t.val % 2 = 0) (h8 : ¬ t.val % 8 < 2) (d) : (dats m 0 c).before 13 t d = gateAt m c (t.val - 1) := by
  rw [(dats m 0 c).before_out_traj 13 rfl (fun _ _ => rfl) (fun s h0 hi _ => by
    rw [idle13] at hi
    have hs : s.val % 2 = 0 := by simpa using hi
    rw [after0_13, after0_13]; exact gateAt_even m c s.val h0 hs) t.val t rfl d, fresh13 t h h8, if_neg Bool.false_ne_true, after0_13]
/-- and past the first point the loss what the point before left. -/
theorem before0_14 (c : Dev nD) (t : Fin cfg0.N) (h : ¬ t.val = 0) (d) : (dats m 0 c).before 14 t d = lossAt m c (t.val - 1) := by
  rw [(dats m 0 c).before_out_traj 14 rfl (fun _ _ => rfl) (fun s h0 hi _ => by
    rw [idle14] at hi
    have hs : s.val % 2 = 0 ∧ s.val ≠ 0 := by simpa using hi
    rw [after0_14, after0_14]; exact lossAt_even m c s.val h0 hs.1) t.val t rfl d, fresh14 t h, if_neg Bool.false_ne_true, after0_14]

abbrev ms0_0 (t : Fin cfg0.N) : Memref sig .tc .vmem S512x1024 .f32 := win0_0.stage (cfg0.slots t 0)
abbrev ms0_1 (t : Fin cfg0.N) : Memref sig .tc .vmem S1x1x1024 .f32 := win0_1.stage (cfg0.slots t 1)
abbrev ms0_2 (t : Fin cfg0.N) : Memref sig .tc .vmem S1x1x1024 .f32 := win0_2.stage (cfg0.slots t 2)
abbrev ms0_3 (t : Fin cfg0.N) : Memref sig .tc .vmem S1x1x1024 .f32 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S1x1024x1408 .bf16 := win0_5.stage (cfg0.slots t 5)
abbrev ms0_6 (t : Fin cfg0.N) : Memref sig .tc .vmem S1x1024x1408 .bf16 := win0_6.stage (cfg0.slots t 6)
abbrev ms0_7 (t : Fin cfg0.N) : Memref sig .tc .vmem S1408x1024 .bf16 := win0_7.stage (cfg0.slots t 7)
abbrev ms0_8 (t : Fin cfg0.N) : Memref sig .tc .vmem S512x1024 .f32 := win0_8.stage (cfg0.slots t 8)
abbrev ms0_9 (t : Fin cfg0.N) : Memref sig .tc .vmem S512x1024 .bf16 := win0_9.stage (cfg0.slots t 9)
abbrev ms0_10 (t : Fin cfg0.N) : Memref sig .tc .vmem S512x1408 .bf16 := win0_10.stage (cfg0.slots t 10)
abbrev ms0_11 (t : Fin cfg0.N) : Memref sig .tc .vmem S512x1408 .bf16 := win0_11.stage (cfg0.slots t 11)
abbrev ms0_12 (t : Fin cfg0.N) : Memref sig .tc .vmem S512x1024 .f32 := win0_12.stage (cfg0.slots t 12)
abbrev ms0_13 (t : Fin cfg0.N) : Memref sig .tc .vmem S1x1x1024 .f32 := win0_13.stage (cfg0.slots t 13)
abbrev ms0_14 (t : Fin cfg0.N) : Memref sig .tc .vmem S8x128 .f32 := win0_14.stage (cfg0.slots t 14)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- A window the body stores into, or only reads, is left holding what the proof data say, -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- and so is one written back. -/
theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (grid0.coords t) <;> rfl

set_option maxHeartbeats 4800000 in
/-- The body at a block of rows' first half. -/
theorem sound_first (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = iprop(owns (c : Thread nD τ) accM fullShare (accAt m c t.val) ∗ (∃ r, prngReg c r)) from rfl]
  rw [leaves_live m c 0 t rfl, after0_0, leaves_live m c 1 t rfl, after0_1, leaves_live m c 2 t rfl, after0_2, leaves_live m c 3 t rfl, after0_3, leaves_live m c 4 t rfl, after0_4, leaves_live m c 5 t rfl, after0_5, leaves_live m c 6 t rfl, after0_6, leaves_live m c 7 t rfl, after0_7, leaves_live m c 8 t rfl, after0_8, leaves_live m c 10 t rfl, after0_10, leaves_live m c 11 t rfl, after0_11,
    leaves_live m c 9 t (by rw [idle9]; simp [h]), after0_9,
    Dat.leavesExact_idle (dats m 0 c) 12 t (by rw [idle12]; simp [h]) (Bool.eq_false_iff.mpr fun hf => by have := (flush0_12 t).mp hf; omega),
    Dat.leavesExact_idle (dats m 0 c) 13 t (by rw [idle13]; simp [h]) (Bool.eq_false_iff.mpr fun hf => by have := (flush0_13 t).mp hf; omega),
    rowsAt_even m c t h, accAt_even m c t h]
  have hc1 : k0_cond1 (grid0.coords t) = 1#1 := (cond1_iff t).mpr h
  have hc3 : ¬ k0_cond3 (grid0.coords t) = 1#1 := fun h3 => by have := (cond3_iff t).mp h3; omega
  by_cases hz : t.val = 0
  · have e : lossAt m c t.val = if k0_cond2 (grid0.coords t) = 1#1 then k0_pay2 else (lossAt m c t.val) := by
      rw [if_pos ((cond2_iff t).mpr hz), hz]; rfl
    have e14 : ∀ y : Vec F S8x128 .f32, (if k0_cond2 (grid0.coords t) = 1#1 then k0_pay2 else y) = lossAt m c t.val := fun y => by
      rw [if_pos ((cond2_iff t).mpr hz), hz]; rfl
    rw [leaves_live m c 14 t (by rw [idle14]; simp [hz]), after0_14]
    rw [Phi_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) _ _ _ _ _ _ _ _ _ _ _ _ _ _ _ _ _ _ _ _ _ _ _ _ _ _ _ _ _ _ _ _ hc1 hc3 (iblk m c 0 t) (iblk m c 1 t) (iblk m c 2 t) (iblk m c 3 t) (iblk m c 4 t) (iblk m c 5 t) (iblk m c 6 t) (iblk m c 7 t) (iblk m c 8 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    rw [← e14]; iexact H14
  · have e14 : ∀ y : Vec F S8x128 .f32, (if k0_cond2 (grid0.coords t) = 1#1 then k0_pay2 else y) = y := fun y =>
      if_neg fun h2 => hz ((cond2_iff t).mp h2)
    rw [Dat.leavesExact_idle (dats m 0 c) 14 t (by rw [idle14]; simp [h, hz]) (Bool.eq_false_iff.mpr fun hf => by have := (flush0_14 t).mp hf; omega)]
    rw [Phi_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) _ _ _ _ _ _ _ _ _ _ _ _ _ _ _ _ _ _ _ _ _ _ _ _ _ _ _ _ _ _ _ _ hc1 hc3 (iblk m c 0 t) (iblk m c 1 t) (iblk m c 2 t) (iblk m c 3 t) (iblk m c 4 t) (iblk m c 5 t) (iblk m c 6 t) (iblk m c 7 t) (iblk m c 8 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [HS]; · iexists _; iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists d14; rw [e14]; iexact H14

set_option maxHeartbeats 4800000 in
/-- The body at a block of rows' second half. -/
theorem sound_second (c : Dev nD) (t : Fin cfg0.N) (h : ¬ t.val % 2 = 0) :
    bodyPre m c t ⊢ wp frame (wpE (defs₀ (F := F)) Variants.none c none) Set.univ (bodyAt0 t) (fun _ => bodyPost m c t) := by
  unfold bodyPre bodyPost bodyAt0
  have hz : t.val ≠ 0 := fun hz => h (by rw [hz])
  simp only [before0_0, before0_1, before0_2, before0_3, before0_4, before0_5, before0_6, before0_7, before0_8, before0_9 m c t h, before0_14 m c t hz]
  rw [show (dats m 0 c).owesAt () t.succ = (dats m 0 c).owesAt () t.castSucc from rfl]
  rw [show (dats m 0 c).Φ t.succ = iprop(owns (c : Thread nD τ) accM fullShare (accAt m c t.val) ∗ (∃ r, prngReg c r)) from rfl]
  rw [leaves_live m c 0 t rfl, after0_0, leaves_live m c 1 t rfl, after0_1, leaves_live m c 2 t rfl, after0_2, leaves_live m c 3 t rfl, after0_3, leaves_live m c 4 t rfl, after0_4, leaves_live m c 5 t rfl, after0_5, leaves_live m c 6 t rfl, after0_6, leaves_live m c 7 t rfl, after0_7, leaves_live m c 8 t rfl, after0_8, leaves_live m c 10 t rfl, after0_10, leaves_live m c 11 t rfl, after0_11,
    leaves_flush m c 9 t ((flush0_9 t).mpr (by omega)), after0_9,
    leaves_live m c 12 t (by rw [idle12]; simp [h]), after0_12, leaves_live m c 13 t (by rw [idle13]; simp [h]), after0_13,
    leaves_live m c 14 t (by rw [idle14]; simp [h]), after0_14, dyAt_val, gateAt_odd m c t h, lossAt_odd m c t h, accAt_odd m c t h]
  have hc1 : ¬ k0_cond1 (grid0.coords t) = 1#1 := fun h1 => h ((cond1_iff t).mp h1)
  have hc2 : ¬ k0_cond2 (grid0.coords t) = 1#1 := fun h2 => hz ((cond2_iff t).mp h2)
  have hc3 : k0_cond3 (grid0.coords t) = 1#1 := (cond3_iff t).mpr (by omega)
  by_cases h8 : t.val % 8 < 2
  · have e13 : ∀ a b : Vec F S1x1x1024 .f32, (if k0_cond4 (grid0.coords t) = 1#1 then a else b) = a := fun a b => if_pos ((cond4_iff t).mpr h8)
    rw [if_pos h8]
    rw [Phi_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_second c (grid0.coords t) _ _ _ _ _ _ _ _ _ _ _ _ _ _ _ _ _ _ _ _ _ _ _ _ _ _ _ _ _ _ _ _ hc1 hc2 hc3 (cond5_iff t) (iblk m c 0 t) (iblk m c 1 t) (iblk m c 2 t) (iblk m c 3 t) (iblk m c 4 t) (iblk m c 5 t) (iblk m c 6 t) (iblk m c 7 t) (iblk m c 8 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · rw [e13]; iexact H13
    iexact H14
  · have e13 : ∀ a b : Vec F S1x1x1024 .f32, (if k0_cond4 (grid0.coords t) = 1#1 then a else b) = b := fun a b => if_neg fun h4 => h8 ((cond4_iff t).mp h4)
    simp only [before0_13 m c t h h8]
    rw [if_neg h8]
    rw [Phi_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_second c (grid0.coords t) _ _ _ _ _ _ _ _ _ _ _ _ _ _ _ _ _ _ _ _ _ _ _ _ _ _ _ _ _ _ _ _ hc1 hc2 hc3 (cond5_iff t) (iblk m c 0 t) (iblk m c 1 t) (iblk m c 2 t) (iblk m c 3 t) (iblk m c 4 t) (iblk m c 5 t) (iblk m c 6 t) (iblk m c 7 t) (iblk m c 8 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · rw [e13]; iexact H13
    iexact H14

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val % 2 = 0
  · exact triple_restated (sound_first m c t h) rfl .rfl fun _ => .rfl
  · exact triple_restated (sound_second m c t h) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by rw [show cfg0.N = 16 from N_0]; decide), PhiA_eq]
  iintro ⟨HS, Hg⟩
  isplitl [HS]
  · iexists _; iexact HS
  iexact Hg

set_option backward.isDefEq.respectTransparency.types false in
/-- The launch: every execution ends with the arrays as the proof data say and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame, over any floating-point values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel7Ideal.Gen

end
-- ==== Proof.FfnFwd.lean ====
module

public import proofs.«01_k».proof.Proof.FfnBody
public import proofs.«01_k».proof.Proof.FfnSweep

/-! # The feed-forward: the kernel

Point `(i, f)` of the grid takes 512 rows through half `f` of the hidden columns. -/

@[expose] public section

noncomputable section

namespace Cert.Kernel7Ideal.Gen

open Idealize.ShloMosaic Cert.Tiles Cert.Ffn

variable (m : (ℓ : Loc nD τ sig) → Buf (Elt Ideal) ℓ) (c : Dev nD)

/-- The arguments as launched. -/
abbrev arg0 : Vec Ideal S4096x1024 .f32 := m ((c.tc : Thread nD τ).loc main_arg0)
abbrev arg1 : Vec Ideal S2x1x1024 .f32 := m ((c.tc : Thread nD τ).loc main_arg1)
abbrev arg2 : Vec Ideal S2x1x1024 .f32 := m ((c.tc : Thread nD τ).loc main_arg2)
abbrev arg3 : Vec Ideal S2x1x1024 .f32 := m ((c.tc : Thread nD τ).loc main_arg3)
abbrev arg4 : Vec Ideal S1x1024 .f32 := m ((c.tc : Thread nD τ).loc main_arg4)
abbrev arg5 : Vec Ideal S4x1024x1408 .bf16 := m ((c.tc : Thread nD τ).loc main_arg5)
abbrev arg6 : Vec Ideal S2816x1024 .bf16 := m ((c.tc : Thread nD τ).loc main_arg6)
abbrev arg7 : Vec Ideal S4096x1024 .f32 := m ((c.tc : Thread nD τ).loc main_arg7)

def args : Args where
  x r l := arg0 m c (ix2 r l)
  sh b l := arg1 m c (ix3 b 0 l)
  sc b l := arg2 m c (ix3 b 0 l)
  g b l := arg3 m c (ix3 b 0 l)
  w l := arg4 m c (ix2 0 l)
  win k l q := arg5 m c (ix3 k l q)
  wout q d := arg6 m c (ix2 q d)
  tgt r d := arg7 m c (ix2 r d)

/-! ## The points and their blocks -/

/-- The point of a tile of rows and a half. -/
def pt (i : Fin 8) (f : Fin 2) : Fin cfg0.N := ⟨2 * i.val + f.val, by rw [show cfg0.N = 16 from N_0]; omega⟩

/-- A row of a tile. -/
def tile (i : Fin 8) (r : Fin 512) : Fin 4096 := ⟨i.val * 512 + r.val, by omega⟩

theorem entry_tile (i : Fin 8) (r : Fin 512) : entry (tile i r) = ⟨i.val / 4, by omega⟩ :=
  Fin.ext (by show (i.val * 512 + r.val) / 2048 = i.val / 4; omega)

theorem exists_pt (t : Fin cfg0.N) : ∃ i f, t = pt i f := by
  have hN : t.val < 16 := lt_of_lt_of_eq t.isLt (show cfg0.N = 16 from N_0)
  exact ⟨⟨t.val / 2, by omega⟩, ⟨t.val % 2, by omega⟩, Fin.ext (by show t.val = 2 * (t.val / 2) + t.val % 2; omega)⟩

theorem index0 : ∀ i f, (cfg0.win 0).index (pt i f) 0 = i.val ∧ (cfg0.win 0).index (pt i f) 1 = 0 := by decide +kernel
theorem index1 : ∀ i f, (cfg0.win 1).index (pt i f) 0 = i.val / 4 ∧ (cfg0.win 1).index (pt i f) 1 = 0 ∧ (cfg0.win 1).index (pt i f) 2 = 0 := by decide +kernel
theorem index2 : ∀ i f, (cfg0.win 2).index (pt i f) 0 = i.val / 4 ∧ (cfg0.win 2).index (pt i f) 1 = 0 ∧ (cfg0.win 2).index (pt i f) 2 = 0 := by decide +kernel
theorem index3 : ∀ i f, (cfg0.win 3).index (pt i f) 0 = i.val / 4 ∧ (cfg0.win 3).index (pt i f) 1 = 0 ∧ (cfg0.win 3).index (pt i f) 2 = 0 := by decide +kernel
theorem index4 : ∀ i f, (cfg0.win 4).index (pt i f) 0 = 0 ∧ (cfg0.win 4).index (pt i f) 1 = 0 := by decide +kernel
theorem index5 : ∀ i f, (cfg0.win 5).index (pt i f) 0 = f.val ∧ (cfg0.win 5).index (pt i f) 1 = 0 ∧ (cfg0.win 5).index (pt i f) 2 = 0 := by decide +kernel
theorem index6 : ∀ i f, (cfg0.win 6).index (pt i f) 0 = 2 + f.val ∧ (cfg0.win 6).index (pt i f) 1 = 0 ∧ (cfg0.win 6).index (pt i f) 2 = 0 := by decide +kernel
theorem index7 : ∀ i f, (cfg0.win 7).index (pt i f) 0 = f.val ∧ (cfg0.win 7).index (pt i f) 1 = 0 := by decide +kernel
theorem index8 : ∀ i f, (cfg0.win 8).index (pt i f) 0 = i.val ∧ (cfg0.win 8).index (pt i f) 1 = 0 := by decide +kernel
theorem index9 : ∀ i f, (cfg0.win 9).index (pt i f) 0 = i.val ∧ (cfg0.win 9).index (pt i f) 1 = 0 := by decide +kernel
theorem index10 : ∀ i f, (cfg0.win 10).index (pt i f) 0 = i.val ∧ (cfg0.win 10).index (pt i f) 1 = f.val := by decide +kernel
theorem index11 : ∀ i f, (cfg0.win 11).index (pt i f) 0 = i.val ∧ (cfg0.win 11).index (pt i f) 1 = f.val := by decide +kernel
theorem index12 : ∀ i f, (cfg0.win 12).index (pt i f) 0 = i.val ∧ (cfg0.win 12).index (pt i f) 1 = 0 := by decide +kernel
theorem index13 : ∀ i f, (cfg0.win 13).index (pt i f) 0 = i.val / 4 ∧ (cfg0.win 13).index (pt i f) 1 = 0 ∧ (cfg0.win 13).index (pt i f) 2 = 0 := by decide +kernel
theorem index14 : ∀ i f, (cfg0.win 14).index (pt i f) 0 = 0 ∧ (cfg0.win 14).index (pt i f) 1 = 0 := by decide +kernel

variable (i : Fin 8) (f : Fin 2)

theorem x_at (r : Fin 512) (l : Fin 1024) : iblk m c 0 (pt i f) (ix2 r l) = (args m c).x (tile i r) l := by
  obtain ⟨h0, h1⟩ := index0 i f
  refine Eq.trans ?_ (congrFun (V_main_arg0 m c) _)
  unfold iblk tile
  blk_ext [h0, h1]

theorem shift_at (l : Fin 1024) : iblk m c 1 (pt i f) (ix3 0 0 l) = (args m c).sh ⟨i.val / 4, by omega⟩ l := by
  obtain ⟨h0, h1, h2⟩ := index1 i f
  refine Eq.trans ?_ (congrFun (V_main_arg1 m c) _)
  unfold iblk
  blk_ext [h0, h1, h2]

theorem scale_at (l : Fin 1024) : iblk m c 2 (pt i f) (ix3 0 0 l) = (args m c).sc ⟨i.val / 4, by omega⟩ l := by
  obtain ⟨h0, h1, h2⟩ := index2 i f
  refine Eq.trans ?_ (congrFun (V_main_arg2 m c) _)
  unfold iblk
  blk_ext [h0, h1, h2]

theorem gain_at (l : Fin 1024) : iblk m c 3 (pt i f) (ix3 0 0 l) = (args m c).g ⟨i.val / 4, by omega⟩ l := by
  obtain ⟨h0, h1, h2⟩ := index3 i f
  refine Eq.trans ?_ (congrFun (V_main_arg3 m c) _)
  unfold iblk
  blk_ext [h0, h1, h2]

theorem norm_at (l : Fin 1024) : iblk m c 4 (pt i f) (ix2 0 l) = (args m c).w l := by
  obtain ⟨h0, h1⟩ := index4 i f
  refine Eq.trans ?_ (congrFun (V_main_arg4 m c) _)
  unfold iblk
  blk_ext [h0, h1]

theorem gate_weight_at (l : Fin 1024) (q : Fin 1408) : iblk m c 5 (pt i f) (ix3 0 l q) = (args m c).win ⟨f.val, by omega⟩ l q := by
  obtain ⟨h0, h1, h2⟩ := index5 i f
  refine Eq.trans ?_ (congrFun (V_main_arg5 m c) _)
  unfold iblk
  blk_ext [h0, h1, h2]

theorem up_weight_at (l : Fin 1024) (q : Fin 1408) : iblk m c 6 (pt i f) (ix3 0 l q) = (args m c).win ⟨2 + f.val, by omega⟩ l q := by
  obtain ⟨h0, h1, h2⟩ := index6 i f
  refine Eq.trans ?_ (congrFun (V_main_arg5 m c) _)
  unfold iblk
  blk_ext [h0, h1, h2]

theorem out_weight_at (q : Fin 1408) (d : Fin 1024) : iblk m c 7 (pt i f) (ix2 q d) = (args m c).wout ⟨f.val * 1408 + q.val, by omega⟩ d := by
  obtain ⟨h0, h1⟩ := index7 i f
  refine Eq.trans ?_ (congrFun (V_main_arg6 m c) _)
  unfold iblk
  blk_ext [h0, h1]

theorem target_at (r : Fin 512) (d : Fin 1024) : iblk m c 8 (pt i f) (ix2 r d) = (args m c).tgt (tile i r) d := by
  obtain ⟨h0, h1⟩ := index8 i f
  refine Eq.trans ?_ (congrFun (V_main_arg7 m c) _)
  unfold iblk tile
  blk_ext [h0, h1]

/-! ## What the points hold -/

theorem rows_at (r : Fin 512) (l : Fin 1024) : (rowsAt m c (pt i f).val (ix2 r l) : EReal) = row (args m c) (tile i r) l := by
  have e : point ((pt i f).val - (pt i f).val % 2) = pt i 0 :=
    Fin.ext (by show (2 * i.val + f.val - (2 * i.val + f.val) % 2) % 16 = 2 * i.val + 0; omega)
  unfold rowsAt
  rw [e, rows_val]
  simp only [x_at, shift_at, scale_at, norm_at]
  rw [row, entry_tile]

theorem gates_at (r : Fin 512) (q : Fin 1408) :
    k0_pay12 (rowsAt m c (pt i f).val) (iblk m c 5 (pt i f)) (ix2 r q) = prod (args m c) ⟨f.val, by omega⟩ (tile i r) q :=
  (gate_val _ _ r q).trans (Finset.sum_congr rfl fun l _ => congrArg₂ (· * ·) (rows_at m c i f r l) (gate_weight_at m c i f l q))

theorem ups_at (r : Fin 512) (q : Fin 1408) :
    k0_pay13 (rowsAt m c (pt i f).val) (iblk m c 6 (pt i f)) (ix2 r q) = prod (args m c) ⟨2 + f.val, by omega⟩ (tile i r) q :=
  (up_val _ _ r q).trans (Finset.sum_congr rfl fun l _ => congrArg₂ (· * ·) (rows_at m c i f r l) (up_weight_at m c i f l q))

theorem added_at (acc : Vec Ideal S512x1024 .f32) (r : Fin 512) (d : Fin 1024) :
    added (rowsAt m c (pt i f).val) (iblk m c 5 (pt i f)) (iblk m c 6 (pt i f)) (iblk m c 7 (pt i f)) acc (ix2 r d)
      = acc (ix2 r d) + half (args m c) f (tile i r) d :=
  (added_val _ _ _ _ _ r d).trans (congrArg _ (Finset.sum_congr rfl fun q _ =>
    congrArg₂ (· * ·) (congrArg₂ (· * ·) (congrArg silu (gates_at m c i f r q)) (ups_at m c i f r q)) (out_weight_at m c i f q d)))

theorem acc_first (r : Fin 512) (d : Fin 1024) : accAt m c (pt i 0).val (ix2 r d) = half (args m c) 0 (tile i r) d := by
  have h : (pt i 0).val % 2 = 0 := by show (2 * i.val + 0) % 2 = 0; omega
  rw [accAt_even m c _ h, ← rowsAt_even m c _ h, added_at, zero_val, zero_add]

theorem acc_last (r : Fin 512) (d : Fin 1024) : accAt m c (pt i 1).val (ix2 r d) = out (args m c) (tile i r) d := by
  have h : ¬ (pt i 1).val % 2 = 0 := by show ¬ (2 * i.val + 1) % 2 = 0; omega
  rw [accAt_odd m c _ h, added_at, show (pt i 1).val - 1 = (pt i 0).val from rfl, acc_first, out]

theorem err_at (r : Fin 512) (d : Fin 1024) :
    k0_pay5 (accAt m c (pt i 1).val) (iblk m c 0 (pt i 1)) (iblk m c 3 (pt i 1)) (iblk m c 8 (pt i 1)) (ix2 r d) = err (args m c) (tile i r) d := by
  refine (err_val _ _ _ _ r d).trans ?_
  rw [x_at, gain_at, acc_last, target_at, err, entry_tile]

theorem dys_at (r : Fin 512) (d : Fin 1024) :
    k0_pay6 (accAt m c (pt i 1).val) (iblk m c 0 (pt i 1)) (iblk m c 3 (pt i 1)) (iblk m c 8 (pt i 1)) (ix2 r d) = dy (args m c) (tile i r) d := by
  refine (dy_val _ _ _ _ r d).trans ?_
  rw [err_at, dy]

/-- A tile's part of the gradient of the gate. -/
def part (d : Fin 1024) : EReal := ∑ r : Fin 512, dy (args m c) (tile i r) d * out (args m c) (tile i r) d

theorem part_at (d : Fin 1024) :
    k0_pay7 (accAt m c (pt i 1).val) (iblk m c 0 (pt i 1)) (iblk m c 3 (pt i 1)) (iblk m c 8 (pt i 1)) (ix2 0 d) = part m c i d :=
  (part_val _ _ _ _ d).trans (Finset.sum_congr rfl fun r _ => congrArg₂ (· * ·) (dys_at m c i r d) (acc_last m c i r d))

/-- A tile's part of the loss. -/
def share : EReal := (∑ r : Fin 512, ∑ d : Fin 1024, err (args m c) (tile i r) d * err (args m c) (tile i r) d) * Ideal.ofBits FTy.f32 973078528#32

theorem odd1 : ¬ (pt i 1).val % 2 = 0 := by show ¬ (2 * i.val + 1) % 2 = 0; omega

theorem dg_start (h : i.val % 4 = 0) (d : Fin 1024) : gateAt m c (pt i 1).val (ix3 0 0 d) = part m c i d := by
  rw [gateAt_odd m c _ (odd1 i), if_pos (by show (2 * i.val + 1) % 8 < 2; omega), dg_first, part_at]

theorem dg_step (j : Fin 8) (hj : j.val + 1 = i.val) (h : ¬ i.val % 4 = 0) (d : Fin 1024) :
    gateAt m c (pt i 1).val (ix3 0 0 d) = gateAt m c (pt j 1).val (ix3 0 0 d) + part m c i d := by
  rw [gateAt_odd m c _ (odd1 i), if_neg (by show ¬ (2 * i.val + 1) % 8 < 2; omega), dg_next, part_at,
    gateAt_even m c ((pt i 1).val - 1) (by show ¬ 2 * i.val + 1 - 1 = 0; omega) (by show (2 * i.val + 1 - 1) % 2 = 0; omega),
    show (pt i 1).val - 1 - 1 = (pt j 1).val by show 2 * i.val + 1 - 1 - 1 = 2 * j.val + 1; omega]

theorem loss_start (a : Fin 8) (b : Fin 128) : lossAt m c (pt 0 1).val (ix2 a b) = share m c 0 := by
  rw [lossAt_odd m c _ (odd1 0), loss_next, show (pt 0 1).val - 1 = 0 from rfl, lossAt, loss_first, zero_add]
  simp only [err_at]
  rfl

theorem loss_step (j : Fin 8) (hj : j.val + 1 = i.val) (a : Fin 8) (b : Fin 128) :
    lossAt m c (pt i 1).val (ix2 a b) = lossAt m c (pt j 1).val (ix2 a b) + share m c i := by
  rw [lossAt_odd m c _ (odd1 i), loss_next,
    lossAt_even m c ((pt i 1).val - 1) (by show ¬ 2 * i.val + 1 - 1 = 0; omega) (by show (2 * i.val + 1 - 1) % 2 = 0; omega),
    show (pt i 1).val - 1 - 1 = (pt j 1).val by show 2 * i.val + 1 - 1 - 1 = 2 * j.val + 1; omega]
  simp only [err_at]
  rfl

/-- The loss after the last point. -/
theorem loss_last (a : Fin 8) (b : Fin 128) : lossAt m c (pt 7 1).val (ix2 a b) = loss (args m c) := by
  rw [loss_step m c 7 6 rfl, loss_step m c 6 5 rfl, loss_step m c 5 4 rfl, loss_step m c 4 3 rfl, loss_step m c 3 2 rfl, loss_step m c 2 1 rfl,
    loss_step m c 1 0 rfl, loss_start, loss, Fin.sum_univ_eight]
  rfl

/-- The last tile of a batch entry. -/
def lastTile (b : Fin 2) : Fin 8 := ⟨b.val * 4 + 3, by omega⟩

/-- A batch entry's gradient of the gate after its last point. -/
theorem dg_last (b : Fin 2) (d : Fin 1024) : gateAt m c (pt (lastTile b) 1).val (ix3 0 0 d) = dg (args m c) b d := by
  rw [lastTile, dg_step m c ⟨b.val * 4 + 3, by omega⟩ ⟨b.val * 4 + 2, by omega⟩ rfl (by show ¬ (b.val * 4 + 3) % 4 = 0; omega),
    dg_step m c ⟨b.val * 4 + 2, by omega⟩ ⟨b.val * 4 + 1, by omega⟩ rfl (by show ¬ (b.val * 4 + 2) % 4 = 0; omega),
    dg_step m c ⟨b.val * 4 + 1, by omega⟩ ⟨b.val * 4 + 0, by omega⟩ rfl (by show ¬ (b.val * 4 + 1) % 4 = 0; omega),
    dg_start m c ⟨b.val * 4 + 0, by omega⟩ (by show (b.val * 4 + 0) % 4 = 0; omega), dg,
    ← sum_tiles 4 512 rfl (fun n : Fin 2048 => dy (args m c) ⟨b.val * 2048 + n.val, by omega⟩ d * out (args m c) ⟨b.val * 2048 + n.val, by omega⟩ d),
    Fin.sum_univ_four]
  have e : ∀ k : Fin 4, part m c ⟨b.val * 4 + k.val, by omega⟩ d = ∑ r : Fin 512,
      dy (args m c) ⟨b.val * 2048 + (k.val * 512 + r.val), by omega⟩ d * out (args m c) ⟨b.val * 2048 + (k.val * 512 + r.val), by omega⟩ d := fun k =>
    Finset.sum_congr rfl fun r _ => by
      have : tile ⟨b.val * 4 + k.val, by omega⟩ r = ⟨b.val * 2048 + (k.val * 512 + r.val), by omega⟩ :=
        Fin.ext (by show (b.val * 4 + k.val) * 512 + r.val = b.val * 2048 + (k.val * 512 + r.val); omega)
      rw [this]
  exact congrArg₂ (· + ·) (congrArg₂ (· + ·) (congrArg₂ (· + ·) (e 0) (e 1)) (e 2)) (e 3)

/-! ## The results -/

theorem array_rows (G : Vec Ideal S4096x1024 .bf16) (hG : ∀ r l, (G (ix2 r l) : EReal) = row (args m c) r l) : (dats m 0 c).arrAt 9 cfg0.N = G := by
  refine (dats m 0 c).arrAt_eq_of_covers 9 G (by decide +kernel) fun t hf y => ?_
  obtain ⟨i, f, rfl⟩ := exists_pt t
  obtain ⟨r, l, rfl⟩ : ∃ (r : Fin 512) (l : Fin 1024), y = ix2 r l := ⟨y 0, y 1, by funext a; fin_cases a <;> rfl⟩
  obtain ⟨h0, h1⟩ := index9 i f
  blk_simp
  rw [after0_9]
  refine (rows_at m c i f r l).trans ((hG _ l).symm.trans (congrArg G ?_))
  funext a
  refine Fin.ext ?_
  fin_cases a <;> simp [h0, h1, tile]

theorem array_gates (G : Vec Ideal S4096x2816 .bf16)
    (hG : ∀ r (f : Fin 2) (q : Fin 1408), (G (ix2 r ⟨f.val * 1408 + q.val, by omega⟩) : EReal) = prod (args m c) ⟨f.val, by omega⟩ r q) :
    (dats m 0 c).arrAt 10 cfg0.N = G := by
  refine (dats m 0 c).arrAt_eq_of_covers 10 G (by decide +kernel) fun t hf y => ?_
  obtain ⟨i, f, rfl⟩ := exists_pt t
  obtain ⟨r, q, rfl⟩ : ∃ (r : Fin 512) (q : Fin 1408), y = ix2 r q := ⟨y 0, y 1, by funext a; fin_cases a <;> rfl⟩
  obtain ⟨h0, h1⟩ := index10 i f
  blk_simp
  rw [after0_10]
  refine ((gate_out _ _ r q).trans (gates_at m c i f r q)).trans ((hG _ f q).symm.trans (congrArg G ?_))
  funext a
  refine Fin.ext ?_
  fin_cases a <;> simp [h0, h1, tile]

theorem array_ups (G : Vec Ideal S4096x2816 .bf16)
    (hG : ∀ r (f : Fin 2) (q : Fin 1408), (G (ix2 r ⟨f.val * 1408 + q.val, by omega⟩) : EReal) = prod (args m c) ⟨2 + f.val, by omega⟩ r q) :
    (dats m 0 c).arrAt 11 cfg0.N = G := by
  refine (dats m 0 c).arrAt_eq_of_covers 11 G (by decide +kernel) fun t hf y => ?_
  obtain ⟨i, f, rfl⟩ := exists_pt t
  obtain ⟨r, q, rfl⟩ : ∃ (r : Fin 512) (q : Fin 1408), y = ix2 r q := ⟨y 0, y 1, by funext a; fin_cases a <;> rfl⟩
  obtain ⟨h0, h1⟩ := index11 i f
  blk_simp
  rw [after0_11]
  refine ((up_out _ _ r q).trans (ups_at m c i f r q)).trans ((hG _ f q).symm.trans (congrArg G ?_))
  funext a
  refine Fin.ext ?_
  fin_cases a <;> simp [h0, h1, tile]

theorem array_dys (G : Vec Ideal S4096x1024 .f32) (hG : ∀ r d, G (ix2 r d) = dy (args m c) r d) : (dats m 0 c).arrAt 12 cfg0.N = G := by
  refine (dats m 0 c).arrAt_eq_of_covers 12 G (by decide +kernel) fun t hf y => ?_
  have ht := (flush0_12 t).mp hf
  obtain ⟨i, f, rfl⟩ := exists_pt t
  obtain rfl : f = 1 := Fin.ext (by have : (2 * i.val + f.val) % 2 = 1 := ht; show f.val = 1; omega)
  obtain ⟨r, d, rfl⟩ : ∃ (r : Fin 512) (d : Fin 1024), y = ix2 r d := ⟨y 0, y 1, by funext a; fin_cases a <;> rfl⟩
  obtain ⟨h0, h1⟩ := index12 i 1
  blk_simp
  rw [after0_12, dyAt_val]
  refine (dys_at m c i r d).trans ((hG _ d).symm.trans (congrArg G ?_))
  funext a
  refine Fin.ext ?_
  fin_cases a <;> simp [h0, h1, tile]

theorem array_dg (G : Vec Ideal S2x1x1024 .f32) (hG : ∀ b d, G (ix3 b 0 d) = dg (args m c) b d) : (dats m 0 c).arrAt 13 cfg0.N = G := by
  refine (dats m 0 c).arrAt_eq_of_covers 13 G (by decide +kernel) fun t hf y => ?_
  have ht := (flush0_13 t).mp hf
  obtain ⟨i, f, rfl⟩ := exists_pt t
  have ht : (2 * i.val + f.val) % 8 = 7 := ht
  obtain rfl : f = 1 := Fin.ext (by show f.val = 1; omega)
  have hi : ∃ b, i = lastTile b := ⟨⟨i.val / 4, by omega⟩, Fin.ext (by
    have : (2 * i.val + 1) % 8 = 7 := ht
    show i.val = i.val / 4 * 4 + 3; omega)⟩
  obtain ⟨b, rfl⟩ := hi
  obtain ⟨d, rfl⟩ : ∃ d : Fin 1024, y = ix3 0 0 d := ⟨y 2, by funext a; fin_cases a <;> first | rfl | exact Subsingleton.elim (α := Fin 1) _ _⟩
  obtain ⟨h0, h1, h2⟩ := index13 (lastTile b) 1
  blk_simp
  rw [after0_13]
  refine (dg_last m c b d).trans ((hG b d).symm.trans (congrArg G ?_))
  have hb : (lastTile b).val / 4 = b.val := by show (b.val * 4 + 3) / 4 = b.val; omega
  funext a
  refine Fin.ext ?_
  fin_cases a <;> simp [h0, h1, h2, hb]

theorem array_loss (G : Vec Ideal S8x128 .f32) (hG : ∀ a b, G (ix2 a b) = loss (args m c)) : (dats m 0 c).arrAt 14 cfg0.N = G := by
  refine (dats m 0 c).arrAt_eq_of_covers 14 G (by decide +kernel) fun t hf y => ?_
  have ht := (flush0_14 t).mp hf
  obtain ⟨i, f, rfl⟩ := exists_pt t
  have ht : (2 * i.val + f.val) % 16 = 15 := ht
  obtain rfl : i = 7 := Fin.ext (by show i.val = 7; omega)
  obtain rfl : f = 1 := Fin.ext (by have : (2 * 7 + f.val) % 16 = 15 := ht; show f.val = 1; omega)
  obtain ⟨a, b, rfl⟩ : ∃ (a : Fin 8) (b : Fin 128), y = ix2 a b := ⟨y 0, y 1, by funext a; fin_cases a <;> rfl⟩
  obtain ⟨h0, h1⟩ := index14 7 1
  blk_simp
  rw [after0_14]
  refine (loss_last m c a b).trans ((hG a b).symm.trans (congrArg G ?_))
  funext a
  refine Fin.ext ?_
  fin_cases a <;> simp [h0, h1]

end Cert.Kernel7Ideal.Gen

end
-- ==== Proof.FfnRef.lean ====
module

public import proofs.«01_k».proof.Proof.FfnSpec
public import proofs.«01_k».proof.Proof.Gen.Reference7Ideal.Read
public import Idealize.ShloMosaic.Lib.Pointwise.Tactic

/-! # The feed-forward: the reference -/

@[expose] public section

noncomputable section

namespace Cert.Reference7Ideal.Read

open Idealize.ShloMosaic Cert.Tiles Cert.Ffn

variable (x0 : Vec Ideal S4096x1024 .f32) (x1 x2 x3 : Vec Ideal S2x1x1024 .f32) (x4 : Vec Ideal S1x1024 .f32) (x5 : Vec Ideal S4x1024x1408 .bf16)
  (x6 : Vec Ideal S2816x1024 .bf16) (x7 : Vec Ideal S4096x1024 .f32)

/-- Row `n` of a batch entry among all rows. -/
abbrev at_ (b : Fin 2) (n : Fin 2048) : Fin 4096 := ⟨b.val * 2048 + n.val, by omega⟩

theorem row_val (b : Fin 2) (n : Fin 2048) (l : Fin 1024) : val_main_v24 (F := Ideal) x0 x1 x2 x4 (ix3 b n l)
    = normed (fun y => x0 (ix2 (at_ b n) y)) (fun y => x4 (ix2 0 y)) (fun y => x1 (ix3 b 0 y)) (fun y => x2 (ix3 b 0 y)) l := by
  unfold val_main_v24 val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v0 val_main_cst val_main_cst_0
    val_main_cst_1 val_main_cst_2 normed
  pointwise

theorem prod_val (b : Fin 2) (n : Fin 2048) (k : Fin 4) (q : Fin 1408) : val_main_v25 (F := Ideal) x0 x1 x2 x4 x5 (ix3 b n ⟨k.val * 1408 + q.val, by omega⟩)
    = ∑ l : Fin 1024, val_main_v24 (F := Ideal) x0 x1 x2 x4 (ix3 b n l) * (x5 (ix3 k l q) : EReal) := by
  unfold val_main_v25 val_main_v4 val_main_v3 val_main_v2
  generalize val_main_v24 (F := Ideal) x0 x1 x2 x4 = u
  pointwise

theorem gate_val (b : Fin 2) (n : Fin 2048) (f : Fin 2) (q : Fin 1408) : val_main_v26 (F := Ideal) x0 x1 x2 x4 x5 (ix3 b n ⟨f.val * 1408 + q.val, by omega⟩)
    = val_main_v25 (F := Ideal) x0 x1 x2 x4 x5 (ix3 b n ⟨f.val * 1408 + q.val, by omega⟩) := by
  unfold val_main_v26
  generalize val_main_v25 (F := Ideal) x0 x1 x2 x4 x5 = u
  pointwise

theorem up_val (b : Fin 2) (n : Fin 2048) (f : Fin 2) (q : Fin 1408) : val_main_v27 (F := Ideal) x0 x1 x2 x4 x5 (ix3 b n ⟨f.val * 1408 + q.val, by omega⟩)
    = val_main_v25 (F := Ideal) x0 x1 x2 x4 x5 (ix3 b n ⟨(2 + f.val) * 1408 + q.val, by omega⟩) := by
  unfold val_main_v27
  generalize val_main_v25 (F := Ideal) x0 x1 x2 x4 x5 = u
  pointwise
  exact congrArg u (congrArg (ix3 b n) (Fin.ext (by show 2816 + (f.val * 1408 + q.val) = (2 + f.val) * 1408 + q.val; omega)))

theorem out_val (b : Fin 2) (n : Fin 2048) (d : Fin 1024) : val_main_v31 (F := Ideal) x0 x1 x2 x4 x5 x6 (ix3 b n d)
    = ∑ q : Fin 2816, silu (val_main_v26 (F := Ideal) x0 x1 x2 x4 x5 (ix3 b n q)) * val_main_v27 (F := Ideal) x0 x1 x2 x4 x5 (ix3 b n q) * (x6 (ix2 q d) : EReal) := by
  unfold val_main_v31 val_main_v30 val_main_v29 val_main_v28 val_main_call0_v5 val_main_call0_v4 val_main_call0_v3 val_main_call0_v2 val_main_call0_v1
    val_main_call0_v0 val_main_call0_cst val_main_call0_cst_0 silu
  generalize val_main_v26 (F := Ideal) x0 x1 x2 x4 x5 = u
  generalize val_main_v27 (F := Ideal) x0 x1 x2 x4 x5 = v
  pointwise
  simp only [zero_sub]

theorem err_val (b : Fin 2) (n : Fin 2048) (d : Fin 1024) : val_main_v35 (F := Ideal) x0 x1 x2 x3 x4 x5 x6 x7 (ix3 b n d)
    = x0 (ix2 (at_ b n) d) + x3 (ix3 b 0 d) * val_main_v31 (F := Ideal) x0 x1 x2 x4 x5 x6 (ix3 b n d) - x7 (ix2 (at_ b n) d) := by
  unfold val_main_v35 val_main_v34 val_main_v33 val_main_v32 val_main_v1 val_main_v0
  generalize val_main_v31 (F := Ideal) x0 x1 x2 x4 x5 x6 = u
  pointwise

theorem dy_val (b : Fin 2) (n : Fin 2048) (d : Fin 1024) : val_main_v49 (F := Ideal) x0 x1 x2 x3 x4 x5 x6 x7 (ix3 b n d)
    = Ideal.div (Ideal.ofBits FTy.f32 1056964608#32) (Ideal.ofBits FTy.f32 1149239296#32) * (Ideal.ofBits FTy.f32 1073741824#32 * val_main_v35 (F := Ideal) x0 x1 x2 x3 x4 x5 x6 x7 (ix3 b n d)) := by
  unfold val_main_v49 val_main_v48 val_main_v47 val_main_v46 val_main_v45 val_main_v44 val_main_v38 val_main_v37 val_main_cst_3 val_main_cst_8 val_main_cst_9 val_main_cst_10
  generalize val_main_v35 (F := Ideal) x0 x1 x2 x3 x4 x5 x6 x7 = u
  pointwise

theorem dg_val (b : Fin 2) (d : Fin 1024) : val_main_v59 (F := Ideal) x0 x1 x2 x3 x4 x5 x6 x7 (ix3 b 0 d)
    = ∑ n : Fin 2048, val_main_v49 (F := Ideal) x0 x1 x2 x3 x4 x5 x6 x7 (ix3 b n d) * val_main_v31 (F := Ideal) x0 x1 x2 x4 x5 x6 (ix3 b n d) := by
  unfold val_main_v59 val_main_v58 val_main_v57 val_main_cst_11
  generalize val_main_v49 (F := Ideal) x0 x1 x2 x3 x4 x5 x6 x7 = u
  generalize val_main_v31 (F := Ideal) x0 x1 x2 x4 x5 x6 = v
  pointwise

theorem loss_val (i : Fin 8) (j : Fin 128) : val_main_v60 (F := Ideal) x0 x1 x2 x3 x4 x5 x6 x7 (ix2 i j)
    = Ideal.ofBits FTy.f32 1056964608#32 * ∑ b : Fin 2, ∑ n : Fin 2048, Ideal.div (∑ d : Fin 1024, val_main_v35 (F := Ideal) x0 x1 x2 x3 x4 x5 x6 x7 (ix3 b n d) * val_main_v35 (F := Ideal) x0 x1 x2 x3 x4 x5 x6 x7 (ix3 b n d)) (Ideal.ofBits FTy.f32 1149239296#32) := by
  unfold val_main_v60 val_main_v43 val_main_v42 val_main_v41 val_main_v40 val_main_v39 val_main_v36 val_main_cst_4 val_main_cst_5 val_main_cst_6 val_main_cst_7
  generalize val_main_v35 (F := Ideal) x0 x1 x2 x3 x4 x5 x6 x7 = u
  pointwise

theorem rows_at (r : Fin 4096) (l : Fin 1024) : (val_main_v51 (F := Ideal) x0 x1 x2 x4 (ix2 r l) : EReal) = val_main_v24 (F := Ideal) x0 x1 x2 x4 (ix3 (entry r) ⟨r.val % 2048, by omega⟩ l) := by
  unfold val_main_v51 val_main_v50 entry
  generalize val_main_v24 (F := Ideal) x0 x1 x2 x4 = u
  pointwise

theorem gates_at (r : Fin 4096) (q : Fin 2816) : (val_main_v53 (F := Ideal) x0 x1 x2 x4 x5 (ix2 r q) : EReal) = val_main_v26 (F := Ideal) x0 x1 x2 x4 x5 (ix3 (entry r) ⟨r.val % 2048, by omega⟩ q) := by
  unfold val_main_v53 val_main_v52 entry
  generalize val_main_v26 (F := Ideal) x0 x1 x2 x4 x5 = u
  pointwise

theorem ups_at (r : Fin 4096) (q : Fin 2816) : (val_main_v55 (F := Ideal) x0 x1 x2 x4 x5 (ix2 r q) : EReal) = val_main_v27 (F := Ideal) x0 x1 x2 x4 x5 (ix3 (entry r) ⟨r.val % 2048, by omega⟩ q) := by
  unfold val_main_v55 val_main_v54 entry
  generalize val_main_v27 (F := Ideal) x0 x1 x2 x4 x5 = u
  pointwise

theorem dys_at (r : Fin 4096) (d : Fin 1024) : val_main_v56 (F := Ideal) x0 x1 x2 x3 x4 x5 x6 x7 (ix2 r d) = val_main_v49 (F := Ideal) x0 x1 x2 x3 x4 x5 x6 x7 (ix3 (entry r) ⟨r.val % 2048, by omega⟩ d) := by
  unfold val_main_v56 entry
  generalize val_main_v49 (F := Ideal) x0 x1 x2 x3 x4 x5 x6 x7 = u
  pointwise

end Cert.Reference7Ideal.Read

end
-- ==== Proof.FfnTwin.lean ====
module

public import proofs.«01_k».proof.Defs
public import proofs.«01_k».proof.Proof.Gen.Kernel7
public import proofs.«01_k».proof.Proof.Gen.Kernel7Ideal

/-! # The feed-forward's two programs are one text -/

public section

noncomputable section

namespace Cert.Proof

open Idealize.ShloMosaic Idealize.SL.Sem

variable {F : FTy → Type} [FloatOps F]

theorem body_same7 : Cert.Kernel7.cc0_ffn_fwd (F := F) = Cert.Kernel7Ideal.cc0_ffn_fwd := rfl

set_option maxHeartbeats 1000000 in
theorem defs₀_same7 : Cert.Kernel7.defs₀ (F := F) = Cert.Kernel7Ideal.defs₀ := by
  unfold Cert.Kernel7.defs₀ Cert.Kernel7Ideal.defs₀
  refine congrArg Defs.onTc (funext fun l => funext fun a => ?_)
  match l, a with
  | 0, (t, s) => exact (by rw [body_same7]; rfl)
  | ⟨_ + 1, h⟩, _ => exact absurd h (Nat.not_lt.2 (Nat.le_add_left _ _))

theorem defs_same7 : Cert.Kernel7.defs (F := F) = Cert.Kernel7Ideal.defs :=
  congrArg (Pipeline.defs (Cert.Kernel7Ideal.pcfgs (F := F))) defs₀_same7

set_option maxHeartbeats 4000000 in
theorem main_same7 : Cert.Kernel7.main (F := F) = Cert.Kernel7Ideal.main := rfl

/-- A run of the idealization's text is a run of the kernel's. -/
theorem run_same7 {s : MemSt Cert.Kernel7.nD Cert.Kernel7.τ Cert.Kernel7.sig (Elt F)} {Q : PUnit × MemSt Cert.Kernel7.nD Cert.Kernel7.τ Cert.Kernel7.sig (Elt F) → Prop}
    (h : θ_run (Cert.Kernel7Ideal.defs (F := F)) (onTc (τ := Cert.Kernel7Ideal.τ) (Cert.Kernel7Ideal.main (F := F))) s Q) :
    θ_run (Cert.Kernel7.defs (F := F)) (onTc (τ := Cert.Kernel7.τ) (Cert.Kernel7.main (F := F))) s Q := by
  rw [defs_same7, main_same7]; exact h

end Cert.Proof

end
-- ==== Proof.Ffn.lean ====
module

public import proofs.«01_k».proof.Defs
public import proofs.«01_k».proof.Proof.FfnFwd
public import proofs.«01_k».proof.Proof.FfnRef
public import proofs.«01_k».proof.Proof.FfnTwin
public import proofs.«01_k».proof.Proof.Gen.Reference7Ideal
public import proofs.«01_k».proof.Proof.Gen.Reference7Ideal.Run
public import Idealize.ShloMosaic.Adequacy
public import Idealize.ShloMosaic.Init

/-! # The feed-forward: the claims -/

@[expose] public section

noncomputable section

namespace Cert.Proof

open Idealize.ShloMosaic Idealize.SL.Sem

theorem frame_kernel7 : Cert.quiescent_Kernel7 := fun m ρ _ =>
  run_same7 (Cert.Kernel7Ideal.Gen.frame (F := Bits) m ρ)

theorem frame_kernel7Ideal : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono (fun r h => ⟨fun c => (h c).2.2.2.2.2.2, sem_eq_zero_of_no_sems (by decide) r.2⟩) (Cert.Reference7Ideal.Value.run (F := Ideal) m ρ)

section Values

open Cert.Ffn Cert.Kernel7Ideal.Gen Cert.Reference7Ideal.Read

variable (m : (ℓ : Loc Cert.Kernel7Ideal.nD Cert.Kernel7Ideal.τ Cert.Kernel7Ideal.sig) → Buf (Elt Ideal) ℓ) (c : Dev Cert.Kernel7Ideal.nD)

theorem entry_at (b : Fin 2) (n : Fin 2048) : entry (at_ b n) = b := Fin.ext (by show (b.val * 2048 + n.val) / 2048 = b.val; omega)
theorem at_entry (r : Fin 4096) : at_ (entry r) ⟨r.val % 2048, by omega⟩ = r := Fin.ext (by show r.val / 2048 * 2048 + r.val % 2048 = r.val; omega)

theorem ref_row (b : Fin 2) (n : Fin 2048) (l : Fin 1024) :
    val_main_v24 (F := Ideal) (arg0 m c) (arg1 m c) (arg2 m c) (arg4 m c) (ix3 b n l) = row (args m c) (at_ b n) l := by
  rw [row_val, row, entry_at]; rfl

theorem ref_prod (b : Fin 2) (n : Fin 2048) (k : Fin 4) (q : Fin 1408) :
    val_main_v25 (F := Ideal) (arg0 m c) (arg1 m c) (arg2 m c) (arg4 m c) (arg5 m c) (ix3 b n ⟨k.val * 1408 + q.val, by omega⟩) = prod (args m c) k (at_ b n) q :=
  (prod_val _ _ _ _ _ b n k q).trans (Finset.sum_congr rfl fun l _ => congrArg₂ (· * ·) (ref_row m c b n l) rfl)

theorem ref_gate (b : Fin 2) (n : Fin 2048) (f : Fin 2) (q : Fin 1408) :
    val_main_v26 (F := Ideal) (arg0 m c) (arg1 m c) (arg2 m c) (arg4 m c) (arg5 m c) (ix3 b n ⟨f.val * 1408 + q.val, by omega⟩)
      = prod (args m c) ⟨f.val, by omega⟩ (at_ b n) q :=
  (Cert.Reference7Ideal.Read.gate_val _ _ _ _ _ b n f q).trans (ref_prod m c b n ⟨f.val, by omega⟩ q)

theorem ref_up (b : Fin 2) (n : Fin 2048) (f : Fin 2) (q : Fin 1408) :
    val_main_v27 (F := Ideal) (arg0 m c) (arg1 m c) (arg2 m c) (arg4 m c) (arg5 m c) (ix3 b n ⟨f.val * 1408 + q.val, by omega⟩)
      = prod (args m c) ⟨2 + f.val, by omega⟩ (at_ b n) q :=
  (Cert.Reference7Ideal.Read.up_val _ _ _ _ _ b n f q).trans (ref_prod m c b n ⟨2 + f.val, by omega⟩ q)

theorem ref_out (b : Fin 2) (n : Fin 2048) (d : Fin 1024) :
    val_main_v31 (F := Ideal) (arg0 m c) (arg1 m c) (arg2 m c) (arg4 m c) (arg5 m c) (arg6 m c) (ix3 b n d) = out (args m c) (at_ b n) d := by
  rw [out_val, ← sum_tiles 2 1408 rfl, Fin.sum_univ_two, out]
  have e : ∀ f : Fin 2, (∑ q : Fin 1408, silu (val_main_v26 (F := Ideal) (arg0 m c) (arg1 m c) (arg2 m c) (arg4 m c) (arg5 m c) (ix3 b n ⟨f.val * 1408 + q.val, by omega⟩))
      * val_main_v27 (F := Ideal) (arg0 m c) (arg1 m c) (arg2 m c) (arg4 m c) (arg5 m c) (ix3 b n ⟨f.val * 1408 + q.val, by omega⟩)
      * (arg6 m c (ix2 ⟨f.val * 1408 + q.val, by omega⟩ d) : EReal)) = half (args m c) f (at_ b n) d := fun f =>
    Finset.sum_congr rfl fun q _ => by rw [ref_gate, ref_up]; rfl
  exact congrArg₂ (· + ·) (e 0) (e 1)

theorem ref_err (b : Fin 2) (n : Fin 2048) (d : Fin 1024) :
    val_main_v35 (F := Ideal) (arg0 m c) (arg1 m c) (arg2 m c) (arg3 m c) (arg4 m c) (arg5 m c) (arg6 m c) (arg7 m c) (ix3 b n d) = err (args m c) (at_ b n) d := by
  rw [Cert.Reference7Ideal.Read.err_val, ref_out, err, entry_at]; rfl

theorem ref_dy (b : Fin 2) (n : Fin 2048) (d : Fin 1024) :
    val_main_v49 (F := Ideal) (arg0 m c) (arg1 m c) (arg2 m c) (arg3 m c) (arg4 m c) (arg5 m c) (arg6 m c) (arg7 m c) (ix3 b n d) = dy (args m c) (at_ b n) d := by
  rw [Cert.Reference7Ideal.Read.dy_val, ref_err, dy, div_width, Cert.Ffn.half_val, two_val, inv_val, ← mul_assoc, ← EReal.coe_mul, ← EReal.coe_mul, mul_comm]
  norm_num

theorem ref_dg (b : Fin 2) (d : Fin 1024) :
    val_main_v59 (F := Ideal) (arg0 m c) (arg1 m c) (arg2 m c) (arg3 m c) (arg4 m c) (arg5 m c) (arg6 m c) (arg7 m c) (ix3 b 0 d) = dg (args m c) b d := by
  rw [dg_val, dg]
  exact Finset.sum_congr rfl fun n _ => congrArg₂ (· * ·) (ref_dy m c b n d) (ref_out m c b n d)

theorem ref_loss (i : Fin 8) (j : Fin 128) :
    val_main_v60 (F := Ideal) (arg0 m c) (arg1 m c) (arg2 m c) (arg3 m c) (arg4 m c) (arg5 m c) (arg6 m c) (arg7 m c) (ix2 i j) = loss (args m c) := by
  have hk : (0 : EReal) ≤ ((1 / 1024 : ℝ) : EReal) := by exact_mod_cast (by norm_num : (0 : ℝ) ≤ 1 / 1024)
  have hh : (0 : EReal) ≤ ((1 / 2 : ℝ) : EReal) := by exact_mod_cast (by norm_num : (0 : ℝ) ≤ 1 / 2)
  have hc : (0 : EReal) ≤ ((1 / 2048 : ℝ) : EReal) := by exact_mod_cast (by norm_num : (0 : ℝ) ≤ 1 / 2048)
  have e : ((1 / 2 : ℝ) : EReal) * ((1 / 1024 : ℝ) : EReal) = ((1 / 2048 : ℝ) : EReal) := by rw [← EReal.coe_mul]; norm_num
  have sq : ∀ r : Fin 4096, ∃ s : EReal, s = ∑ d : Fin 1024, err (args m c) r d * err (args m c) r d := fun r => ⟨_, rfl⟩
  choose s hs using sq
  rw [Cert.Reference7Ideal.Read.loss_val, loss]
  simp only [ref_err, div_width]
  rw [Cert.Ffn.half_val, half_inv_val]
  have l : ∀ b : Fin 2, ∀ n : Fin 2048, (∑ d : Fin 1024, err (args m c) (at_ b n) d * err (args m c) (at_ b n) d) = s ⟨b.val * 2048 + n.val, by omega⟩ := fun b n => (hs _).symm
  have l' : ∀ b : Fin 8, ∀ n : Fin 512, (∑ d : Fin 1024, err (args m c) ⟨b.val * 512 + n.val, by omega⟩ d * err (args m c) ⟨b.val * 512 + n.val, by omega⟩ d)
      = s ⟨b.val * 512 + n.val, by omega⟩ := fun b n => (hs _).symm
  simp only [l, l']
  have t : ∀ b : Fin 2, (∑ n : Fin 2048, ((1 / 1024 : ℝ) : EReal) * s ⟨b.val * 2048 + n.val, by omega⟩)
      = ((1 / 1024 : ℝ) : EReal) * ∑ n : Fin 2048, s ⟨b.val * 2048 + n.val, by omega⟩ := fun b => (mul_sum _ _ hk (EReal.coe_ne_top _) _).symm
  have t' : ∀ b : Fin 8, (∑ n : Fin 512, s ⟨b.val * 512 + n.val, by omega⟩) * ((1 / 2048 : ℝ) : EReal)
      = ((1 / 2048 : ℝ) : EReal) * ∑ n : Fin 512, s ⟨b.val * 512 + n.val, by omega⟩ := fun b => mul_comm _ _
  simp only [t, t']
  rw [← mul_sum _ _ hk (EReal.coe_ne_top _), ← mul_sum _ _ hc (EReal.coe_ne_top _), ← mul_assoc, e, sum_tiles 2 2048 rfl s, sum_tiles 8 512 rfl s]

end Values

/-- Rows, gate, up, the gradients of the output and of the gate, and the loss are the reference's. -/
theorem algebraic7 : Cert.algebraic_Kernel7Ideal_Reference7Ideal := by
  intro m ρ m' ρ' _ hagree
  refine ⟨fun c => Cert.Reference7Ideal.Read.val_main_v51 (F := Ideal) (Cert.Kernel7Ideal.Gen.arg0 m c) (Cert.Kernel7Ideal.Gen.arg1 m c)
      (Cert.Kernel7Ideal.Gen.arg2 m c) (Cert.Kernel7Ideal.Gen.arg4 m c),
    fun c => Cert.Reference7Ideal.Read.val_main_v53 (F := Ideal) (Cert.Kernel7Ideal.Gen.arg0 m c) (Cert.Kernel7Ideal.Gen.arg1 m c)
      (Cert.Kernel7Ideal.Gen.arg2 m c) (Cert.Kernel7Ideal.Gen.arg4 m c) (Cert.Kernel7Ideal.Gen.arg5 m c),
    fun c => Cert.Reference7Ideal.Read.val_main_v55 (F := Ideal) (Cert.Kernel7Ideal.Gen.arg0 m c) (Cert.Kernel7Ideal.Gen.arg1 m c)
      (Cert.Kernel7Ideal.Gen.arg2 m c) (Cert.Kernel7Ideal.Gen.arg4 m c) (Cert.Kernel7Ideal.Gen.arg5 m c),
    fun c => Cert.Reference7Ideal.Read.val_main_v56 (F := Ideal) (Cert.Kernel7Ideal.Gen.arg0 m c) (Cert.Kernel7Ideal.Gen.arg1 m c)
      (Cert.Kernel7Ideal.Gen.arg2 m c) (Cert.Kernel7Ideal.Gen.arg3 m c) (Cert.Kernel7Ideal.Gen.arg4 m c) (Cert.Kernel7Ideal.Gen.arg5 m c)
      (Cert.Kernel7Ideal.Gen.arg6 m c) (Cert.Kernel7Ideal.Gen.arg7 m c),
    fun c => Cert.Reference7Ideal.Read.val_main_v59 (F := Ideal) (Cert.Kernel7Ideal.Gen.arg0 m c) (Cert.Kernel7Ideal.Gen.arg1 m c)
      (Cert.Kernel7Ideal.Gen.arg2 m c) (Cert.Kernel7Ideal.Gen.arg3 m c) (Cert.Kernel7Ideal.Gen.arg4 m c) (Cert.Kernel7Ideal.Gen.arg5 m c)
      (Cert.Kernel7Ideal.Gen.arg6 m c) (Cert.Kernel7Ideal.Gen.arg7 m c),
    fun c => Cert.Reference7Ideal.Read.val_main_v60 (F := Ideal) (Cert.Kernel7Ideal.Gen.arg0 m c) (Cert.Kernel7Ideal.Gen.arg1 m c)
      (Cert.Kernel7Ideal.Gen.arg2 m c) (Cert.Kernel7Ideal.Gen.arg3 m c) (Cert.Kernel7Ideal.Gen.arg4 m c) (Cert.Kernel7Ideal.Gen.arg5 m c)
      (Cert.Kernel7Ideal.Gen.arg6 m c) (Cert.Kernel7Ideal.Gen.arg7 m c), ?_, ?_⟩
  · refine (θ_run Cert.Kernel7Ideal.defs _ _).mono (fun r h c => ⟨?_, ?_, ?_, ?_, ?_, ?_, h.2.1 c⟩)
      (θ_run_and (Cert.Kernel7Ideal.Gen.run_main (F := Ideal) m ρ) (Cert.Kernel7Ideal.Gen.frame (F := Ideal) m ρ))
    · refine ((h.1.1 c).1 9).trans (Cert.Kernel7Ideal.Gen.array_rows m c _ fun r l => ?_)
      exact (Cert.Reference7Ideal.Read.rows_at _ _ _ _ r l).trans ((ref_row m c _ _ l).trans (by rw [at_entry]))
    · refine ((h.1.1 c).1 10).trans (Cert.Kernel7Ideal.Gen.array_gates m c _ fun r f q => ?_)
      exact (Cert.Reference7Ideal.Read.gates_at _ _ _ _ _ r _).trans ((ref_gate m c _ _ f q).trans (by rw [at_entry]))
    · refine ((h.1.1 c).1 11).trans (Cert.Kernel7Ideal.Gen.array_ups m c _ fun r f q => ?_)
      exact (Cert.Reference7Ideal.Read.ups_at _ _ _ _ _ r _).trans ((ref_up m c _ _ f q).trans (by rw [at_entry]))
    · refine ((h.1.1 c).1 12).trans (Cert.Kernel7Ideal.Gen.array_dys m c _ fun r d => ?_)
      exact (Cert.Reference7Ideal.Read.dys_at _ _ _ _ _ _ _ _ r d).trans ((ref_dy m c _ _ d).trans (by rw [at_entry]))
    · exact ((h.1.1 c).1 13).trans (Cert.Kernel7Ideal.Gen.array_dg m c _ fun b d => ref_dg m c b d)
    · exact ((h.1.1 c).1 14).trans (Cert.Kernel7Ideal.Gen.array_loss m c _ fun a b => ref_loss m c a b)
  · refine (θ_run Cert.Reference7Ideal.defs _ _).mono (fun r h c => ?_) (Cert.Reference7Ideal.Value.run (F := Ideal) m' ρ')
    obtain ⟨e0, e1, e2, e3, e4, e5, e6, e7⟩ := hagree c
    refine ⟨(h c).1.trans ((Cert.Reference7Ideal.Read.val_main_v51_eq (F := Ideal) _ _ _ _).trans ?_),
      (h c).2.1.trans ((Cert.Reference7Ideal.Read.val_main_v53_eq (F := Ideal) _ _ _ _ _).trans ?_),
      (h c).2.2.1.trans ((Cert.Reference7Ideal.Read.val_main_v55_eq (F := Ideal) _ _ _ _ _).trans ?_),
      (h c).2.2.2.1.trans ((Cert.Reference7Ideal.Read.val_main_v56_eq (F := Ideal) _ _).trans ?_),
      (h c).2.2.2.2.1.trans ((Cert.Reference7Ideal.Read.val_main_v59_eq (F := Ideal) _ _).trans ?_),
      (h c).2.2.2.2.2.1.trans ((Cert.Reference7Ideal.Read.val_main_v60_eq (F := Ideal) _ _).trans ?_), (h c).2.2.2.2.2.2⟩
    · rw [e0, e1, e2, e4]
    · rw [e0, e1, e2, e4, e5]
    · rw [e0, e1, e2, e4, e5]
    · rw [e0, e1, e2, e3, e4, e5, e6, e7]
    · rw [e0, e1, e2, e3, e4, e5, e6, e7]
    · rw [e0, e1, e2, e3, e4, e5, e6, e7]

end Cert.Proof

end
-- ==== Proof.lean ====
/- The proof of the claims: the frames of the kernel, of its idealization and of the reference, and that the idealization and the reference
end with equal gradients of queries, keys and values; and the same of the products that give the gradients of the weights and of the in-projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Sweep
public import proofs.«01_k».proof.Proof.Twin
public import proofs.«01_k».proof.Proof.Arrays
public import proofs.«01_k».proof.Proof.RefValue
public import proofs.«01_k».proof.Proof.Finite
public import proofs.«01_k».proof.Proof.Products
public import proofs.«01_k».proof.Proof.Forward
public import proofs.«01_k».proof.Proof.Ffn
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read

@[expose] public section

noncomputable section

namespace Cert.Proof

open Idealize.ShloMosaic Idealize.SL.Sem Cert.KernelIdeal.Gen Cert.ReferenceIdeal.Read

/-- The kernel's frame: its program is the idealization's, text for text. -/
theorem frame_kernel : Cert.quiescent_Kernel := fun m ρ _ =>
  run_same (Cert.KernelIdeal.Gen.frame (F := Bits) m ρ)

theorem frame_kernelIdeal : Cert.quiescent_KernelIdeal := fun m ρ _ => Cert.KernelIdeal.Gen.frame (F := Ideal) m ρ

/-- The reference's frame; it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The gradients of queries, keys and values are the reference's. -/
theorem algebraic : Cert.algebraic_KernelIdeal_ReferenceIdeal_pre_finite (hPre_finite := Cert.KernelIdeal.Gen.finiteFacts) := by
  intro m ρ m' ρ' hpre hagree
  have hp := fun c => Cert.KernelIdeal.Gen.proper_of_finite m c hpre
  refine ⟨fun c => val_main_v172 (F := Ideal) (arg0 m c) (arg1 m c) (arg2 m c) (arg3 m c) (arg4 m c),
    fun c => val_main_v171 (F := Ideal) (arg0 m c) (arg1 m c) (arg2 m c) (arg3 m c) (arg4 m c),
    fun c => val_main_v170 (F := Ideal) (arg0 m c) (arg1 m c) (arg3 m c) (arg4 m c), ?_, ?_⟩
  · refine (θ_run Cert.KernelIdeal.defs _ _).mono (fun r h c => ?_) (Cert.KernelIdeal.Gen.run_values (F := Ideal) m ρ)
    obtain ⟨⟨h0, h1, h2⟩, ha⟩ := h.1 c
    exact ⟨h0.trans (array_dq m c (isBias m c) (hp c) _ fun b n hd d => v172_at (arg0 m c) (arg1 m c) (arg2 m c) (arg3 m c) (arg4 m c) (hp c) b n hd d),
      h1.trans (array_dk m c (isBias m c) (hp c) _ fun b κ hd d => v171_at (arg0 m c) (arg1 m c) (arg2 m c) (arg3 m c) (arg4 m c) (hp c) b κ hd d),
      h2.trans (array_dv m c (isBias m c) (hp c) _ fun b κ hd d => v170_at (arg0 m c) (arg1 m c) (arg2 m c) (arg3 m c) (arg4 m c) b κ hd d), ha⟩
  · refine (θ_run Cert.ReferenceIdeal.defs _ _).mono (fun r h c => ?_) (Cert.ReferenceIdeal.Value.run (F := Ideal) m' ρ')
    obtain ⟨e0, e1, e2, e3, e4⟩ := hagree c
    obtain ⟨h0, h1, h2, ha⟩ := h c
    refine ⟨h0.trans ((val_main_v172_eq (F := Ideal) (StableHlo.launchContents m' c)).trans ?_), h1.trans ((val_main_v171_eq (F := Ideal) (StableHlo.launchContents m' c)).trans ?_),
      h2.trans ((val_main_v170_eq (F := Ideal) (StableHlo.launchContents m' c)).trans ?_), ha⟩ <;>
    simp only [StableHlo.launchContents_devRef, e0, e1, e2, e3, e4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.KernelIdeal.Gen.finiteFacts,
  frame_kernel, frame_kernelIdeal, fun m ρ _ => Cert.KernelIdeal.Gen.frame (F := Ideal) m ρ, frame_reference, fun m ρ _ => frame_reference m ρ trivial,
  fun m ρ _ => Cert.Kernel2.Gen.frame (F := Bits) m ρ, fun m ρ _ => Cert.Kernel2Ideal.Gen.frame (F := Ideal) m ρ, frame_reference2,
  fun m ρ _ => Cert.Kernel3.Gen.frame (F := Bits) m ρ, fun m ρ _ => Cert.Kernel3Ideal.Gen.frame (F := Ideal) m ρ, frame_reference3,
  fun m ρ _ => Cert.Kernel4.Gen.frame (F := Bits) m ρ, fun m ρ _ => Cert.Kernel4Ideal.Gen.frame (F := Ideal) m ρ, frame_reference4,
  fun m ρ _ => Cert.Kernel5.Gen.frame (F := Bits) m ρ, fun m ρ _ => Cert.Kernel5Ideal.Gen.frame (F := Ideal) m ρ, frame_reference5,
  fun m ρ _ => Cert.Kernel6.Gen.frame (F := Bits) m ρ, fun m ρ _ => Cert.Kernel6Ideal.Gen.frame (F := Ideal) m ρ, frame_reference6,
  frame_kernel7, frame_kernel7Ideal, frame_reference7,
  trivial, algebraic, trivial, algebraic2, trivial, algebraic3, trivial, algebraic4, trivial, algebraic5, trivial, algebraic6, trivial, algebraic7⟩

end Cert.Proof

end
